-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 [hPre_some_group : Cert.Pre_some_group.Facts] (m : (ℓ : Loc Cert.Kernel2.nD Cert.Kernel2.τ Cert.Kernel2.sig) → Buf (Elt Bits) ℓ) : Prop :=
  ∀ c : Dev Cert.Kernel2.nD,
    (Cert.Pre_some_group.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4))) = (fun _ => 1#1)

def Pre_Kernel2Ideal [hPre_some_group : Cert.Pre_some_group.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_some_group.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal [hPre_some_group : Cert.Pre_some_group.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_some_group.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] [hPre_some_group : Cert.Pre_some_group.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] [hPre_some_group : Cert.Pre_some_group.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] [hPre_some_group : Cert.Pre_some_group.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_v101) = v1 c
          ∧ r.2.mem ((c.tc : Thread Cert.ReferenceIdeal.nD Cert.ReferenceIdeal.τ).loc Cert.ReferenceIdeal.main_v104) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] [hPre_some_group : Cert.Pre_some_group.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v26)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v26) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v41) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_some_group : Cert.Pre_some_group.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2) (hPre_some_group := hPre_some_group)
    ∧ quiescent_Kernel2Ideal (hKernel2Ideal := hKernel2Ideal) (hPre_some_group := hPre_some_group)
    ∧ quiescent_Reference2Ideal (hReference2Ideal := hReference2Ideal) (hPre_some_group := hPre_some_group)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal) (hPre_some_group := hPre_some_group)
-- ==== Pre_some_group.lean ====
abbrev S1x128 : Shape := ⟨2, ![1, 128]⟩
abbrev S41984x2048 : Shape := ⟨2, ![41984, 2048]⟩
abbrev S1x32x2048x512 : Shape := ⟨4, ![1, 32, 2048, 512]⟩
abbrev S1x32x512x2048 : Shape := ⟨4, ![1, 32, 512, 2048]⟩
abbrev S1x32 : Shape := ⟨2, ![1, 32]⟩
abbrev S32 : Shape := ⟨1, ![32]⟩
abbrev S_ : Shape := ⟨0, ![]⟩
abbrev S1 : Shape := ⟨1, ![1]⟩

class Facts : Prop where
  slices_S1x128_S1x32_0_0 : S1x128.Slices ![0, 0] S1x32
  shapeCasts_S1x32_S32 : S1x32.ShapeCasts S32
  bcast_S_S32 : S_.BroadcastsInDim S32 (![] : Fin 0 → Fin S32.rank)
  bcast_S_S_ : S_.BroadcastsInDim S_ (![] : Fin 0 → Fin S_.rank)
  reduceWindows_S32_S32_w32s1p31_0 : S32.ReduceWindows (![32] : Fin 1 → Nat) ![1] ![31] ![0] S32
  h_S_ : 0 < S_.numel
  slices_S32_S1_31 : S32.Slices ![31] S1
  shapeCasts_S1_S_ : S1.ShapeCasts S_

variable [Facts]

def fn_where {F : FTy → Type} [FloatOps F] (arg0 : IVec S32 1) (arg1 : IVec S32 32) (arg2 : IVec S32 32) : IVec S32 32 :=
  let v0 : IVec S32 32 := select arg0 arg1 arg2
  v0

def fn_floor_divide {F : FTy → Type} [FloatOps F] (arg0 : IVec S32 32) (arg1 : IVec S_ 32) : IVec S32 32 :=
  let v0 : IVec S_ 32 := id arg1
  let v1 : IVec S32 32 := broadcastInDim S32 ![] bcast_S_S32 v0
  let v2 : IVec S32 32 := Host.divsi arg0 v1
  let v3 : IVec S32 32 := signi arg0
  let v4 : IVec S_ 32 := signi v0
  let v5 : IVec S32 32 := broadcastInDim S32 ![] bcast_S_S32 v4
  let v6 : IVec S32 1 := cmpi .ne v3 v5
  let v7 : IVec S32 32 := broadcastInDim S32 ![] bcast_S_S32 v0
  let v8 : IVec S32 32 := Host.remsi arg0 v7
  let c : IVec S_ 32 := constantI S_ 32 0#32
  let v9 : IVec S32 32 := broadcastInDim S32 ![] bcast_S_S32 c
  let v10 : IVec S32 1 := cmpi .ne v8 v9
  let v11 : IVec S32 1 := andi v6 v10
  let c_0 : IVec S_ 32 := constantI S_ 32 1#32
  let v12 : IVec S32 32 := broadcastInDim S32 ![] bcast_S_S32 c_0
  let v13 : IVec S32 32 := subi v2 v12
  let v14 : IVec S32 32 := fn_where (F := F) v11 v13 v2
  v14

def fn_cumsum_0 {F : FTy → Type} [FloatOps F] (arg0 : IVec S32 32) : IVec S32 32 :=
  let c : IVec S_ 32 := constantI S_ 32 0#32
  let v0 : IVec S_ 32 := broadcastInDim S_ ![] bcast_S_S_ c
  let v1 : IVec S32 32 := (fun x v => Host.reduceWindow IntOp.addi ![32] ![1] ![31] ![0] x v reduceWindows_S32_S32_w32s1p31_0 h_S_) arg0 v0
  v1

def fn_cumsum {F : FTy → Type} [FloatOps F] (arg0 : IVec S32 32) : IVec S32 32 :=
  let v0 : IVec S32 32 := fn_cumsum_0 (F := F) arg0
  v0

def fn {F : FTy → Type} [FloatOps F] (main_arg0 : FVec F S1x128 .f32) (main_arg1 : FVec F S41984x2048 .f32) (main_arg2 : FVec F S1x32x2048x512 .f32) (main_arg3 : FVec F S1x32x2048x512 .f32) (main_arg4 : FVec F S1x32x512x2048 .f32) : IVec S_ 1 :=
  let main_v0 : FVec F S1x32 .f32 := (extractStridedSlice S1x32 ![0, 0] · slices_S1x128_S1x32_0_0) main_arg0
  let main_v1 : FVec F S32 .f32 := shapeCast S32 main_v0 shapeCasts_S1x32_S32
  let main_v2 : IVec S32 32 := fptosi 32 main_v1
  let main_c : IVec S_ 32 := constantI S_ 32 255#32
  let main_v3 : IVec S32 32 := broadcastInDim S32 ![] bcast_S_S32 main_c
  let main_v4 : IVec S32 32 := addi main_v2 main_v3
  let main_c_0 : IVec S_ 32 := constantI S_ 32 256#32
  let main_v5 : IVec S32 32 := fn_floor_divide (F := F) main_v4 main_c_0
  let main_v6 : IVec S32 32 := fn_cumsum (F := F) main_v5
  let main_v7 : IVec S1 32 := (extractStridedSlice S1 ![31] · slices_S32_S1_31) main_v6
  let main_v8 : IVec S_ 32 := shapeCast S_ main_v7 shapeCasts_S1_S_
  let main_c_1 : IVec S_ 32 := constantI S_ 32 1#32
  let main_v9 : IVec S_ 1 := cmpi .sge main_v8 main_c_1
  main_v9
-- ==== Kernel.lean ====
abbrev S16384x8192 : Shape := ⟨2, ![16384, 8192]⟩
abbrev S4x2048 : Shape := ⟨2, ![4, 2048]⟩
abbrev S2048 : Shape := ⟨1, ![2048]⟩
abbrev S16x128x128 : Shape := ⟨3, ![16, 128, 128]⟩
abbrev S16x128 : Shape := ⟨2, ![16, 128]⟩
abbrev S16x128x256 : Shape := ⟨3, ![16, 128, 256]⟩
abbrev S16x256 : Shape := ⟨2, ![16, 256]⟩
abbrev S16x1x256 : Shape := ⟨3, ![16, 1, 256]⟩
abbrev S1x2048 : Shape := ⟨2, ![1, 2048]⟩
abbrev S16384x2048 : Shape := ⟨2, ![16384, 2048]⟩
abbrev S8x3x2048 : Shape := ⟨3, ![8, 3, 2048]⟩
abbrev S8x1x2048 : Shape := ⟨3, ![8, 1, 2048]⟩
abbrev S1024x2048 : Shape := ⟨2, ![1024, 2048]⟩
abbrev S1x3x2048 : Shape := ⟨3, ![1, 3, 2048]⟩
abbrev S1x1x2048 : Shape := ⟨3, ![1, 1, 2048]⟩
abbrev S8x2048 : Shape := ⟨2, ![8, 2048]⟩
abbrev S1032x2048 : Shape := ⟨2, ![1032, 2048]⟩
abbrev S1024x128 : Shape := ⟨2, ![1024, 128]⟩
abbrev S1x128x256 : Shape := ⟨3, ![1, 128, 256]⟩
abbrev S128x256 : Shape := ⟨2, ![128, 256]⟩
abbrev S1024x256 : Shape := ⟨2, ![1024, 256]⟩
abbrev S1x1x256 : Shape := ⟨3, ![1, 1, 256]⟩
abbrev S1x256 : Shape := ⟨2, ![1, 256]⟩
abbrev S1x128 : Shape := ⟨2, ![1, 128]⟩
abbrev S3x2048 : Shape := ⟨2, ![3, 2048]⟩

abbrev nBuf : Space → Nat
  | .hbm => 17
  | .vmem => 19
  | .smem => 0
  | _ => 0

abbrev bufTy : (tb : Table) → Fin (tcTables nBuf tb) → BufTy
  | .hbm, ⟨0, _⟩ => ⟨S16384x8192, .bf16⟩
  | .hbm, ⟨1, _⟩ => ⟨S4x2048, .f32⟩
  | .hbm, ⟨2, _⟩ => ⟨S2048, .f32⟩
  | .hbm, ⟨3, _⟩ => ⟨S16x128x128, .f32⟩
  | .hbm, ⟨4, _⟩ => ⟨S16x128, .f32⟩
  | .hbm, ⟨5, _⟩ => ⟨S16x128x128, .f32⟩
  | .hbm, ⟨6, _⟩ => ⟨S16x128, .f32⟩
  | .hbm, ⟨7, _⟩ => ⟨S2048, .f32⟩
  | .hbm, ⟨8, _⟩ => ⟨S16x128x256, .f32⟩
  | .hbm, ⟨9, _⟩ => ⟨S16x128x256, .bf16⟩
  | .hbm, ⟨10, _⟩ => ⟨S16x256, .f32⟩
  | .hbm, ⟨11, _⟩ => ⟨S16x1x256, .f32⟩
  | .hbm, ⟨12, _⟩ => ⟨S1x2048, .f32⟩
  | .hbm, ⟨13, _⟩ => ⟨S1x2048, .f32⟩
  | .hbm, ⟨14, _⟩ => ⟨S16384x2048, .bf16⟩
  | .hbm, ⟨15, _⟩ => ⟨S8x3x2048, .f32⟩
  | .hbm, ⟨16, _⟩ => ⟨S8x1x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S4x2048, .f32⟩
  | .local _ .vmem, ⟨5, _⟩ => ⟨S1x2048, .f32⟩
  | .local _ .vmem, ⟨6, _⟩ => ⟨S16x128x256, .bf16⟩
  | .local _ .vmem, ⟨7, _⟩ => ⟨S16x1x256, .f32⟩
  | .local _ .vmem, ⟨8, _⟩ => ⟨S1x2048, .f32⟩
  | .local _ .vmem, ⟨9, _⟩ => ⟨S1024x2048, .bf16⟩
  | .local _ .vmem, ⟨10, _⟩ => ⟨S1024x2048, .bf16⟩
  | .local _ .vmem, ⟨11, _⟩ => ⟨S1x3x2048, .f32⟩
  | .local _ .vmem, ⟨12, _⟩ => ⟨S1x3x2048, .f32⟩
  | .local _ .vmem, ⟨13, _⟩ => ⟨S1x1x2048, .f32⟩
  | .local _ .vmem, ⟨14, _⟩ => ⟨S1x1x2048, .f32⟩
  | .local _ .vmem, ⟨15, _⟩ => ⟨S8x2048, .f32⟩
  | .local _ .vmem, ⟨16, _⟩ => ⟨S8x2048, .f32⟩
  | .local _ .vmem, ⟨17, _⟩ => ⟨S1024x2048, .f32⟩
  | .local _ .vmem, ⟨18, _⟩ => ⟨S1024x2048, .f32⟩
  | _, _ => ⟨S16384x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨3, ![8, 1, 2], ![false, false, false]⟩

@[reducible] def k0_t1_loop : Scf.Loop 32 :=
  let c0_i32_203 : BitVec 32 := 0#32
  let c128_i32 : BitVec 32 := 128#32
  let v535 : BitVec 32 := Scalar.addi c0_i32_203 c128_i32
  let c1_i32 : BitVec 32 := 1#32
  ⟨c0_i32_203, v535, c1_i32⟩
def k0_mult1 (k0_t1 : Fin k0_t1_loop.trips) : BitVec 32 :=
  let c0_i32_203 : BitVec 32 := 0#32
  let c1_i32 : BitVec 32 := 1#32
  let arg17 : BitVec 32 := Scf.iv c0_i32_203 c1_i32 k0_t1
  let c8_i32 : BitVec 32 := 8#32
  let v562 : BitVec 32 := Scalar.muli arg17 c8_i32
  v562
def k0_off1 (k0_t1 : Fin k0_t1_loop.trips) : Fin 2 → Nat :=
  let c0_i32_203 : BitVec 32 := 0#32
  let c1_i32 : BitVec 32 := 1#32
  let arg17 : BitVec 32 := Scf.iv c0_i32_203 c1_i32 k0_t1
  let c8_i32 : BitVec 32 := 8#32
  let v562 : BitVec 32 := Scalar.muli arg17 c8_i32
  let v563 : BitVec 32 := v562
  let v564 : Index := Scalar.indexCast v563
  let c0_219 : Index := 0#32
  ![v564.toNat, 0]
def k0_cond2 (i : grid0.Coords) : BitVec 1 :=
  let arg2 : BitVec 32 := BitVec.ofNat 32 (i 2).val
  let c1_i32_217 : BitVec 32 := 1#32
  let v559 : BitVec 1 := Scalar.cmpi .eq arg2 c1_i32_217
  let v560 : BitVec 32 := Scalar.extui v559
  let c0_i32_218 : BitVec 32 := 0#32
  let v561 : BitVec 1 := Scalar.cmpi .ne v560 c0_i32_218
  v561

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c1_i32 : BitVec 32 := 1#32
  let v2 : BitVec 32 := Scalar.addi c1_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S16x128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 1 → Memref sig .tc .vmem S16x1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 2 → Memref sig .tc .vmem S1024x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x3x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== ReferenceIdeal.lean ====
abbrev S16384x8192 : Shape := ⟨2, ![16384, 8192]⟩
abbrev S4x2048 : Shape := ⟨2, ![4, 2048]⟩
abbrev S2048 : Shape := ⟨1, ![2048]⟩
abbrev S16x128x128 : Shape := ⟨3, ![16, 128, 128]⟩
abbrev S16x128 : Shape := ⟨2, ![16, 128]⟩
abbrev S16384x2048 : Shape := ⟨2, ![16384, 2048]⟩
abbrev S8x2048x2048 : Shape := ⟨3, ![8, 2048, 2048]⟩
abbrev S_ : Shape := ⟨0, ![]⟩
abbrev S8x3x2048 : Shape := ⟨3, ![8, 3, 2048]⟩
abbrev S8x2051x2048 : Shape := ⟨3, ![8, 2051, 2048]⟩
abbrev S1x2048 : Shape := ⟨2, ![1, 2048]⟩
abbrev S1x1x2048 : Shape := ⟨3, ![1, 1, 2048]⟩
abbrev S8x2048x16x128 : Shape := ⟨4, ![8, 2048, 16, 128]⟩
abbrev S16x128x8x2048 : Shape := ⟨4, ![16, 128, 8, 2048]⟩
abbrev S1x1x16x128 : Shape := ⟨4, ![1, 1, 16, 128]⟩
abbrev S8x2048 : Shape := ⟨2, ![8, 2048]⟩
abbrev S2048x8x2048 : Shape := ⟨3, ![2048, 8, 2048]⟩
abbrev S1x8x2048 : Shape := ⟨3, ![1, 8, 2048]⟩
abbrev S8x1x2048 : Shape := ⟨3, ![8, 1, 2048]⟩

abbrev nBuf : Space → Nat
  | .hbm => 162
  | .vmem => 0
  | .smem => 0
  | _ => 0

abbrev hbmTy0_0 (i : Nat) : BufTy := match i % 128 with
  | 0 => ⟨S16384x8192, .bf16⟩
  | 1 => ⟨S4x2048, .f32⟩
  | 2 => ⟨S2048, .f32⟩
  | 3 => ⟨S16x128x128, .f32⟩
  | 4 => ⟨S16x128, .f32⟩
  | 5 => ⟨S16x128x128, .f32⟩
  | 6 => ⟨S16x128, .f32⟩
  | 7 => ⟨S2048, .f32⟩
  | 8 => ⟨S16384x8192, .f32⟩
  | 9 => ⟨S16384x2048, .f32⟩
  | 10 => ⟨S8x2048x2048, .f32⟩
  | 11 => ⟨S_, .f32⟩
  | 12 => ⟨S8x3x2048, .f32⟩
  | 13 => ⟨S8x2051x2048, .f32⟩
  | 14 => ⟨S8x2048x2048, .f32⟩
  | 15 => ⟨S1x2048, .f32⟩
  | 16 => ⟨S2048, .f32⟩
  | 17 => ⟨S1x1x2048, .f32⟩
  | 18 => ⟨S8x2048x2048, .f32⟩
  | 19 => ⟨S8x2048x2048, .f32⟩
  | 20 => ⟨S1x1x2048, .f32⟩
  | 21 => ⟨S8x2048x2048, .f32⟩
  | 22 => ⟨S8x2048x2048, .f32⟩
  | 23 => ⟨S8x2048x2048, .f32⟩
  | 24 => ⟨S1x2048, .f32⟩
  | 25 => ⟨S2048, .f32⟩
  | 26 => ⟨S1x1x2048, .f32⟩
  | 27 => ⟨S8x2048x2048, .f32⟩
  | 28 => ⟨S8x2048x2048, .f32⟩
  | 29 => ⟨S8x2048x2048, .f32⟩
  | 30 => ⟨S8x2048x2048, .f32⟩
  | 31 => ⟨S1x2048, .f32⟩
  | 32 => ⟨S2048, .f32⟩
  | 33 => ⟨S1x1x2048, .f32⟩
  | 34 => ⟨S8x2048x2048, .f32⟩
  | 35 => ⟨S8x2048x2048, .f32⟩
  | 36 => ⟨S8x2048x2048, .f32⟩
  | 37 => ⟨S8x2048x2048, .f32⟩
  | 38 => ⟨S1x2048, .f32⟩
  | 39 => ⟨S2048, .f32⟩
  | 40 => ⟨S1x1x2048, .f32⟩
  | 41 => ⟨S8x2048x2048, .f32⟩
  | 42 => ⟨S8x2048x2048, .f32⟩
  | 43 => ⟨S8x2048x2048, .f32⟩
  | 44 => ⟨S8x2048x16x128, .f32⟩
  | 45 => ⟨S16x128x8x2048, .f32⟩
  | 46 => ⟨S8x2048x16x128, .f32⟩
  | 47 => ⟨S1x1x16x128, .f32⟩
  | 48 => ⟨S8x2048x16x128, .f32⟩
  | 49 => ⟨S8x2048x16x128, .f32⟩
  | 50 => ⟨S8x2048x16x128, .f32⟩
  | 51 => ⟨S8x2048x16x128, .f32⟩
  | 52 => ⟨S_, .f32⟩
  | 53 => ⟨S8x2048x16x128, .f32⟩
  | 54 => ⟨S8x2048x16x128, .f32⟩
  | 55 => ⟨S_, .f32⟩
  | 56 => ⟨S8x2048x16x128, .f32⟩
  | 57 => ⟨S8x2048x16x128, .f32⟩
  | 58 => ⟨S8x2048x2048, .f32⟩
  | 59 => ⟨S16x128x8x2048, .f32⟩
  | 60 => ⟨S8x2048x16x128, .f32⟩
  | 61 => ⟨S1x1x16x128, .f32⟩
  | 62 => ⟨S8x2048x16x128, .f32⟩
  | 63 => ⟨S8x2048x16x128, .f32⟩
  | 64 => ⟨S8x2048x16x128, .f32⟩
  | 65 => ⟨S8x2048x16x128, .f32⟩
  | 66 => ⟨S_, .f32⟩
  | 67 => ⟨S8x2048x16x128, .f32⟩
  | 68 => ⟨S8x2048x16x128, .f32⟩
  | 69 => ⟨S_, .f32⟩
  | 70 => ⟨S8x2048x16x128, .f32⟩
  | 71 => ⟨S8x2048x16x128, .f32⟩
  | 72 => ⟨S8x2048x2048, .f32⟩
  | 73 => ⟨S_, .f32⟩
  | 74 => ⟨S8x2048x2048, .f32⟩
  | 75 => ⟨S8x2048x2048, .f32⟩
  | 76 => ⟨S2048, .f32⟩
  | 77 => ⟨S_, .f32⟩
  | 78 => ⟨S2048, .f32⟩
  | 79 => ⟨S2048, .f32⟩
  | 80 => ⟨S2048, .f32⟩
  | 81 => ⟨S2048, .f32⟩
  | 82 => ⟨S2048, .i1⟩
  | 83 => ⟨S2048, .f32⟩
  | 84 => ⟨S2048, .f32⟩
  | 85 => ⟨S2048, .f32⟩
  | 86 => ⟨S2048, .f32⟩
  | 87 => ⟨S2048, .f32⟩
  | 88 => ⟨S2048, .f32⟩
  | 89 => ⟨S2048, .f32⟩
  | 90 => ⟨S2048, .f32⟩
  | 91 => ⟨S1x1x2048, .f32⟩
  | 92 => ⟨S8x2048x2048, .f32⟩
  | 93 => ⟨S8x2048x2048, .f32⟩
  | 94 => ⟨S8x2048x2048, .f32⟩
  | 95 => ⟨S_, .f32⟩
  | 96 => ⟨S8x2048x2048, .f32⟩
  | 97 => ⟨S8x2048x2048, .f32⟩
  | 98 => ⟨S8x2048x2048, .f32⟩
  | 99 => ⟨S8x2048x2048, .f32⟩
  | 100 => ⟨S8x2048x2048, .f32⟩
  | 101 => ⟨S8x2048x2048, .f32⟩
  | 102 => ⟨S8x2048x2048, .f32⟩
  | 103 => ⟨S_, .f32⟩
  | 104 => ⟨S8x2048, .f32⟩
  | 105 => ⟨S2048x8x2048, .f32⟩
  | 106 => ⟨S2048x8x2048, .f32⟩
  | 107 => ⟨S_, .f32⟩
  | 108 => ⟨S2048x8x2048, .f32⟩
  | 109 => ⟨S_, .i32⟩
  | 110 => ⟨S2048x8x2048, .f32⟩
  | 111 => ⟨S2048x8x2048, .f32⟩
  | 112 => ⟨S_, .i32⟩
  | 113 => ⟨S8x2048, .f32⟩
  | 114 => ⟨S2048x8x2048, .f32⟩
  | 115 => ⟨S_, .i32⟩
  | 116 => ⟨S_, .i1⟩
  | 117 => ⟨S_, .i32⟩
  | 118 => ⟨S_, .i32⟩
  | 119 => ⟨S1x8x2048, .f32⟩
  | 120 => ⟨S8x2048, .f32⟩
  | 121 => ⟨S_, .i32⟩
  | 122 => ⟨S_, .i32⟩
  | 123 => ⟨S1x8x2048, .f32⟩
  | 124 => ⟨S8x2048, .f32⟩
  | 125 => ⟨S8x2048, .f32⟩
  | 126 => ⟨S8x2048, .f32⟩
  | 127 => ⟨S1x8x2048, .f32⟩
  | _ => ⟨S16384x8192, .bf16⟩

abbrev hbmTy0_1 (i : Nat) : BufTy := match i % 128 with
  | 0 => ⟨S_, .i32⟩
  | 1 => ⟨S_, .i32⟩
  | 2 => ⟨S2048x8x2048, .f32⟩
  | 3 => ⟨S_, .i32⟩
  | 4 => ⟨S_, .i32⟩
  | 5 => ⟨S16384x8192, .f32⟩
  | 6 => ⟨S16384x2048, .f32⟩
  | 7 => ⟨S8x2048x2048, .f32⟩
  | 8 => ⟨S8x2048x2048, .f32⟩
  | 9 => ⟨S8x2048x2048, .f32⟩
  | 10 => ⟨S8x2048x2048, .f32⟩
  | 11 => ⟨S_, .f32⟩
  | 12 => ⟨S8x2048x2048, .f32⟩
  | 13 => ⟨S8x2048x2048, .f32⟩
  | 14 => ⟨S8x2048x2048, .f32⟩
  | 15 => ⟨S_, .f32⟩
  | 16 => ⟨S8x2048x2048, .f32⟩
  | 17 => ⟨S8x2048x2048, .f32⟩
  | 18 => ⟨S8x2048x2048, .f32⟩
  | 19 => ⟨S_, .f32⟩
  | 20 => ⟨S8x2048x2048, .f32⟩
  | 21 => ⟨S8x2048x2048, .f32⟩
  | 22 => ⟨S_, .f32⟩
  | 23 => ⟨S8x2048x2048, .f32⟩
  | 24 => ⟨S8x2048x2048, .f32⟩
  | 25 => ⟨S8x2048x2048, .f32⟩
  | 26 => ⟨S8x2048x2048, .f32⟩
  | 27 => ⟨S16384x8192, .f32⟩
  | 28 => ⟨S16384x2048, .f32⟩
  | 29 => ⟨S8x2048x2048, .f32⟩
  | 30 => ⟨S8x3x2048, .f32⟩
  | 31 => ⟨S16384x2048, .f32⟩
  | 32 => ⟨S16384x2048, .bf16⟩
  | 33 => ⟨S8x1x2048, .f32⟩
  | _ => ⟨S16384x8192, .bf16⟩

abbrev hbmTy (i : Nat) : BufTy := match i / 128 with
  | 0 => hbmTy0_0 i
  | 1 => hbmTy0_1 i
  | _ => ⟨S16384x8192, .bf16⟩

abbrev bufTy : (tb : Table) → Fin (tcTables nBuf tb) → BufTy
  | .hbm, ⟨i, _⟩ => hbmTy i
  | _, _ => ⟨S16384x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_0 : Ref sig .tc := ⟨.hbm, 52, rfl⟩
abbrev main_v43 : Ref sig .tc := ⟨.hbm, 53, rfl⟩
abbrev main_v44 : Ref sig .tc := ⟨.hbm, 54, rfl⟩
abbrev main_cst_1 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_cst_2 : Ref sig .tc := ⟨.hbm, 66, rfl⟩
abbrev main_v55 : Ref sig .tc := ⟨.hbm, 67, rfl⟩
abbrev main_v56 : Ref sig .tc := ⟨.hbm, 68, rfl⟩
abbrev main_cst_3 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_4 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_call0_cst : Ref sig .tc := ⟨.hbm, 77, rfl⟩
abbrev main_call0_v0 : Ref sig .tc := ⟨.hbm, 78, rfl⟩
abbrev main_call0_v1 : Ref sig .tc := ⟨.hbm, 79, rfl⟩
abbrev main_call0_v2 : Ref sig .tc := ⟨.hbm, 80, rfl⟩
abbrev main_call0_v3 : Ref sig .tc := ⟨.hbm, 81, rfl⟩
abbrev main_call0_v4 : Ref sig .tc := ⟨.hbm, 82, rfl⟩
abbrev main_call0_v5 : Ref sig .tc := ⟨.hbm, 83, rfl⟩
abbrev main_call0_v6 : Ref sig .tc := ⟨.hbm, 84, rfl⟩
abbrev main_call0_v7 : Ref sig .tc := ⟨.hbm, 85, rfl⟩
abbrev main_call0_v8 : Ref sig .tc := ⟨.hbm, 86, rfl⟩
abbrev main_call0_v9 : Ref sig .tc := ⟨.hbm, 87, rfl⟩
abbrev main_call0_v10 : Ref sig .tc := ⟨.hbm, 88, rfl⟩
abbrev main_call0_v11 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_5 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_6 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_7 : Ref sig .tc := ⟨.hbm, 107, rfl⟩
abbrev main_v78 : Ref sig .tc := ⟨.hbm, 108, rfl⟩
abbrev main_c : Ref sig .tc := ⟨.hbm, 109, rfl⟩
abbrev main_v79_0 : Ref sig .tc := ⟨.hbm, 110, rfl⟩
abbrev main_v79_1 : Ref sig .tc := ⟨.hbm, 111, rfl⟩
abbrev main_v79_2 : Ref sig .tc := ⟨.hbm, 112, rfl⟩
abbrev main_v79_3 : Ref sig .tc := ⟨.hbm, 113, rfl⟩
abbrev main_v79_4 : Ref sig .tc := ⟨.hbm, 114, rfl⟩
abbrev main_while0c_c_16 : Ref sig .tc := ⟨.hbm, 115, rfl⟩
abbrev main_while0c_v105 : Ref sig .tc := ⟨.hbm, 116, rfl⟩
abbrev main_while0b_call1_c : Ref sig .tc := ⟨.hbm, 117, rfl⟩
abbrev main_while0b_call1_c_0 : Ref sig .tc := ⟨.hbm, 118, rfl⟩
abbrev main_while0b_call1_v0 : Ref sig .tc := ⟨.hbm, 119, rfl⟩
abbrev main_while0b_v105 : Ref sig .tc := ⟨.hbm, 120, rfl⟩
abbrev main_while0b_call2_c : Ref sig .tc := ⟨.hbm, 121, rfl⟩
abbrev main_while0b_call2_c_0 : Ref sig .tc := ⟨.hbm, 122, rfl⟩
abbrev main_while0b_call2_v0 : Ref sig .tc := ⟨.hbm, 123, rfl⟩
abbrev main_while0b_v106 : Ref sig .tc := ⟨.hbm, 124, rfl⟩
abbrev main_while0b_v107 : Ref sig .tc := ⟨.hbm, 125, rfl⟩
abbrev main_while0b_v108 : Ref sig .tc := ⟨.hbm, 126, rfl⟩
abbrev main_while0b_call3_v0 : Ref sig .tc := ⟨.hbm, 127, rfl⟩
abbrev main_while0b_call3_c : Ref sig .tc := ⟨.hbm, 128, rfl⟩
abbrev main_while0b_call3_c_0 : Ref sig .tc := ⟨.hbm, 129, rfl⟩
abbrev main_while0b_v109 : Ref sig .tc := ⟨.hbm, 130, rfl⟩
abbrev main_while0b_c_16 : Ref sig .tc := ⟨.hbm, 131, rfl⟩
abbrev main_while0b_v110 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_cst_8 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_cst_9 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_cst_10 : Ref sig .tc := ⟨.hbm, 147, rfl⟩
abbrev main_v92 : Ref sig .tc := ⟨.hbm, 148, rfl⟩
abbrev main_v93 : Ref sig .tc := ⟨.hbm, 149, rfl⟩
abbrev main_cst_11 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩

abbrev nD : Nat := 1
abbrev τ : Topo := Topo.v7x

variable {F : FTy → Type} [FloatOps F]

abbrev main_while0_count : Scf.Loop 32 := ⟨0#32, 2048#32, 1#32⟩
-- ==== Kernel2.lean ====
abbrev S1x128 : Shape := ⟨2, ![1, 128]⟩
abbrev S41984x2048 : Shape := ⟨2, ![41984, 2048]⟩
abbrev S1x32x2048x512 : Shape := ⟨4, ![1, 32, 2048, 512]⟩
abbrev S1x32x512x2048 : Shape := ⟨4, ![1, 32, 512, 2048]⟩
abbrev S1x32 : Shape := ⟨2, ![1, 32]⟩
abbrev S32 : Shape := ⟨1, ![32]⟩
abbrev S_ : Shape := ⟨0, ![]⟩
abbrev S164 : Shape := ⟨1, ![164]⟩
abbrev S164x1 : Shape := ⟨2, ![164, 1]⟩
abbrev S164x32 : Shape := ⟨2, ![164, 32]⟩
abbrev S1 : Shape := ⟨1, ![1]⟩
abbrev S163 : Shape := ⟨1, ![163]⟩
abbrev S256x2048 : Shape := ⟨2, ![256, 2048]⟩
abbrev S1x1x2048x512 : Shape := ⟨4, ![1, 1, 2048, 512]⟩
abbrev S1x1x512x2048 : Shape := ⟨4, ![1, 1, 512, 2048]⟩
abbrev S2048x512 : Shape := ⟨2, ![2048, 512]⟩
abbrev S512x2048 : Shape := ⟨2, ![512, 2048]⟩
abbrev S256x512 : Shape := ⟨2, ![256, 512]⟩

abbrev nBuf : Space → Nat
  | .hbm => 53
  | .vmem => 13
  | .smem => 3
  | _ => 0

abbrev bufTy : (tb : Table) → Fin (tcTables nBuf tb) → BufTy
  | .hbm, ⟨0, _⟩ => ⟨S1x128, .f32⟩
  | .hbm, ⟨1, _⟩ => ⟨S41984x2048, .f32⟩
  | .hbm, ⟨2, _⟩ => ⟨S1x32x2048x512, .f32⟩
  | .hbm, ⟨3, _⟩ => ⟨S1x32x2048x512, .f32⟩
  | .hbm, ⟨4, _⟩ => ⟨S1x32x512x2048, .f32⟩
  | .hbm, ⟨5, _⟩ => ⟨S1x32, .f32⟩
  | .hbm, ⟨6, _⟩ => ⟨S32, .f32⟩
  | .hbm, ⟨7, _⟩ => ⟨S32, .i32⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S_, .i32⟩
  | .hbm, ⟨12, _⟩ => ⟨S32, .i32⟩
  | .hbm, ⟨13, _⟩ => ⟨S32, .i32⟩
  | .hbm, ⟨14, _⟩ => ⟨S_, .i32⟩
  | .hbm, ⟨15, _⟩ => ⟨S_, .i32⟩
  | .hbm, ⟨16, _⟩ => ⟨S32, .i32⟩
  | .hbm, ⟨17, _⟩ => ⟨S32, .i32⟩
  | .hbm, ⟨18, _⟩ => ⟨S32, .i32⟩
  | .hbm, ⟨19, _⟩ => ⟨S_, .i32⟩
  | .hbm, ⟨20, _⟩ => ⟨S32, .i32⟩
  | .hbm, ⟨21, _⟩ => ⟨S32, .i1⟩
  | .hbm, ⟨22, _⟩ => ⟨S32, .i32⟩
  | .hbm, ⟨23, _⟩ => ⟨S32, .i32⟩
  | .hbm, ⟨24, _⟩ => ⟨S_, .i32⟩
  | .hbm, ⟨25, _⟩ => ⟨S32, .i32⟩
  | .hbm, ⟨26, _⟩ => ⟨S32, .i1⟩
  | .hbm, ⟨27, _⟩ => ⟨S32, .i1⟩
  | .hbm, ⟨28, _⟩ => ⟨S_, .i32⟩
  | .hbm, ⟨29, _⟩ => ⟨S32, .i32⟩
  | .hbm, ⟨30, _⟩ => ⟨S32, .i32⟩
  | .hbm, ⟨31, _⟩ => ⟨S32, .i32⟩
  | .hbm, ⟨32, _⟩ => ⟨S_, .i32⟩
  | .hbm, ⟨33, _⟩ => ⟨S_, .i32⟩
  | .hbm, ⟨34, _⟩ => ⟨S32, .i32⟩
  | .hbm, ⟨35, _⟩ => ⟨S164, .i32⟩
  | .hbm, ⟨36, _⟩ => ⟨S164x1, .i32⟩
  | .hbm, ⟨37, _⟩ => ⟨S1x32, .i32⟩
  | .hbm, ⟨38, _⟩ => ⟨S164x32, .i32⟩
  | .hbm, ⟨39, _⟩ => ⟨S164x32, .i32⟩
  | .hbm, ⟨40, _⟩ => ⟨S164x32, .i1⟩
  | .hbm, ⟨41, _⟩ => ⟨S164x32, .i32⟩
  | .hbm, ⟨42, _⟩ => ⟨S_, .i32⟩
  | .hbm, ⟨43, _⟩ => ⟨S164, .i32⟩
  | .hbm, ⟨44, _⟩ => ⟨S_, .i32⟩
  | .hbm, ⟨45, _⟩ => ⟨S164, .i32⟩
  | .hbm, ⟨46, _⟩ => ⟨S_, .i32⟩
  | .hbm, ⟨47, _⟩ => ⟨S1, .i32⟩
  | .hbm, ⟨48, _⟩ => ⟨S163, .i32⟩
  | .hbm, ⟨49, _⟩ => ⟨S163, .i32⟩
  | .hbm, ⟨50, _⟩ => ⟨S163, .i1⟩
  | .hbm, ⟨51, _⟩ => ⟨S163, .i32⟩
  | .hbm, ⟨52, _⟩ => ⟨S41984x2048, .f32⟩
  | .local _ .vmem, ⟨0, _⟩ => ⟨S256x2048, .f32⟩
  | .local _ .vmem, ⟨1, _⟩ => ⟨S256x2048, .f32⟩
  | .local _ .vmem, ⟨2, _⟩ => ⟨S1x1x2048x512, .f32⟩
  | .local _ .vmem, ⟨3, _⟩ => ⟨S1x1x2048x512, .f32⟩
  | .local _ .vmem, ⟨4, _⟩ => ⟨S1x1x2048x512, .f32⟩
  | .local _ .vmem, ⟨5, _⟩ => ⟨S1x1x2048x512, .f32⟩
  | .local _ .vmem, ⟨6, _⟩ => ⟨S1x1x512x2048, .f32⟩
  | .local _ .vmem, ⟨7, _⟩ => ⟨S1x1x512x2048, .f32⟩
  | .local _ .vmem, ⟨8, _⟩ => ⟨S256x2048, .f32⟩
  | .local _ .vmem, ⟨9, _⟩ => ⟨S256x2048, .f32⟩
  | .local _ .vmem, ⟨10, _⟩ => ⟨S2048x512, .bf16⟩
  | .local _ .vmem, ⟨11, _⟩ => ⟨S2048x512, .bf16⟩
  | .local _ .vmem, ⟨12, _⟩ => ⟨S512x2048, .bf16⟩
  | .local _ .smem, ⟨0, _⟩ => ⟨S164, .i32⟩
  | .local _ .smem, ⟨1, _⟩ => ⟨S164, .i32⟩
  | .local _ .smem, ⟨2, _⟩ => ⟨S1, .i32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v7 : Ref sig .tc := ⟨.hbm, 31, rfl⟩
abbrev main_call1_call0_c : Ref sig .tc := ⟨.hbm, 32, rfl⟩
abbrev main_call1_call0_v0 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_c_2 : Ref sig .tc := ⟨.hbm, 42, rfl⟩
abbrev main_v16 : Ref sig .tc := ⟨.hbm, 43, rfl⟩
abbrev main_c_3 : Ref sig .tc := ⟨.hbm, 44, rfl⟩
abbrev main_v17 : Ref sig .tc := ⟨.hbm, 45, rfl⟩
abbrev main_c_4 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v26 : Ref sig .tc := ⟨.hbm, 52, rfl⟩
abbrev main_v18 : Ref sig .tc := ⟨.smem, 0, rfl⟩
abbrev main_v25 : Ref sig .tc := ⟨.smem, 1, rfl⟩
abbrev main_v19 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![164], ![false]⟩

abbrev pre0 : Pipeline.Prefetch sig := ⟨3, ![main_v18.idx, main_v25.idx, main_v19.idx], fun | 0 => main_v18.names | 1 => main_v25.names | 2 => main_v19.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v8 : Index := Scalar.indexCast arg0
  ![v8.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond3 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S164.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S164) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S164.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S164) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S164.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S164) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S1x128 : Shape := ⟨2, ![1, 128]⟩
abbrev S41984x2048 : Shape := ⟨2, ![41984, 2048]⟩
abbrev S1x32x2048x512 : Shape := ⟨4, ![1, 32, 2048, 512]⟩
abbrev S1x32x512x2048 : Shape := ⟨4, ![1, 32, 512, 2048]⟩
abbrev S1x32 : Shape := ⟨2, ![1, 32]⟩
abbrev S32 : Shape := ⟨1, ![32]⟩
abbrev S_ : Shape := ⟨0, ![]⟩
abbrev S41984 : Shape := ⟨1, ![41984]⟩
abbrev S41984x1 : Shape := ⟨2, ![41984, 1]⟩
abbrev S41984x32 : Shape := ⟨2, ![41984, 32]⟩
abbrev S1 : Shape := ⟨1, ![1]⟩
abbrev S32x2048x512 : Shape := ⟨3, ![32, 2048, 512]⟩
abbrev S41984x32x512 : Shape := ⟨3, ![41984, 32, 512]⟩
abbrev S32x512x2048 : Shape := ⟨3, ![32, 512, 2048]⟩
abbrev S32x2048x41984 : Shape := ⟨3, ![32, 2048, 41984]⟩
abbrev S41984x32x2048 : Shape := ⟨3, ![41984, 32, 2048]⟩
abbrev S41984x32x1 : Shape := ⟨3, ![41984, 32, 1]⟩

abbrev nBuf : Space → Nat
  | .hbm => 82
  | .vmem => 0
  | .smem => 0
  | _ => 0

abbrev bufTy : (tb : Table) → Fin (tcTables nBuf tb) → BufTy
  | .hbm, ⟨0, _⟩ => ⟨S1x128, .f32⟩
  | .hbm, ⟨1, _⟩ => ⟨S41984x2048, .f32⟩
  | .hbm, ⟨2, _⟩ => ⟨S1x32x2048x512, .f32⟩
  | .hbm, ⟨3, _⟩ => ⟨S1x32x2048x512, .f32⟩
  | .hbm, ⟨4, _⟩ => ⟨S1x32x512x2048, .f32⟩
  | .hbm, ⟨5, _⟩ => ⟨S1x32, .f32⟩
  | .hbm, ⟨6, _⟩ => ⟨S32, .f32⟩
  | .hbm, ⟨7, _⟩ => ⟨S32, .i32⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S_, .i32⟩
  | .hbm, ⟨12, _⟩ => ⟨S_, .i32⟩
  | .hbm, ⟨13, _⟩ => ⟨S32, .i32⟩
  | .hbm, ⟨14, _⟩ => ⟨S32, .i32⟩
  | .hbm, ⟨15, _⟩ => ⟨S32, .i32⟩
  | .hbm, ⟨16, _⟩ => ⟨S_, .i32⟩
  | .hbm, ⟨17, _⟩ => ⟨S32, .i32⟩
  | .hbm, ⟨18, _⟩ => ⟨S32, .i1⟩
  | .hbm, ⟨19, _⟩ => ⟨S32, .i32⟩
  | .hbm, ⟨20, _⟩ => ⟨S32, .i32⟩
  | .hbm, ⟨21, _⟩ => ⟨S_, .i32⟩
  | .hbm, ⟨22, _⟩ => ⟨S32, .i32⟩
  | .hbm, ⟨23, _⟩ => ⟨S32, .i1⟩
  | .hbm, ⟨24, _⟩ => ⟨S32, .i1⟩
  | .hbm, ⟨25, _⟩ => ⟨S_, .i32⟩
  | .hbm, ⟨26, _⟩ => ⟨S32, .i32⟩
  | .hbm, ⟨27, _⟩ => ⟨S32, .i32⟩
  | .hbm, ⟨28, _⟩ => ⟨S32, .i32⟩
  | .hbm, ⟨29, _⟩ => ⟨S_, .i32⟩
  | .hbm, ⟨30, _⟩ => ⟨S_, .i32⟩
  | .hbm, ⟨31, _⟩ => ⟨S32, .i32⟩
  | .hbm, ⟨32, _⟩ => ⟨S41984, .i32⟩
  | .hbm, ⟨33, _⟩ => ⟨S_, .i32⟩
  | .hbm, ⟨34, _⟩ => ⟨S41984, .i32⟩
  | .hbm, ⟨35, _⟩ => ⟨S41984, .i32⟩
  | .hbm, ⟨36, _⟩ => ⟨S41984x1, .i32⟩
  | .hbm, ⟨37, _⟩ => ⟨S1x32, .i32⟩
  | .hbm, ⟨38, _⟩ => ⟨S41984x32, .i32⟩
  | .hbm, ⟨39, _⟩ => ⟨S41984x32, .i32⟩
  | .hbm, ⟨40, _⟩ => ⟨S41984x32, .i1⟩
  | .hbm, ⟨41, _⟩ => ⟨S41984x32, .i32⟩
  | .hbm, ⟨42, _⟩ => ⟨S_, .i32⟩
  | .hbm, ⟨43, _⟩ => ⟨S41984, .i32⟩
  | .hbm, ⟨44, _⟩ => ⟨S41984x1, .i32⟩
  | .hbm, ⟨45, _⟩ => ⟨S32, .i32⟩
  | .hbm, ⟨46, _⟩ => ⟨S1x32, .i32⟩
  | .hbm, ⟨47, _⟩ => ⟨S41984x32, .i32⟩
  | .hbm, ⟨48, _⟩ => ⟨S41984x32, .i32⟩
  | .hbm, ⟨49, _⟩ => ⟨S41984x32, .i1⟩
  | .hbm, ⟨50, _⟩ => ⟨S1, .i32⟩
  | .hbm, ⟨51, _⟩ => ⟨S_, .i32⟩
  | .hbm, ⟨52, _⟩ => ⟨S41984, .i32⟩
  | .hbm, ⟨53, _⟩ => ⟨S41984, .i1⟩
  | .hbm, ⟨54, _⟩ => ⟨S41984x1, .i1⟩
  | .hbm, ⟨55, _⟩ => ⟨S41984x32, .i1⟩
  | .hbm, ⟨56, _⟩ => ⟨S41984x32, .i1⟩
  | .hbm, ⟨57, _⟩ => ⟨S32x2048x512, .f32⟩
  | .hbm, ⟨58, _⟩ => ⟨S41984x32x512, .f32⟩
  | .hbm, ⟨59, _⟩ => ⟨S32x2048x512, .f32⟩
  | .hbm, ⟨60, _⟩ => ⟨S41984x32x512, .f32⟩
  | .hbm, ⟨61, _⟩ => ⟨S41984x32x512, .f32⟩
  | .hbm, ⟨62, _⟩ => ⟨S41984x32x512, .f32⟩
  | .hbm, ⟨63, _⟩ => ⟨S_, .f32⟩
  | .hbm, ⟨64, _⟩ => ⟨S41984x32x512, .f32⟩
  | .hbm, ⟨65, _⟩ => ⟨S41984x32x512, .f32⟩
  | .hbm, ⟨66, _⟩ => ⟨S_, .f32⟩
  | .hbm, ⟨67, _⟩ => ⟨S41984x32x512, .f32⟩
  | .hbm, ⟨68, _⟩ => ⟨S41984x32x512, .f32⟩
  | .hbm, ⟨69, _⟩ => ⟨S41984x32x512, .f32⟩
  | .hbm, ⟨70, _⟩ => ⟨S41984x32x512, .f32⟩
  | .hbm, ⟨71, _⟩ => ⟨S32x512x2048, .f32⟩
  | .hbm, ⟨72, _⟩ => ⟨S32x2048x41984, .f32⟩
  | .hbm, ⟨73, _⟩ => ⟨S41984x32x2048, .f32⟩
  | .hbm, ⟨74, _⟩ => ⟨S41984x32x1, .i1⟩
  | .hbm, ⟨75, _⟩ => ⟨S_, .f32⟩
  | .hbm, ⟨76, _⟩ => ⟨S_, .f32⟩
  | .hbm, ⟨77, _⟩ => ⟨S41984x32x2048, .i1⟩
  | .hbm, ⟨78, _⟩ => ⟨S41984x32x2048, .f32⟩
  | .hbm, ⟨79, _⟩ => ⟨S41984x32x2048, .f32⟩
  | .hbm, ⟨80, _⟩ => ⟨S_, .f32⟩
  | .hbm, ⟨81, _⟩ => ⟨S41984x2048, .f32⟩
  | _, _ => ⟨S1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v5 : Ref sig .tc := ⟨.hbm, 28, rfl⟩
abbrev main_call1_call0_c : Ref sig .tc := ⟨.hbm, 29, rfl⟩
abbrev main_call1_call0_v0 : Ref sig .tc := ⟨.hbm, 30, rfl⟩
abbrev main_v6 : Ref sig .tc := ⟨.hbm, 31, rfl⟩
abbrev main_v7 : Ref sig .tc := ⟨.hbm, 32, rfl⟩
abbrev main_c_1 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_c_2 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_call2_v0 : Ref sig .tc := ⟨.hbm, 61, rfl⟩
abbrev main_call2_v1 : Ref sig .tc := ⟨.hbm, 62, rfl⟩
abbrev main_call2_cst : Ref sig .tc := ⟨.hbm, 63, rfl⟩
abbrev main_call2_v2 : Ref sig .tc := ⟨.hbm, 64, rfl⟩
abbrev main_call2_v3 : Ref sig .tc := ⟨.hbm, 65, rfl⟩
abbrev main_call2_cst_0 : Ref sig .tc := ⟨.hbm, 66, rfl⟩
abbrev main_call2_v4 : Ref sig .tc := ⟨.hbm, 67, rfl⟩
abbrev main_call2_v5 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_cst : Ref sig .tc := ⟨.hbm, 75, rfl⟩
abbrev main_call3_v0 : Ref sig .tc := ⟨.hbm, 76, rfl⟩
abbrev main_call3_v1 : Ref sig .tc := ⟨.hbm, 77, rfl⟩
abbrev main_call3_v2 : Ref sig .tc := ⟨.hbm, 78, rfl⟩
abbrev main_v40 : Ref sig .tc := ⟨.hbm, 79, rfl⟩
abbrev main_cst_3 : Ref sig .tc := ⟨.hbm, 80, rfl⟩
abbrev main_v41 : Ref sig .tc := ⟨.hbm, 81, rfl⟩

abbrev nD : Nat := 1
abbrev τ : Topo := Topo.v7x

variable {F : FTy → Type} [FloatOps F]
-- ==== Proof.Setup.lean ====
/- The recurrence kernel's launch set-up: the branch conditions of its body in closed form over the
   sixteen grid points, where its windows are idle, its staging and scratch buffers, and the invariant the launch hands in. -/
module

public import proofs.«01_k».proof.Proof.Gen.KernelIdeal.Frame
public import proofs.«01_k».proof.Proof.Gen.KernelIdeal.Skeleton

@[expose] public section

set_option maxRecDepth 16384

noncomputable section

namespace Cert.KernelIdeal.Rg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 2).val) 0#32)) 0#32) = 1#1
/-- It holds at the points ≡ 0 (mod 2) — by arithmetic of the point. -/
theorem hcond0_0 : ∀ t : Fin cfg0.N, cond0_0 (grid0.coords t) ↔ t.val % 2 = 0 :=
  (fun t => by
    have ht : t.val < 16 := Nat.lt_of_lt_of_eq t.isLt N_0
    have e0 : (grid0.coords t 0).val = t.val / 2 % 8 := Pipeline.Grid.coords_val t 0 (by decide) rfl
    have e1 : (grid0.coords t 1).val = t.val / 2 % 1 := Pipeline.Grid.coords_val t 1 (by decide) rfl
    have e2 : (grid0.coords t 2).val = t.val / 1 % 2 := Pipeline.Grid.coords_val t 2 (by decide) rfl
    simp only [cond0_0, e0, e1, e2]
    word_cmp
   : ∀ t : Fin grid0.N, cond0_0 (grid0.coords t) ↔ t.val % 2 = 0)

/-- The condition of the body's `scf.if` 1 (`k0_h2`), from the grid coordinates (the skeleton's scalar
    chain substituted). -/
abbrev cond0_1 (i : grid0.Coords) : Prop := k0_cond2 i = 1#1
/-- It holds at the points ≡ 1 (mod 2) — by arithmetic of the point. -/
theorem hcond0_1 : ∀ t : Fin cfg0.N, cond0_1 (grid0.coords t) ↔ t.val % 2 = 1 :=
  (fun t => by
    have ht : t.val < 16 := Nat.lt_of_lt_of_eq t.isLt N_0
    have e0 : (grid0.coords t 0).val = t.val / 2 % 8 := Pipeline.Grid.coords_val t 0 (by decide) rfl
    have e1 : (grid0.coords t 1).val = t.val / 2 % 1 := Pipeline.Grid.coords_val t 1 (by decide) rfl
    have e2 : (grid0.coords t 2).val = t.val / 1 % 2 := Pipeline.Grid.coords_val t 2 (by decide) rfl
    simp only [cond0_1, k0_cond2, e0, e1, e2]
    word_cmp
   : ∀ t : Fin grid0.N, cond0_1 (grid0.coords t) ↔ t.val % 2 = 1)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an output stored at every point, under no condition). -/
theorem liveAt0_7 : ∀ t : Fin cfg0.N, cfg0.idle 7 (grid0.coords t) = false := fun _ => rfl
/-- At the points of case A the printed configuration (`Cfg.idle`) calls output 8 idle: the case stores nothing into it. -/
theorem idleAt0_8_A : ∀ t : Fin cfg0.N, cond0_0 (grid0.coords t) → ¬cond0_1 (grid0.coords t) → cfg0.idle 8 (grid0.coords t) = true := by decide +kernel
/-- At the points of case A the pipeline does not write output 8's block back. -/
theorem noFlush0_8_A : ∀ t : Fin cfg0.N, cond0_0 (grid0.coords t) → ¬cond0_1 (grid0.coords t) → (cfg0.win 8).flush t = false := by decide +kernel
/-- At the points of case B the printed configuration (`Cfg.idle`) calls output 8 live: the case stores into it. -/
theorem liveAt0_8_B : ∀ t : Fin cfg0.N, ¬cond0_0 (grid0.coords t) → cond0_1 (grid0.coords t) → cfg0.idle 8 (grid0.coords t) = false := by decide +kernel
/-- At the points of case A the printed configuration (`Cfg.idle`) calls output 9 idle: the case stores nothing into it. -/
theorem idleAt0_9_A : ∀ t : Fin cfg0.N, cond0_0 (grid0.coords t) → ¬cond0_1 (grid0.coords t) → cfg0.idle 9 (grid0.coords t) = true := by decide +kernel
/-- At the points of case A the pipeline does not write output 9's block back. -/
theorem noFlush0_9_A : ∀ t : Fin cfg0.N, cond0_0 (grid0.coords t) → ¬cond0_1 (grid0.coords t) → (cfg0.win 9).flush t = false := by decide +kernel
/-- At the points of case B the printed configuration (`Cfg.idle`) calls output 9 live: the case stores into it. -/
theorem liveAt0_9_B : ∀ t : Fin cfg0.N, ¬cond0_0 (grid0.coords t) → cond0_1 (grid0.coords t) → cfg0.idle 9 (grid0.coords t) = false := by decide +kernel

/-- Each window's current staging memref at point `t`, spelled as the pipeline passes it (`bodyAt0`), and its wholeness. -/
abbrev ms0_0 (t : Fin cfg0.N) : Memref sig .tc .vmem S1024x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x128x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x2048 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x3x2048 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x2048 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S8x2048 .f32 := Memref.whole cc0_scratch0
abbrev scM0_1 : Memref sig .tc .vmem S8x2048 .f32 := Memref.whole cc0_scratch1
abbrev scM0_2 : Memref sig .tc .vmem S1024x2048 .f32 := Memref.whole cc0_scratch2
abbrev scM0_3 : Memref sig .tc .vmem S1024x2048 .f32 := Memref.whole cc0_scratch3

/-- The region's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Rg

end
-- ==== Proof.Body.lean ====
/- What one grid point of the recurrence kernel computes, as functions of the blocks it is handed: the causal
   convolution, the gate coefficients, and the scan of 128 groups of eight rows. -/
module

public import proofs.«01_k».proof.Proof.Setup
public import Idealize.ShloMosaic.Lib.VecWindow
public import Idealize.ShloMosaic.Lib.Pipeline.Value

@[expose] public section

set_option maxRecDepth 16384

noncomputable section

namespace Cert.KernelIdeal.Rg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

theorem hz : (![0, 0] : Fin 2 → Nat) = fun _ => 0 := funext fun a => by fin_cases a <;> rfl

/-- A read of all of a 1024-row block is the block. -/
theorem ld_all_1024 {e : EltTy} (x : Vec F S1024x2048 e) (inb : ∀ a : Fin 2, (![0, 0] : Fin 2 → ℕ) a + (![1024, 2048] : Fin 2 → ℕ) a ≤ (![1024, 2048] : Fin 2 → ℕ) a) :
    View.ld x (Rect.unit (s := S1024x2048) ![0, 0] ![1024, 2048] inb) = x := View.ld_unit_zero (S := S1024x2048) hz inb x

/-- A covered read of all of a 1024-row block reads what the last store of all of it left. -/
theorem cov_all_1024 {κ : Kind} {sp : Space} {e : EltTy} (v : View sig κ sp S1024x2048 e) (inb inb' : ∀ a : Fin 2, (![0, 0] : Fin 2 → ℕ) a + (![1024, 2048] : Fin 2 → ℕ) a ≤ (![1024, 2048] : Fin 2 → ℕ) a)
    (w : Vec F S1024x2048 e) (L : List (View.Piece (Elt F) S1024x2048 e)) :
    v.readCov (⟨Rect.unit (s := S1024x2048) ![0, 0] ![1024, 2048] inb', w⟩ :: L) (Rect.unit (s := S1024x2048) ![0, 0] ![1024, 2048] inb).toLoadRect = w :=
  View.readCov_full v inb inb' w L

/-- What a store of all of a 1024-row block leaves. -/
theorem writes_all_1024 {κ : Kind} {sp : Space} {e : EltTy} (v : View sig κ sp S1024x2048 e) (f : v.ty.Contents (Elt F)) (inb : ∀ a : Fin 2, (![0, 0] : Fin 2 → ℕ) a + (![1024, 2048] : Fin 2 → ℕ) a ≤ (![1024, 2048] : Fin 2 → ℕ) a)
    (w : Vec F S1024x2048 e) (L : List (View.Piece (Elt F) S1024x2048 e)) :
    v.read (Elt F) (v.writes (Elt F) f (⟨Rect.unit (s := S1024x2048) ![0, 0] ![1024, 2048] inb, w⟩ :: L)) = w :=
  View.read_writes_full v f inb w L

/-- A read of all of a 8-row block is the block. -/
theorem ld_all_8 {e : EltTy} (x : Vec F S8x2048 e) (inb : ∀ a : Fin 2, (![0, 0] : Fin 2 → ℕ) a + (![8, 2048] : Fin 2 → ℕ) a ≤ (![8, 2048] : Fin 2 → ℕ) a) :
    View.ld x (Rect.unit (s := S8x2048) ![0, 0] ![8, 2048] inb) = x := View.ld_unit_zero (S := S8x2048) hz inb x

/-- A covered read of all of a 8-row block reads what the last store of all of it left. -/
theorem cov_all_8 {κ : Kind} {sp : Space} {e : EltTy} (v : View sig κ sp S8x2048 e) (inb inb' : ∀ a : Fin 2, (![0, 0] : Fin 2 → ℕ) a + (![8, 2048] : Fin 2 → ℕ) a ≤ (![8, 2048] : Fin 2 → ℕ) a)
    (w : Vec F S8x2048 e) (L : List (View.Piece (Elt F) S8x2048 e)) :
    v.readCov (⟨Rect.unit (s := S8x2048) ![0, 0] ![8, 2048] inb', w⟩ :: L) (Rect.unit (s := S8x2048) ![0, 0] ![8, 2048] inb).toLoadRect = w :=
  View.readCov_full v inb inb' w L

/-- What a store of all of a 8-row block leaves. -/
theorem writes_all_8 {κ : Kind} {sp : Space} {e : EltTy} (v : View sig κ sp S8x2048 e) (f : v.ty.Contents (Elt F)) (inb : ∀ a : Fin 2, (![0, 0] : Fin 2 → ℕ) a + (![8, 2048] : Fin 2 → ℕ) a ≤ (![8, 2048] : Fin 2 → ℕ) a)
    (w : Vec F S8x2048 e) (L : List (View.Piece (Elt F) S8x2048 e)) :
    v.read (Elt F) (v.writes (Elt F) f (⟨Rect.unit (s := S8x2048) ![0, 0] ![8, 2048] inb, w⟩ :: L)) = w :=
  View.read_writes_full v f inb w L

/-- A read of all of a 1-row block is the block. -/
theorem ld_all_1 {e : EltTy} (x : Vec F S1x2048 e) (inb : ∀ a : Fin 2, (![0, 0] : Fin 2 → ℕ) a + (![1, 2048] : Fin 2 → ℕ) a ≤ (![1, 2048] : Fin 2 → ℕ) a) :
    View.ld x (Rect.unit (s := S1x2048) ![0, 0] ![1, 2048] inb) = x := View.ld_unit_zero (S := S1x2048) hz inb x

/-- A covered read of all of a 1-row block reads what the last store of all of it left. -/
theorem cov_all_1 {κ : Kind} {sp : Space} {e : EltTy} (v : View sig κ sp S1x2048 e) (inb inb' : ∀ a : Fin 2, (![0, 0] : Fin 2 → ℕ) a + (![1, 2048] : Fin 2 → ℕ) a ≤ (![1, 2048] : Fin 2 → ℕ) a)
    (w : Vec F S1x2048 e) (L : List (View.Piece (Elt F) S1x2048 e)) :
    v.readCov (⟨Rect.unit (s := S1x2048) ![0, 0] ![1, 2048] inb', w⟩ :: L) (Rect.unit (s := S1x2048) ![0, 0] ![1, 2048] inb).toLoadRect = w :=
  View.readCov_full v inb inb' w L

/-- What a store of all of a 1-row block leaves. -/
theorem writes_all_1 {κ : Kind} {sp : Space} {e : EltTy} (v : View sig κ sp S1x2048 e) (f : v.ty.Contents (Elt F)) (inb : ∀ a : Fin 2, (![0, 0] : Fin 2 → ℕ) a + (![1, 2048] : Fin 2 → ℕ) a ≤ (![1, 2048] : Fin 2 → ℕ) a)
    (w : Vec F S1x2048 e) (L : List (View.Piece (Elt F) S1x2048 e)) :
    v.read (Elt F) (v.writes (Elt F) f (⟨Rect.unit (s := S1x2048) ![0, 0] ![1, 2048] inb, w⟩ :: L)) = w :=
  View.read_writes_full v f inb w L

/-- The gate coefficients of a block of time steps: the decay `a` and the driven input `b`, each a [1024, 2048]
    array put together from sixteen column blocks, from the convolved input `v28`, the row `v34` of decay
    parameters, the gate weights `w` and the gate biases `bi`. -/
def gates (v28 : FVec F S1024x2048 .f32) (v34 : FVec F S1x2048 .f32) (w : Vec F S16x128x256 .bf16) (bi : Vec F S16x1x256 .f32) :
    FVec F S1024x2048 .f32 × FVec F S1024x2048 .f32 :=
let v47 := View.ld w (Rect.unit (s := S16x128x256) ![0, 0, 0] S1x128x256.size inb_S16x128x256_S1x128x256_0_0_0)
  let v50 := View.ld bi (Rect.unit (s := S16x1x256) ![0, 0, 0] S1x1x256.size inb_S16x1x256_S1x1x256_0_0_0)
  let v44 := k0_pay15 v34
  let v68 := k0_pay18 v28 v34 v47 v50
  let v74 := k0_pay19 v28 v34 v47 v50
  let v75 := k0_pay20 v28
  let v76 := k0_pay21 v28
  let v77 := View.ld w (Rect.unit (s := S16x128x256) ![1, 0, 0] S1x128x256.size inb_S16x128x256_S1x128x256_1_0_0)
  let v80 := View.ld bi (Rect.unit (s := S16x1x256) ![1, 0, 0] S1x1x256.size inb_S16x1x256_S1x1x256_1_0_0)
  let v107 := View.ld w (Rect.unit (s := S16x128x256) ![2, 0, 0] S1x128x256.size inb_S16x128x256_S1x128x256_2_0_0)
  let v110 := View.ld bi (Rect.unit (s := S16x1x256) ![2, 0, 0] S1x1x256.size inb_S16x1x256_S1x1x256_2_0_0)
  let v98 := k0_pay23 v44 v76 v77 v80
  let v104 := k0_pay24 v44 v75 v76 v77 v80
  let v105 := k0_pay25 v28
  let v118 := k0_pay26 v28 v107 v110
  let v137 := View.ld w (Rect.unit (s := S16x128x256) ![3, 0, 0] S1x128x256.size inb_S16x128x256_S1x128x256_3_0_0)
  let v140 := View.ld bi (Rect.unit (s := S16x1x256) ![3, 0, 0] S1x1x256.size inb_S16x1x256_S1x1x256_3_0_0)
  let v128 := k0_pay28 v44 v118
  let v134 := k0_pay29 v44 v105 v118
  let v135 := k0_pay30 v28
  let v158 := k0_pay32 v28 v44 v137 v140
  let v163 := k0_pay33 v28 v44 v137 v140
  let v167 := View.ld w (Rect.unit (s := S16x128x256) ![4, 0, 0] S1x128x256.size inb_S16x128x256_S1x128x256_4_0_0)
  let v170 := View.ld bi (Rect.unit (s := S16x1x256) ![4, 0, 0] S1x1x256.size inb_S16x1x256_S1x1x256_4_0_0)
  let v197 := View.ld w (Rect.unit (s := S16x128x256) ![5, 0, 0] S1x128x256.size inb_S16x128x256_S1x128x256_5_0_0)
  let v200 := View.ld bi (Rect.unit (s := S16x1x256) ![5, 0, 0] S1x1x256.size inb_S16x1x256_S1x1x256_5_0_0)
  let cst_82 : F .f32 := Scalar.ofBits .f32 0x3F000000#32
  let v164 := k0_pay34 v135 v163
  let v188 := k0_pay37 v28 v44 v167 v170
  let v194 := k0_pay38 v28 v44 v167 v170
  let v195 := k0_pay39 v28
  let v203 := k0_pay40 v28 v197 v200
  let v227 := View.ld w (Rect.unit (s := S16x128x256) ![6, 0, 0] S1x128x256.size inb_S16x128x256_S1x128x256_6_0_0)
  let v230 := View.ld bi (Rect.unit (s := S16x1x256) ![6, 0, 0] S1x1x256.size inb_S16x1x256_S1x1x256_6_0_0)
  let v218 := k0_pay42 v44 v203 cst_82
  let v224 := k0_pay43 v44 v195 v203 cst_82
  let v225 := k0_pay44 v28
  let v242 := k0_pay46 v28 v227 v230
  let v248 := k0_pay47 v28 v44 v227 v230
  let v257 := View.ld w (Rect.unit (s := S16x128x256) ![7, 0, 0] S1x128x256.size inb_S16x128x256_S1x128x256_7_0_0)
  let v260 := View.ld bi (Rect.unit (s := S16x1x256) ![7, 0, 0] S1x1x256.size inb_S16x1x256_S1x1x256_7_0_0)
  let v287 := View.ld w (Rect.unit (s := S16x128x256) ![8, 0, 0] S1x128x256.size inb_S16x128x256_S1x128x256_8_0_0)
  let v254 := k0_pay48 v225 v242 v248
  let v278 := k0_pay51 v28 v44 v257 v260
  let v284 := k0_pay52 v28 v44 v257 v260
  let v285 := k0_pay53 v28
  let v289 := k0_pay54 v28 v287
  let v290 := View.ld bi (Rect.unit (s := S16x1x256) ![8, 0, 0] S1x1x256.size inb_S16x1x256_S1x1x256_8_0_0)
  let v317 := View.ld w (Rect.unit (s := S16x128x256) ![9, 0, 0] S1x128x256.size inb_S16x128x256_S1x128x256_9_0_0)
  let v320 := View.ld bi (Rect.unit (s := S16x1x256) ![9, 0, 0] S1x1x256.size inb_S16x1x256_S1x1x256_9_0_0)
  let cst_129 : F .f32 := Scalar.ofBits .f32 0xC1000000#32
  let v308 := k0_pay56 v44 v289 v290
  let v314 := k0_pay57 v44 v285 v289 v290
  let v315 := k0_pay58 v28
  let v331 := k0_pay60 v28 v317 v320
  let v332 := k0_pay61 v28 v317 v320
  let v347 := View.ld w (Rect.unit (s := S16x128x256) ![10, 0, 0] S1x128x256.size inb_S16x128x256_S1x128x256_10_0_0)
  let v350 := View.ld bi (Rect.unit (s := S16x1x256) ![10, 0, 0] S1x1x256.size inb_S16x1x256_S1x1x256_10_0_0)
  let v338 := k0_pay62 v44 v331 cst_129
  let v344 := k0_pay63 v44 v315 v331 v332 cst_129
  let v368 := k0_pay66 v28 v44 v347 v350
  let v374 := k0_pay67 v28 v44 v347 v350
  let v375 := k0_pay68 v28
  let v376 := k0_pay69 v28
  let v377 := View.ld w (Rect.unit (s := S16x128x256) ![11, 0, 0] S1x128x256.size inb_S16x128x256_S1x128x256_11_0_0)
  let v380 := View.ld bi (Rect.unit (s := S16x1x256) ![11, 0, 0] S1x1x256.size inb_S16x1x256_S1x1x256_11_0_0)
  let v407 := View.ld w (Rect.unit (s := S16x128x256) ![12, 0, 0] S1x128x256.size inb_S16x128x256_S1x128x256_12_0_0)
  let v410 := View.ld bi (Rect.unit (s := S16x1x256) ![12, 0, 0] S1x1x256.size inb_S16x1x256_S1x1x256_12_0_0)
  let v398 := k0_pay71 v44 v376 v377 v380
  let v404 := k0_pay72 v44 v375 v376 v377 v380
  let v405 := k0_pay73 v28
  let v418 := k0_pay74 v28 v407 v410
  let v437 := View.ld w (Rect.unit (s := S16x128x256) ![13, 0, 0] S1x128x256.size inb_S16x128x256_S1x128x256_13_0_0)
  let v440 := View.ld bi (Rect.unit (s := S16x1x256) ![13, 0, 0] S1x1x256.size inb_S16x1x256_S1x1x256_13_0_0)
  let v428 := k0_pay76 v44 v418
  let v434 := k0_pay77 v44 v405 v418
  let v435 := k0_pay78 v28
  let v458 := k0_pay80 v28 v44 v437 v440
  let v463 := k0_pay81 v28 v44 v437 v440
  let v467 := View.ld w (Rect.unit (s := S16x128x256) ![14, 0, 0] S1x128x256.size inb_S16x128x256_S1x128x256_14_0_0)
  let v470 := View.ld bi (Rect.unit (s := S16x1x256) ![14, 0, 0] S1x1x256.size inb_S16x1x256_S1x1x256_14_0_0)
  let v497 := View.ld w (Rect.unit (s := S16x128x256) ![15, 0, 0] S1x128x256.size inb_S16x128x256_S1x128x256_15_0_0)
  let v500 := View.ld bi (Rect.unit (s := S16x1x256) ![15, 0, 0] S1x1x256.size inb_S16x1x256_S1x1x256_15_0_0)
  let cst_192 : F .f32 := Scalar.ofBits .f32 0x3F000000#32
  let v464 := k0_pay82 v435 v463
  let v488 := k0_pay85 v28 v44 v467 v470
  let v494 := k0_pay86 v28 v44 v467 v470
  let v495 := k0_pay87 v28
  let v503 := k0_pay88 v28 v497 v500
  (k0_pay91 v44 v68 v98 v128 v158 v188 v218 v248 v278 v308 v338 v368 v398 v428 v458 v488 v503 cst_192,
   k0_pay92 v44 v74 v104 v134 v164 v194 v224 v254 v284 v314 v344 v374 v404 v434 v464 v494 v495 v503 cst_192)

/-- The convolved input of a block: the block `x`, the eight rows `tail` before it, the filter and the bias. -/
def conv (x : Vec F S1024x2048 .bf16) (tail : Vec F S8x2048 .f32) (wc : Vec F S4x2048 .f32) (bc : Vec F S1x2048 .f32) :
    FVec F S1024x2048 .f32 :=
  k0_pay12 x tail bc
    (View.ld wc (Rect.unit (s := S4x2048) ![3, 0] S1x2048.size inb_S4x2048_S1x2048_3_0))
    (View.ld wc (Rect.unit (s := S4x2048) ![0, 0] S1x2048.size inb_S4x2048_S1x2048_0_0))
    (View.ld wc (Rect.unit (s := S4x2048) ![1, 0] S1x2048.size inb_S4x2048_S1x2048_1_0))
    (View.ld wc (Rect.unit (s := S4x2048) ![2, 0] S1x2048.size inb_S4x2048_S1x2048_2_0))

/-- Both coefficient arrays of a block. -/
def coef (x : Vec F S1024x2048 .bf16) (tail : Vec F S8x2048 .f32) (wc : Vec F S4x2048 .f32) (bc : Vec F S1x2048 .f32)
    (w : Vec F S16x128x256 .bf16) (bi : Vec F S16x1x256 .f32) (lam : Vec F S1x2048 .f32) :
    FVec F S1024x2048 .f32 × FVec F S1024x2048 .f32 :=
  gates (conv x tail wc bc) (k0_pay14 lam) w bi

/-- The row numbers of a group of eight rows. -/
abbrev rowIota : IVec S8x2048 32 := iota .tc S8x2048 32 [0] iota_S8x2048_d0_w32

/-- Eight rows of an array, those of trip `k`. -/
abbrev rows (A : Vec F S1024x2048 .f32) (k : Fin k0_t1_loop.trips) : Vec F S8x2048 .f32 :=
  View.ld A (Rect.unit (s := S1024x2048) (k0_off1 k) S8x2048.size (k0_off1_inb k))

/-- The eight states of a group of rows with decays `a` and inputs `b`, from the state before it (`h`, in every row). -/
def groupStates (a b h : Vec F S8x2048 .f32) : FVec F S8x2048 .f32 :=
  k0_pay93 h (k0_pay5 rowIota a b) (k0_pay6 rowIota a) (k0_pay7 rowIota a) (k0_pay8 rowIota) 4#32

/-- The last of the eight states, in every row. -/
def groupLast (a b h : Vec F S8x2048 .f32) : FVec F S8x2048 .f32 :=
  k0_pay95 h (k0_pay5 rowIota a b) (k0_pay6 rowIota a) (k0_pay7 rowIota a) (k0_pay8 rowIota) 4#32

/-- The scan before trip `k`: the carried state (in every row), and the array whose first `8 k` rows hold states
    and whose other rows still hold the inputs `B`. -/
def scan (A B : Vec F S1024x2048 .f32) (h₀ : Vec F S8x2048 .f32) : ℕ → Vec F S8x2048 .f32 × Vec F S1024x2048 .f32
  | 0 => (h₀, B)
  | n + 1 =>
    if hk : n < k0_t1_loop.trips then
      (groupLast (rows A ⟨n, hk⟩) (rows (scan A B h₀ n).2 ⟨n, hk⟩) (scan A B h₀ n).1,
       VecWindow.put (scan A B h₀ n).2 ![8 * n, 0] S8x2048.size
         (groupStates (rows A ⟨n, hk⟩) (rows (scan A B h₀ n).2 ⟨n, hk⟩) (scan A B h₀ n).1))
    else scan A B h₀ n

theorem scan_succ (A B : Vec F S1024x2048 .f32) (h₀ : Vec F S8x2048 .f32) (k : Fin k0_t1_loop.trips) :
    scan A B h₀ (k.val + 1)
      = (groupLast (rows A k) (rows (scan A B h₀ k.val).2 k) (scan A B h₀ k.val).1,
         VecWindow.put (scan A B h₀ k.val).2 ![8 * k.val, 0] S8x2048.size
           (groupStates (rows A k) (rows (scan A B h₀ k.val).2 k) (scan A B h₀ k.val).1)) := by
  rw [scan.eq_2]; exact dif_pos k.isLt

/-- The state a block ends with, in every one of eight rows. -/
def lastOf (A B : Vec F S1024x2048 .f32) (h₀ : Vec F S8x2048 .f32) : Vec F S8x2048 .f32 := (scan A B h₀ k0_t1_loop.trips).1

/-- All states of a block. -/
def statesOf (A B : Vec F S1024x2048 .f32) (h₀ : Vec F S8x2048 .f32) : Vec F S1024x2048 .f32 := (scan A B h₀ k0_t1_loop.trips).2

/-- What the last block of a sequence leaves as convolution state: its last three rows. -/
def convOut (x : Vec F S1024x2048 .bf16) : FVec F S1x3x2048 .f32 := k0_pay2 (k0_pay11 x)

end Cert.KernelIdeal.Rg

end
-- ==== Proof.Scalar.lean ====
/- The scalar mathematics of the gated recurrence over the extended reals: the logistic function and its form by the
   hyperbolic tangent, the soft maximum, the decay and the driven input, and the two forms of the input's scale. -/
module

public import Idealize.ShloMosaic.PureOps.Ideal.Laws
public import Idealize.ShloMosaic.Lib.IdealHost

@[expose] public section

noncomputable section

namespace Cert.KernelIdeal.Rg

open Idealize.ShloMosaic

/-- One half, eight with a minus sign, and two: what the printed constants denote. -/
theorem half_val : Ideal.ofBits .f32 0x3F000000#32 = ((1 / 2 : ℝ) : EReal) := by
  simp [Ideal.ofBits, Ideal.ieee, -EReal.coe_mul]; norm_num
theorem eight_val : Ideal.ofBits .f32 0xC1000000#32 = ((-8 : ℝ) : EReal) := by
  simp [Ideal.ofBits, Ideal.ieee, -EReal.coe_mul, -EReal.coe_neg]; norm_num
theorem two_val : Ideal.ofBits .f32 0x40000000#32 = ((2 : ℝ) : EReal) := by
  simp [Ideal.ofBits, Ideal.ieee, -EReal.coe_mul]; norm_num

/-- The logistic function. -/
def sg (z : EReal) : EReal := Ideal.div 1 (1 + Ideal.exp (-z))

/-- The soft maximum of `-l` and zero. -/
def sp (l : EReal) : EReal := max (-l) 0 + Ideal.log1p (Ideal.exp (-(max l (-l))))

/-- The logarithm of the decay, from the recurrence gate's logit and the decay parameter. -/
def la (z l : EReal) : EReal := Ideal.ofBits .f32 0xC1000000#32 * sg z * sp l

/-- The decay. -/
def dec (z l : EReal) : EReal := Ideal.exp (la z l)

/-- The driven input: scaled so that the state keeps its size, gated, times the convolved input. -/
def inp (z z' l x : EReal) : EReal := Ideal.sqrt (-(Ideal.expm1 (Ideal.ofBits .f32 0x40000000#32 * la z l))) * sg z' * x

theorem sg_coe (r : ℝ) : sg (r : EReal) = ((1 / (1 + Real.exp (-r)) : ℝ) : EReal) := by
  unfold sg
  have h : (1 : EReal) + Ideal.exp (-(r : EReal)) = ((1 + Real.exp (-r) : ℝ) : EReal) := by
    rw [← EReal.coe_neg, Ideal.exp_coe]; rfl
  have hp : (0 : ℝ) < 1 + Real.exp (-r) := by have := Real.exp_pos (-r); linarith
  rw [h, Ideal.div, if_neg (by exact_mod_cast hp.ne'), ← EReal.coe_inv, ← EReal.coe_one, ← EReal.coe_mul, one_div, one_mul]

theorem sg_top : sg ⊤ = 1 := by
  unfold sg
  rw [EReal.neg_top, Ideal.exp_bot, add_zero, Ideal.div, if_neg one_ne_zero, one_mul, ← EReal.coe_one, ← EReal.coe_inv, inv_one]

theorem sg_bot : sg ⊥ = 0 := by
  unfold sg
  rw [EReal.neg_bot, Ideal.exp_top, ← EReal.coe_one, EReal.coe_add_top, Ideal.div, if_neg EReal.top_ne_zero, EReal.inv_top, mul_zero]

theorem half_tanh_real (r : ℝ) : (1 / 2 : ℝ) + 1 / 2 * Real.tanh (1 / 2 * r) = 1 / (1 + Real.exp (-r)) := by
  rw [Real.tanh_eq_sinh_div_cosh, Real.sinh_eq, Real.cosh_eq]
  have e : Real.exp (-r) = Real.exp (-(1 / 2 * r)) / Real.exp (1 / 2 * r) := by
    rw [← Real.exp_sub]; congr 1; ring
  have h1 := Real.exp_pos (1 / 2 * r)
  have h2 := Real.exp_pos (-(1 / 2 * r))
  rw [e]
  field_simp
  ring

/-- The kernel's form of the logistic function, by the hyperbolic tangent of half the logit. -/
theorem half_tanh (z : EReal) :
    Ideal.ofBits .f32 0x3F000000#32 + Ideal.ofBits .f32 0x3F000000#32 * Ideal.tanh (Ideal.ofBits .f32 0x3F000000#32 * z) = sg z := by
  rw [half_val]
  have hpos : (0 : EReal) < ((1 / 2 : ℝ) : EReal) := by norm_cast; norm_num
  induction z with
  | bot =>
    rw [EReal.coe_mul_bot_of_pos (by norm_num), sg_bot]
    show ((1 / 2 : ℝ) : EReal) + ((1 / 2 : ℝ) : EReal) * (-1) = 0
    rw [← EReal.coe_one, ← EReal.coe_neg, ← EReal.coe_mul, ← EReal.coe_add]; norm_num
  | top =>
    rw [EReal.coe_mul_top_of_pos (by norm_num), sg_top]
    show ((1 / 2 : ℝ) : EReal) + ((1 / 2 : ℝ) : EReal) * 1 = 1
    rw [mul_one, ← EReal.coe_add]; norm_num
  | coe r =>
    rw [sg_coe, ← EReal.coe_mul, Ideal.tanh_coe, ← EReal.coe_mul, ← EReal.coe_add, half_tanh_real]

theorem sg_nonneg (z : EReal) : 0 ≤ sg z := by
  induction z with
  | bot => rw [sg_bot]
  | top => rw [sg_top]; exact zero_le_one
  | coe r => rw [sg_coe]; exact_mod_cast by have := Real.exp_pos (-r); positivity

theorem exp_nonneg (x : EReal) : 0 ≤ Ideal.exp x := by
  induction x with
  | bot => exact le_refl _
  | top => exact le_top
  | coe r => show (0 : EReal) ≤ (Real.exp r : EReal); exact_mod_cast (Real.exp_pos r).le

theorem log1p_nonneg (x : EReal) (h : 0 ≤ x) : 0 ≤ Ideal.log1p x := by
  unfold Ideal.log1p
  induction x with
  | bot => simp at h
  | top => rw [← EReal.coe_one, EReal.coe_add_top]; exact le_top
  | coe r =>
    have hr : 0 ≤ r := by exact_mod_cast h
    rw [← EReal.coe_one, ← EReal.coe_add]
    show (0 : EReal) ≤ if (1 + r) ≤ 0 then ⊥ else (Real.log (1 + r) : EReal)
    rw [if_neg (by linarith)]
    exact_mod_cast Real.log_nonneg (by linarith)

theorem sp_nonneg (l : EReal) : 0 ≤ sp l := add_nonneg (le_max_right _ _) (log1p_nonneg _ (exp_nonneg _))

theorem la_nonpos (z l : EReal) : la z l ≤ 0 := by
  unfold la
  rw [eight_val, mul_assoc, EReal.coe_neg, EReal.neg_mul]
  have h8 : (0 : EReal) ≤ ((8 : ℝ) : EReal) := by exact_mod_cast (by norm_num : (0 : ℝ) ≤ 8)
  have h := EReal.neg_le_neg_iff.mpr (mul_nonneg h8 (mul_nonneg (sg_nonneg z) (sp_nonneg l)))
  rwa [neg_zero] at h

theorem dec_nonneg (z l : EReal) : 0 ≤ dec z l := exp_nonneg _

theorem dec_ne_top (z l : EReal) : dec z l ≠ ⊤ := by
  unfold dec
  have h := la_nonpos z l
  generalize la z l = x at h
  induction x with
  | bot => exact EReal.zero_ne_top
  | top => simp at h
  | coe r => exact EReal.coe_ne_top _

/-- The kernel's scale `√(1 − a·a)` is the reference's `√(−(e^{2 log a} − 1))`. -/
theorem scale_eq (z l : EReal) :
    Ideal.ofBits .f32 0x3F800000#32 - dec z l * dec z l = -(Ideal.expm1 (Ideal.ofBits .f32 0x40000000#32 * la z l)) := by
  rw [Ideal.ofBits_one_f32, two_val]
  unfold dec Ideal.expm1
  have h := la_nonpos z l
  generalize la z l = x at h
  induction x with
  | bot =>
    rw [EReal.coe_mul_bot_of_pos (by norm_num)]
    show (1 : EReal) - 0 * 0 = -(0 - 1)
    simp
  | top => simp at h
  | coe r =>
    rw [← EReal.coe_mul]
    show (1 : EReal) - (Real.exp r : EReal) * (Real.exp r : EReal) = -((Real.exp (2 * r) : EReal) - 1)
    rw [← EReal.coe_mul, ← EReal.coe_one, ← EReal.coe_sub, ← EReal.coe_sub, ← EReal.coe_neg, two_mul, Real.exp_add]
    congr 1; ring

/-- The kernel's soft maximum. -/
theorem sp_kernel (l : EReal) :
    max (Ideal.ofBits .f32 0x00000000#32 - l) (Ideal.ofBits .f32 0x00000000#32)
      + Ideal.log1p (Ideal.exp (Ideal.ofBits .f32 0x00000000#32 - max l (-l))) = sp l := by
  rw [Ideal.ofBits_zero_f32, zero_sub, zero_sub]; rfl

/-- The reference's soft maximum. -/
theorem sp_reference (l : EReal) :
    max (-l) (Ideal.ofBits .f32 0x00000000#32)
      + Ideal.log1p (Ideal.exp (-(max (-l - Ideal.ofBits .f32 0x00000000#32) (-(-l - Ideal.ofBits .f32 0x00000000#32))))) = sp l := by
  rw [Ideal.ofBits_zero_f32, sub_zero, neg_neg, max_comm (-l) l]; rfl

/-- A decay distributes over a sum. -/
theorem dec_mul_add (a x y : EReal) (h0 : 0 ≤ a) (h1 : a ≠ ⊤) : a * (x + y) = a * x + a * y :=
  EReal.left_distrib_of_nonneg_of_ne_top h0 h1 x y

/-- The gate nonlinearity of the reference (the tangent form of the Gaussian error unit). -/
def gelu (g : EReal) : EReal :=
  g * (Ideal.ofBits .f32 0x3F000000#32 * (Ideal.ofBits .f32 0x3F800000#32
    + Ideal.tanh (Ideal.ofBits .f32 0x3F4C422A#32 * (g + Ideal.ofBits .f32 0x3D372713#32 * (g * g * g)))))

/-- The kernel's form of it. -/
theorem gelu_kernel (g : EReal) :
    Ideal.ofBits .f32 0x3F000000#32 * g * (Ideal.ofBits .f32 0x3F800000#32
      + Ideal.tanh (Ideal.ofBits .f32 0x3F4C422A#32 * (g + Ideal.ofBits .f32 0x3D372713#32 * g * g * g))) = gelu g := by
  unfold gelu
  rw [show Ideal.ofBits .f32 0x3D372713#32 * g * g * g = Ideal.ofBits .f32 0x3D372713#32 * (g * g * g) by ac_rfl]
  ac_rfl

end Cert.KernelIdeal.Rg

end
-- ==== Proof.Gates.lean ====
/- The gate coefficients of a block over the extended reals: column `128 n + j` of the decays and of the driven inputs
   is made from head `n`'s logits `j` and `128 + j`, the column's decay parameter and the column's convolved input. -/
module

public import proofs.«01_k».proof.Proof.Body
public import proofs.«01_k».proof.Proof.Scalar
public import Idealize.ShloMosaic.Lib.MatmulPlain
public import Idealize.ShloMosaic.Lib.ValueLayout
public import Idealize.ShloMosaic.Lib.Pipeline.ValueKit.Tiles

@[expose] public section

set_option maxRecDepth 16384

noncomputable section

namespace Cert.KernelIdeal.Rg

open Idealize.ShloMosaic Idealize.ShloMosaic.ValueIdx
open Cert.KernelIdeal Cert.KernelIdeal.Gen

section Blocks
variable {F : FTy → Type} [FloatOps F]

theorem slc (n : Fin 16) : S1024x2048.Slices ![0, 128 * n.val] S1024x128 := by
  refine ⟨rfl, fun a => ?_⟩
  match a with
  | ⟨0, _⟩ => show 0 + 1024 ≤ 1024; omega
  | ⟨1, _⟩ => show 128 * n.val + 128 ≤ 2048; have := n.isLt; omega

theorem slr (n : Fin 16) : S1x2048.Slices ![0, 128 * n.val] S1x128 := by
  refine ⟨rfl, fun a => ?_⟩
  match a with
  | ⟨0, _⟩ => show 0 + 1 ≤ 1; omega
  | ⟨1, _⟩ => show 128 * n.val + 128 ≤ 2048; have := n.isLt; omega

theorem inw (n : Fin 16) : ∀ a, (![n.val, 0, 0] : Fin 3 → Nat) a + S1x128x256.size a ≤ S16x128x256.size a := fun a => by
  match a with
  | ⟨0, _⟩ => show n.val + 1 ≤ 16; have := n.isLt; omega
  | ⟨1, _⟩ => show 0 + 128 ≤ 128; omega
  | ⟨2, _⟩ => show 0 + 256 ≤ 256; omega

theorem inbi (n : Fin 16) : ∀ a, (![n.val, 0, 0] : Fin 3 → Nat) a + S1x1x256.size a ≤ S16x1x256.size a := fun a => by
  match a with
  | ⟨0, _⟩ => show n.val + 1 ≤ 16; have := n.isLt; omega
  | ⟨1, _⟩ => show 0 + 1 ≤ 1; omega
  | ⟨2, _⟩ => show 0 + 256 ≤ 256; omega

/-- Head `n`'s columns of the convolved input. -/
def xBlk (v28 : FVec F S1024x2048 .f32) (n : Fin 16) : FVec F S1024x128 .f32 :=
  extractStridedSlice S1024x128 ![0, 128 * n.val] v28 (slc n)

/-- Head `n`'s logits of both gates. -/
def zBlk (v28 : FVec F S1024x2048 .f32) (w : Vec F S16x128x256 .bf16) (bi : Vec F S16x1x256 .f32) (n : Fin 16) : FVec F S1024x256 .f32 :=
  addf (matmul dot_S1024x128_S128x256_S1024x256_1_0_0_1_n_n none (truncf .bf16 (xBlk v28 n) bitsLt_bf16_f32)
      (shapeCast S128x256 (View.ld w (Rect.unit (s := S16x128x256) ![n.val, 0, 0] S1x128x256.size (inw n)) : Vec F S1x128x256 .bf16) shapeCasts_S1x128x256_S128x256)
      (constant S1024x256 .f32 0x00000000#32))
    (broadcastTo S1024x256 (shapeCast S1x256 (View.ld bi (Rect.unit (s := S16x1x256) ![n.val, 0, 0] S1x1x256.size (inbi n)) : Vec F S1x1x256 .f32) shapeCasts_S1x1x256_S1x256)
      broadcasts_S1x256_S1024x256)

/-- Head `n`'s gates. -/
def gBlk (z : FVec F S1024x256 .f32) : FVec F S1024x256 .f32 :=
  addf (broadcast S1024x256 (Scalar.ofBits .f32 0x3F000000#32))
    (mulf (broadcast S1024x256 (Scalar.ofBits .f32 0x3F000000#32)) (tanh (mulf (broadcast S1024x256 (Scalar.ofBits .f32 0x3F000000#32)) z)))

/-- Head `n`'s decays. -/
def aBlk (g : FVec F S1024x256 .f32) (v44 : FVec F S1x2048 .f32) (n : Fin 16) : FVec F S1024x128 .f32 :=
  exp (mulf (mulf (broadcast S1024x128 (Scalar.ofBits .f32 0xC1000000#32)) (extractStridedSlice S1024x128 ![0, 0] g slices_S1024x256_o0_0_S1024x128))
    (broadcastTo S1024x128 (extractStridedSlice S1x128 ![0, 128 * n.val] v44 (slr n)) broadcasts_S1x128_S1024x128))

/-- Head `n`'s driven inputs. -/
def bBlk (g : FVec F S1024x256 .f32) (a x : FVec F S1024x128 .f32) : FVec F S1024x128 .f32 :=
  mulf (mulf (sqrt (subf (broadcast S1024x128 (Scalar.ofBits .f32 0x3F800000#32)) (mulf a a)))
    (extractStridedSlice S1024x128 ![0, 128] g slices_S1024x256_o0_128_S1024x128)) x

def aOf (v28 : FVec F S1024x2048 .f32) (v34 : FVec F S1x2048 .f32) (w : Vec F S16x128x256 .bf16) (bi : Vec F S16x1x256 .f32) (n : Fin 16) : FVec F S1024x128 .f32 :=
  aBlk (gBlk (zBlk v28 w bi n)) (k0_pay15 v34) n

def bOf (v28 : FVec F S1024x2048 .f32) (v34 : FVec F S1x2048 .f32) (w : Vec F S16x128x256 .bf16) (bi : Vec F S16x1x256 .f32) (n : Fin 16) : FVec F S1024x128 .f32 :=
  bBlk (gBlk (zBlk v28 w bi n)) (aOf v28 v34 w bi n) (xBlk v28 n)

/-- The decays of a block are the sixteen heads' side by side. -/
theorem gates_fst (v28 : FVec F S1024x2048 .f32) (v34 : FVec F S1x2048 .f32) (w : Vec F S16x128x256 .bf16) (bi : Vec F S16x1x256 .f32) :
    (gates v28 v34 w bi).1 = concatenate S1024x2048 1 (List.ofFn fun n : Fin 16 => (⟨S1024x128, aOf v28 v34 w bi n⟩ : (s : Shape) × (s.Idx → F .f32)))
      concatenates_S1024x128_S1024x128_S1024x128_S1024x128_S1024x128_S1024x128_S1024x128_S1024x128_S1024x128_S1024x128_S1024x128_S1024x128_S1024x128_S1024x128_S1024x128_S1024x128_S1024x2048_d1 := by
  have e : (gates v28 v34 w bi).1 = shapeCast S1024x2048 (concatenate S1024x2048 1
      ([⟨S1024x128, aOf v28 v34 w bi 0⟩, ⟨S1024x128, aOf v28 v34 w bi 1⟩, ⟨S1024x128, aOf v28 v34 w bi 2⟩, ⟨S1024x128, aOf v28 v34 w bi 3⟩, ⟨S1024x128, aOf v28 v34 w bi 4⟩, ⟨S1024x128, aOf v28 v34 w bi 5⟩, ⟨S1024x128, aOf v28 v34 w bi 6⟩, ⟨S1024x128, aOf v28 v34 w bi 7⟩, ⟨S1024x128, aOf v28 v34 w bi 8⟩, ⟨S1024x128, aOf v28 v34 w bi 9⟩, ⟨S1024x128, aOf v28 v34 w bi 10⟩, ⟨S1024x128, aOf v28 v34 w bi 11⟩, ⟨S1024x128, aOf v28 v34 w bi 12⟩, ⟨S1024x128, aOf v28 v34 w bi 13⟩, ⟨S1024x128, aOf v28 v34 w bi 14⟩, ⟨S1024x128, aOf v28 v34 w bi 15⟩] : List ((s : Shape) × (s.Idx → F .f32)))
      concatenates_S1024x128_S1024x128_S1024x128_S1024x128_S1024x128_S1024x128_S1024x128_S1024x128_S1024x128_S1024x128_S1024x128_S1024x128_S1024x128_S1024x128_S1024x128_S1024x128_S1024x2048_d1) shapeCasts_S1024x2048_S1024x2048 := rfl
  rw [e, shapeCast_self]
  rfl

/-- The driven inputs of a block are the sixteen heads' side by side. -/
theorem gates_snd (v28 : FVec F S1024x2048 .f32) (v34 : FVec F S1x2048 .f32) (w : Vec F S16x128x256 .bf16) (bi : Vec F S16x1x256 .f32) :
    (gates v28 v34 w bi).2 = concatenate S1024x2048 1 (List.ofFn fun n : Fin 16 => (⟨S1024x128, bOf v28 v34 w bi n⟩ : (s : Shape) × (s.Idx → F .f32)))
      concatenates_S1024x128_S1024x128_S1024x128_S1024x128_S1024x128_S1024x128_S1024x128_S1024x128_S1024x128_S1024x128_S1024x128_S1024x128_S1024x128_S1024x128_S1024x128_S1024x128_S1024x2048_d1 := by
  have e : (gates v28 v34 w bi).2 = shapeCast S1024x2048 (concatenate S1024x2048 1
      ([⟨S1024x128, bOf v28 v34 w bi 0⟩, ⟨S1024x128, bOf v28 v34 w bi 1⟩, ⟨S1024x128, bOf v28 v34 w bi 2⟩, ⟨S1024x128, bOf v28 v34 w bi 3⟩, ⟨S1024x128, bOf v28 v34 w bi 4⟩, ⟨S1024x128, bOf v28 v34 w bi 5⟩, ⟨S1024x128, bOf v28 v34 w bi 6⟩, ⟨S1024x128, bOf v28 v34 w bi 7⟩, ⟨S1024x128, bOf v28 v34 w bi 8⟩, ⟨S1024x128, bOf v28 v34 w bi 9⟩, ⟨S1024x128, bOf v28 v34 w bi 10⟩, ⟨S1024x128, bOf v28 v34 w bi 11⟩, ⟨S1024x128, bOf v28 v34 w bi 12⟩, ⟨S1024x128, bOf v28 v34 w bi 13⟩, ⟨S1024x128, bOf v28 v34 w bi 14⟩, ⟨S1024x128, bOf v28 v34 w bi 15⟩] : List ((s : Shape) × (s.Idx → F .f32)))
      concatenates_S1024x128_S1024x128_S1024x128_S1024x128_S1024x128_S1024x128_S1024x128_S1024x128_S1024x128_S1024x128_S1024x128_S1024x128_S1024x128_S1024x128_S1024x128_S1024x128_S1024x2048_d1) shapeCasts_S1024x2048_S1024x2048 := rfl
  rw [e, shapeCast_self]
  rfl

end Blocks

section Read
variable (v28 : FVec Ideal S1024x2048 .f32) (w : Vec Ideal S16x128x256 .bf16) (bi : Vec Ideal S16x1x256 .f32)

theorem xBlk_apply (n : Fin 16) (t : Fin 1024) (j : Fin 128) :
    xBlk v28 n (ix2 t j) = v28 (ix2 t ⟨128 * n.val + j.val, by have := n.isLt; have := j.isLt; omega⟩) :=
  extractStridedSlice_apply _ _ _ _ _ (fun x => by
    match x with
    | ⟨0, _⟩ => exact (Nat.zero_add _).symm
    | ⟨1, _⟩ => rfl)

/-- A logit: head `n`'s input against a column of the head's weight, plus the bias. -/
def logit (t : Fin 1024) (n : Fin 16) (j : Fin 256) : EReal :=
  (∑ k : Fin 128, v28 (ix2 t ⟨128 * n.val + k.val, by have := n.isLt; have := k.isLt; omega⟩) * w (ix3 n k j)) + bi (ix3 n 0 j)

theorem zBlk_apply (n : Fin 16) (t : Fin 1024) (j : Fin 256) : zBlk v28 w bi n (ix2 t j) = logit v28 w bi t n j := by
  unfold zBlk logit
  refine (addf_apply _ _ _).trans (congrArg₂ (· + ·) ?_ ?_)
  · refine (Ideal.matmul_plain_apply (M := 1024) (K := 128) (N := 256) none _ _ _ t j).trans (((congrArg (· + _) Ideal.ofBits_zero_f32).trans (zero_add _)).trans (Finset.sum_congr rfl fun k _ => congrArg₂ (· * ·) (xBlk_apply v28 n t k) ?_))
    refine (shapeCast_1ab_ab_apply _ _ k j).trans (View.ld_unit_apply_of _ _ _ _ _ _ fun a => ?_)
    match a with
    | ⟨0, _⟩ => rfl
    | ⟨1, _⟩ => exact (Nat.zero_add _).symm
    | ⟨2, _⟩ => exact (Nat.zero_add _).symm
  · refine (broadcastTo_1b_ab_apply _ _ t j).trans ((shapeCast_1ab_ab_apply _ _ 0 j).trans (View.ld_unit_apply_of _ _ _ _ _ _ fun a => ?_))
    match a with
    | ⟨0, _⟩ => rfl
    | ⟨1, _⟩ => rfl
    | ⟨2, _⟩ => exact (Nat.zero_add _).symm

theorem gBlk_apply (z : FVec Ideal S1024x256 .f32) (i : S1024x256.Idx) : gBlk z i = sg (z i) := half_tanh (z i)

theorem aBlk_apply (g : FVec Ideal S1024x256 .f32) (v44 : FVec Ideal S1x2048 .f32) (n : Fin 16) (t : Fin 1024) (j : Fin 128) :
    aBlk g v44 n (ix2 t j)
      = Ideal.exp (Ideal.ofBits .f32 0xC1000000#32 * g (ix2 t ⟨j.val, by have := j.isLt; omega⟩)
          * v44 (ix2 0 ⟨128 * n.val + j.val, by have := n.isLt; have := j.isLt; omega⟩)) := by
  unfold aBlk
  refine congrArg Ideal.exp ((mulf_apply _ _ _).trans (congrArg₂ (· * ·) ((mulf_apply _ _ _).trans (congrArg (_ * ·) ?_)) ?_))
  · exact extractStridedSlice_apply _ _ _ _ _ (fun x => by
      match x with
      | ⟨0, _⟩ => exact (Nat.zero_add _).symm
      | ⟨1, _⟩ => exact (Nat.zero_add _).symm)
  · refine (broadcastTo_1b_ab_apply _ _ t j).trans (extractStridedSlice_apply _ _ _ _ _ (fun x => by
      match x with
      | ⟨0, _⟩ => rfl
      | ⟨1, _⟩ => rfl))

theorem bBlk_apply (g : FVec Ideal S1024x256 .f32) (a x : FVec Ideal S1024x128 .f32) (t : Fin 1024) (j : Fin 128) :
    bBlk g a x (ix2 t j)
      = Ideal.sqrt (Ideal.ofBits .f32 0x3F800000#32 - a (ix2 t j) * a (ix2 t j)) * g (ix2 t ⟨128 + j.val, by have := j.isLt; omega⟩) * x (ix2 t j) := by
  unfold bBlk
  refine (mulf_apply _ _ _).trans (congrArg (fun y => y * x (ix2 t j)) ((mulf_apply _ _ _).trans (congrArg (fun y => Ideal.sqrt (Ideal.ofBits .f32 0x3F800000#32 - a (ix2 t j) * a (ix2 t j)) * y) ?_)))
  exact extractStridedSlice_apply _ _ _ _ _ (fun x => by
    match x with
    | ⟨0, _⟩ => exact (Nat.zero_add _).symm
    | ⟨1, _⟩ => rfl)

/-- The row of decay parameters through the soft maximum. -/
theorem pay15_apply (lam : Vec Ideal S1x2048 .f32) (d : Fin 2048) : k0_pay15 (k0_pay14 lam) (ix2 0 d) = sp (lam (ix2 0 d)) := by
  unfold k0_pay15 k0_pay14
  rw [shapeCast_self]
  exact sp_kernel _

variable (lam : Vec Ideal S1x2048 .f32)

/-- THE DECAYS of a block. -/
theorem gates_fst_apply (t : Fin 1024) (n : Fin 16) (j : Fin 128) (d : Fin 2048) (hd : d.val = 128 * n.val + j.val) :
    (gates v28 (k0_pay14 lam) w bi).1 (ix2 t d)
      = dec (logit v28 w bi t n ⟨j.val, by have := j.isLt; omega⟩) (lam (ix2 0 d)) := by
  have e : d = ⟨128 * n.val + j.val, by have := n.isLt; have := j.isLt; omega⟩ := Fin.ext hd
  rw [gates_fst]
  refine (concatenate_ofFn_apply (t := S1024x2048) 1 (fun n => aOf v28 (k0_pay14 lam) w bi n) _ rfl 128 rfl (ix2 t d) n ?_ (ix2 t j) ?_ ?_).trans ?_
  · show d.val / 128 = n.val
    rw [hd]; have := j.isLt; omega
  · show j.val = d.val % 128
    rw [hd]; have := j.isLt; omega
  · intro b hb
    match b with
    | ⟨0, _⟩ => rfl
    | ⟨1, _⟩ => exact absurd rfl hb
  · unfold aOf
    rw [aBlk_apply, gBlk_apply, zBlk_apply, pay15_apply, ← e]; rfl

/-- THE DRIVEN INPUTS of a block. -/
theorem gates_snd_apply (t : Fin 1024) (n : Fin 16) (j : Fin 128) (d : Fin 2048) (hd : d.val = 128 * n.val + j.val) :
    (gates v28 (k0_pay14 lam) w bi).2 (ix2 t d)
      = inp (logit v28 w bi t n ⟨j.val, by have := j.isLt; omega⟩) (logit v28 w bi t n ⟨128 + j.val, by have := j.isLt; omega⟩)
          (lam (ix2 0 d)) (v28 (ix2 t d)) := by
  have e : d = ⟨128 * n.val + j.val, by have := n.isLt; have := j.isLt; omega⟩ := Fin.ext hd
  rw [gates_snd]
  refine (concatenate_ofFn_apply (t := S1024x2048) 1 (fun n => bOf v28 (k0_pay14 lam) w bi n) _ rfl 128 rfl (ix2 t d) n ?_ (ix2 t j) ?_ ?_).trans ?_
  · show d.val / 128 = n.val
    rw [hd]; have := j.isLt; omega
  · show j.val = d.val % 128
    rw [hd]; have := j.isLt; omega
  · intro b hb
    match b with
    | ⟨0, _⟩ => rfl
    | ⟨1, _⟩ => exact absurd rfl hb
  · unfold bOf aOf
    rw [bBlk_apply, aBlk_apply, gBlk_apply, gBlk_apply, zBlk_apply, zBlk_apply, pay15_apply, xBlk_apply, ← e]
    unfold inp
    rw [← scale_eq]; rfl

end Read

end Cert.KernelIdeal.Rg

end
-- ==== Proof.Group.lean ====
/- One group of eight rows of the scan over the extended reals: the three doubling steps of the kernel compute the eight
   states of the recurrence `h ↦ a·h + b`. -/
module

public import proofs.«01_k».proof.Proof.Body
public import proofs.«01_k».proof.Proof.Scalar
public import Idealize.ShloMosaic.Lib.KernelVsHost
public import Idealize.ShloMosaic.Lib.ValueLayout

@[expose] public section

noncomputable section

namespace Cert.KernelIdeal.Rg

open Idealize.ShloMosaic Idealize.ShloMosaic.ValueIdx
open Cert.KernelIdeal Cert.KernelIdeal.Gen

/-- The recurrence `h ↦ A n · h + B n`, from `h₀`: the state before step `n`. -/
def hs (A B : ℕ → EReal) (h₀ : EReal) : ℕ → EReal
  | 0 => h₀
  | n + 1 => A n * hs A B h₀ n + B n

/-- The recurrence from step `k` on is the recurrence of the shifted coefficients from the state before `k`. -/
theorem hs_shift (A B : ℕ → EReal) (h₀ : EReal) (k n : ℕ) :
    hs (fun i => A (k + i)) (fun i => B (k + i)) (hs A B h₀ k) n = hs A B h₀ (k + n) := by
  induction n with
  | zero => rfl
  | succ n ih => show A (k + n) * hs _ _ _ n + B (k + n) = _; rw [ih]; rfl

/-- The recurrence reads only the coefficients of the steps made. -/
theorem hs_congr {A B A' B' : ℕ → EReal} (h₀ : EReal) (n : ℕ) (hA : ∀ i, i < n → A i = A' i) (hB : ∀ i, i < n → B i = B' i) :
    hs A B h₀ n = hs A' B' h₀ n := by
  induction n with
  | zero => rfl
  | succ n ih =>
    show A n * hs A B h₀ n + B n = A' n * hs A' B' h₀ n + B' n
    rw [ih (fun i hi => hA i (by omega)) (fun i hi => hB i (by omega)), hA n (by omega), hB n (by omega)]

/-- A rotation of eight rows, read at a row. -/
theorem rot_apply {α : Type} (k : ℕ) (hk : k < 8) (x : S8x2048.Idx → α) (r : Fin 8) (d : Fin 2048) :
    dynamicRotate (0 : Fin S8x2048.rank) (BitVec.ofNat 32 k) none x rotates_S8x2048_d0 (ix2 r d)
      = x (ix2 ⟨(r.val + 8 - k) % 8, Nat.mod_lt _ (by norm_num)⟩ d) := by
  refine dynamicRotate_apply _ _ _ _ _ _ fun b => ?_
  match b with
  | ⟨0, _⟩ =>
    rw [if_pos (show (⟨0, by decide⟩ : Fin S8x2048.rank) = 0 from rfl)]
    show (r.val + 8 - k) % 8 = (r.val + 8 - (BitVec.ofNat 32 k).toNat % 8) % 8
    rw [BitVec.toNat_ofNat, Nat.mod_eq_of_lt (show k < 2 ^ 32 by omega), Nat.mod_eq_of_lt hk]
  | ⟨1, _⟩ => rw [if_neg (show ¬(⟨1, by decide⟩ : Fin S8x2048.rank) = 0 by decide)]

/-- The mask "row at least `k`", read at a row. -/
theorem mask_apply (k : ℕ) (hk : k < 8) (r : Fin 8) (d : Fin 2048) :
    cmpi .sge rowIota (broadcast S8x2048 (BitVec.ofNat 32 k)) (ix2 r d) = if k ≤ r.val then 1#1 else 0#1 := by
  show IntOp.cmpi .sge (BitVec.ofNat 32 (0 * 8 + r.val)) (BitVec.ofNat 32 k) = _
  rw [Nat.zero_mul, Nat.zero_add]
  have hr := r.isLt
  interval_cases k <;> (obtain ⟨r, h⟩ := r; interval_cases r <;> rfl)

/-- A masked select between a rotated array and a constant, read at a row. -/
theorem sel_apply (k : ℕ) (hk : k < 8) (x : Vec Ideal S8x2048 .f32) (c : BitVec 32) (r : Fin 8) (d : Fin 2048) :
    select (cmpi .sge rowIota (broadcast S8x2048 (BitVec.ofNat 32 k)))
        (dynamicRotate (0 : Fin S8x2048.rank) (BitVec.ofNat 32 k) none x rotates_S8x2048_d0)
        (broadcast S8x2048 (Scalar.ofBits (F := Ideal) .f32 c)) (ix2 r d)
      = if k ≤ r.val then x (ix2 ⟨(r.val + 8 - k) % 8, Nat.mod_lt _ (by norm_num)⟩ d) else Ideal.ofBits .f32 c := by
  rw [select_apply, mask_apply k hk, rot_apply k hk]
  by_cases h : k ≤ r.val
  · rw [if_pos h, if_pos h, select_one]
  · rw [if_neg h, if_neg h, select_zero]; rfl

section
variable (a b h : Vec Ideal S8x2048 .f32)

theorem pay4_apply (r : Fin 8) (d : Fin 2048) :
    k0_pay4 rowIota a (ix2 r d)
      = a (ix2 r d) * (if 1 ≤ r.val then a (ix2 ⟨(r.val + 8 - 1) % 8, Nat.mod_lt _ (by norm_num)⟩ d) else 1) := by
  unfold k0_pay4
  refine (mulf_apply _ _ _).trans ?_
  rw [← Ideal.ofBits_one_f32]
  exact congrArg _ (sel_apply 1 (by norm_num) a 0x3F800000#32 r d)

theorem pay6_apply (r : Fin 8) (d : Fin 2048) :
    k0_pay6 rowIota a (ix2 r d)
      = k0_pay4 rowIota a (ix2 r d) * (if 2 ≤ r.val then k0_pay4 rowIota a (ix2 ⟨(r.val + 8 - 2) % 8, Nat.mod_lt _ (by norm_num)⟩ d) else 1) := by
  unfold k0_pay6
  refine (mulf_apply _ _ _).trans ?_
  rw [← Ideal.ofBits_one_f32]
  exact congrArg _ (sel_apply 2 (by norm_num) (k0_pay4 rowIota a) 0x3F800000#32 r d)

theorem pay7_apply (r : Fin 8) (d : Fin 2048) :
    k0_pay7 rowIota a (ix2 r d)
      = if 4 ≤ r.val then k0_pay6 rowIota a (ix2 ⟨(r.val + 8 - 4) % 8, Nat.mod_lt _ (by norm_num)⟩ d) else 1 := by
  unfold k0_pay7
  rw [← Ideal.ofBits_one_f32]
  exact sel_apply 4 (by norm_num) (k0_pay6 rowIota a) 0x3F800000#32 r d

/-- The inputs after the first doubling step. -/
def in1 : Vec Ideal S8x2048 .f32 :=
  addf (mulf a (select (cmpi .sge rowIota (broadcast S8x2048 1#32)) (dynamicRotate (0 : Fin S8x2048.rank) 1#32 none b rotates_S8x2048_d0)
    (broadcast S8x2048 (Scalar.ofBits (F := Ideal) .f32 0x00000000#32)))) b

theorem in1_apply (r : Fin 8) (d : Fin 2048) :
    in1 a b (ix2 r d)
      = a (ix2 r d) * (if 1 ≤ r.val then b (ix2 ⟨(r.val + 8 - 1) % 8, Nat.mod_lt _ (by norm_num)⟩ d) else 0) + b (ix2 r d) := by
  refine (addf_apply _ _ _).trans (congrArg (· + _) ((mulf_apply _ _ _).trans ?_))
  rw [← Ideal.ofBits_zero_f32]
  exact congrArg _ (sel_apply 1 (by norm_num) b 0x00000000#32 r d)

theorem pay5_apply (r : Fin 8) (d : Fin 2048) :
    k0_pay5 rowIota a b (ix2 r d)
      = k0_pay4 rowIota a (ix2 r d) * (if 2 ≤ r.val then in1 a b (ix2 ⟨(r.val + 8 - 2) % 8, Nat.mod_lt _ (by norm_num)⟩ d) else 0) + in1 a b (ix2 r d) := by
  unfold k0_pay5
  refine (addf_apply _ _ _).trans (congrArg (· + _) ((mulf_apply _ _ _).trans ?_))
  rw [← Ideal.ofBits_zero_f32]
  exact congrArg _ (sel_apply 2 (by norm_num) (in1 a b) 0x00000000#32 r d)

theorem groupStates_read (r : Fin 8) (d : Fin 2048) :
    groupStates a b h (ix2 r d)
      = k0_pay6 rowIota a (ix2 r d) * k0_pay7 rowIota a (ix2 r d) * h (ix2 r d)
        + (k0_pay6 rowIota a (ix2 r d) * (if 4 ≤ r.val then k0_pay5 rowIota a b (ix2 ⟨(r.val + 8 - 4) % 8, Nat.mod_lt _ (by norm_num)⟩ d) else 0)
          + k0_pay5 rowIota a b (ix2 r d)) := by
  unfold groupStates k0_pay93 k0_pay8
  refine (addf_apply _ _ _).trans (congrArg₂ (· + ·) ((mulf_apply _ _ _).trans (congrArg (· * _) (mulf_apply _ _ _)))
    ((addf_apply _ _ _).trans (congrArg (· + _) ((mulf_apply _ _ _).trans ?_))))
  rw [← Ideal.ofBits_zero_f32]
  exact congrArg _ (sel_apply 4 (by norm_num) (k0_pay5 rowIota a b) 0x00000000#32 r d)

/-- THE GROUP: from decays in `[0, ∞)` the eight rows hold the eight states of the recurrence. -/
theorem groupStates_apply (A B : ℕ → EReal) (h₀ : EReal) (d : Fin 2048)
    (hA0 : ∀ n, n < 8 → 0 ≤ A n) (hA1 : ∀ n, n < 8 → A n ≠ ⊤)
    (ha : ∀ r : Fin 8, a (ix2 r d) = A r.val) (hb : ∀ r : Fin 8, b (ix2 r d) = B r.val) (hh : ∀ r : Fin 8, h (ix2 r d) = h₀) (r : Fin 8) :
    groupStates a b h (ix2 r d) = hs A B h₀ (r.val + 1) := by
  have d0 := fun x y => dec_mul_add (A 0) x y (hA0 0 (by norm_num)) (hA1 0 (by norm_num))
  have d1 := fun x y => dec_mul_add (A 1) x y (hA0 1 (by norm_num)) (hA1 1 (by norm_num))
  have d2 := fun x y => dec_mul_add (A 2) x y (hA0 2 (by norm_num)) (hA1 2 (by norm_num))
  have d3 := fun x y => dec_mul_add (A 3) x y (hA0 3 (by norm_num)) (hA1 3 (by norm_num))
  have d4 := fun x y => dec_mul_add (A 4) x y (hA0 4 (by norm_num)) (hA1 4 (by norm_num))
  have d5 := fun x y => dec_mul_add (A 5) x y (hA0 5 (by norm_num)) (hA1 5 (by norm_num))
  have d6 := fun x y => dec_mul_add (A 6) x y (hA0 6 (by norm_num)) (hA1 6 (by norm_num))
  have d7 := fun x y => dec_mul_add (A 7) x y (hA0 7 (by norm_num)) (hA1 7 (by norm_num))
  rw [groupStates_read]
  simp only [pay6_apply, pay7_apply, pay5_apply, pay4_apply, in1_apply, ha, hb, hh]
  obtain ⟨r, hr⟩ := r
  interval_cases r <;>
    simp only [hs, Nat.reduceAdd, Nat.reduceSub, Nat.reduceMod, Nat.reduceLeDiff, if_true, if_false, mul_zero, zero_add, mul_one,
      mul_assoc, add_assoc, d0, d1, d2, d3, d4, d5, d6, d7]

/-- The last state of the group, in every row. -/
theorem groupLast_apply (A B : ℕ → EReal) (h₀ : EReal) (d : Fin 2048)
    (hA0 : ∀ n, n < 8 → 0 ≤ A n) (hA1 : ∀ n, n < 8 → A n ≠ ⊤)
    (ha : ∀ r : Fin 8, a (ix2 r d) = A r.val) (hb : ∀ r : Fin 8, b (ix2 r d) = B r.val) (hh : ∀ r : Fin 8, h (ix2 r d) = h₀) (r : Fin 8) :
    groupLast a b h (ix2 r d) = hs A B h₀ 8 := by
  refine Eq.trans ?_ (groupStates_apply a b h A B h₀ d hA0 hA1 ha hb hh 7)
  unfold groupLast k0_pay95 groupStates
  refine (broadcastTo_1b_ab_apply _ _ r d).trans ?_
  rw [shapeCast_self]
  exact extractStridedSlice_apply _ _ _ _ (ix2 7 d) (fun x => by
    match x with
    | ⟨0, _⟩ => rfl
    | ⟨1, _⟩ => exact (Nat.zero_add _).symm)

end

end Cert.KernelIdeal.Rg

end
-- ==== Proof.Math.lean ====
/- The recurrence's mathematics, over the extended reals, as functions of the argument arrays: the causal convolution of a
   sequence, the two gates' logits, the decay and the driven input of every time step, and the state after every step.
   Time is counted by natural numbers; the sequences have 2048 steps. -/
module

public import proofs.«01_k».proof.Proof.Scalar
public import proofs.«01_k».proof.Proof.Group
public import Idealize.ShloMosaic.Lib.ValueIdx

@[expose] public section

noncomputable section

namespace Cert.KernelIdeal.Rg

open Idealize.ShloMosaic Idealize.ShloMosaic.ValueIdx

/-- The argument arrays, by coordinates. -/
structure Args where
  /-- the projected activations: one row a token, the first 2048 columns the recurrence's input, the next 2048 its output gate -/
  pa : Fin 16384 → Fin 8192 → EReal
  /-- the convolution's filter and bias -/
  wc : Fin 4 → Fin 2048 → EReal
  bc : Fin 2048 → EReal
  /-- the recurrence gate's weights and bias, head by head -/
  wa : Fin 16 → Fin 128 → Fin 128 → EReal
  ba : Fin 16 → Fin 128 → EReal
  /-- the input gate's -/
  wx : Fin 16 → Fin 128 → Fin 128 → EReal
  bx : Fin 16 → Fin 128 → EReal
  /-- the decay parameters -/
  lam : Fin 2048 → EReal

/-- The arguments of a memory's eight arrays. -/
def argsOf (a0 : Vec Ideal ⟨2, ![16384, 8192]⟩ .bf16) (a1 : Vec Ideal ⟨2, ![4, 2048]⟩ .f32) (a2 : Vec Ideal ⟨1, ![2048]⟩ .f32)
    (a3 : Vec Ideal ⟨3, ![16, 128, 128]⟩ .f32) (a4 : Vec Ideal ⟨2, ![16, 128]⟩ .f32) (a5 : Vec Ideal ⟨3, ![16, 128, 128]⟩ .f32)
    (a6 : Vec Ideal ⟨2, ![16, 128]⟩ .f32) (a7 : Vec Ideal ⟨1, ![2048]⟩ .f32) : Args where
  pa i j := a0 (ix2 i j)
  wc i j := a1 (ix2 i j)
  bc i := a2 (ix1 i)
  wa n k j := a3 (ix3 n k j)
  ba n j := a4 (ix2 n j)
  wx n k j := a5 (ix3 n k j)
  bx n j := a6 (ix2 n j)
  lam i := a7 (ix1 i)

variable (P : Args)

/-- Sequence `b`'s input at step `t`, column `d`. -/
def xin (b : Fin 8) (t : ℕ) (d : Fin 2048) : EReal :=
  if h : t < 2048 then P.pa ⟨2048 * b.val + t, by have := b.isLt; omega⟩ ⟨d.val, by have := d.isLt; omega⟩ else 0

theorem xin_of_lt (b : Fin 8) (t : ℕ) (d : Fin 2048) (h : t < 2048) :
    xin P b t d = P.pa ⟨2048 * b.val + t, by have := b.isLt; omega⟩ ⟨d.val, by have := d.isLt; omega⟩ := dif_pos h

/-- The same with three zero steps before the sequence. -/
def full (b : Fin 8) (k : ℕ) (d : Fin 2048) : EReal := if k < 3 then 0 else xin P b (k - 3) d

/-- The convolved input. -/
def cv (b : Fin 8) (t : ℕ) (d : Fin 2048) : EReal :=
  P.bc d + full P b t d * P.wc 0 d + full P b (t + 1) d * P.wc 1 d + full P b (t + 2) d * P.wc 2 d + full P b (t + 3) d * P.wc 3 d

/-- A logit of a gate with weights `w` and bias `bi`. -/
def lgt (w : Fin 16 → Fin 128 → Fin 128 → EReal) (bi : Fin 16 → Fin 128 → EReal) (b : Fin 8) (t : ℕ) (n : Fin 16) (j : Fin 128) : EReal :=
  (∑ k : Fin 128, cv P b t ⟨128 * n.val + k.val, by have := n.isLt; have := k.isLt; omega⟩ * w n k j) + bi n j

/-- A column's head, and its place in the head. -/
def hd (d : Fin 2048) : Fin 16 := ⟨d.val / 128, by have := d.isLt; omega⟩
def pl (d : Fin 2048) : Fin 128 := ⟨d.val % 128, by omega⟩

theorem hd_pl (d : Fin 2048) : d.val = 128 * (hd d).val + (pl d).val := by unfold hd pl; dsimp only; omega

/-- The decay and the driven input of a step. -/
def aC (b : Fin 8) (d : Fin 2048) (t : ℕ) : EReal := dec (lgt P P.wa P.ba b t (hd d) (pl d)) (P.lam d)
def bC (b : Fin 8) (d : Fin 2048) (t : ℕ) : EReal :=
  inp (lgt P P.wa P.ba b t (hd d) (pl d)) (lgt P P.wx P.bx b t (hd d) (pl d)) (P.lam d) (cv P b t d)

/-- The state after `n` steps. -/
def st (b : Fin 8) (d : Fin 2048) (n : ℕ) : EReal := hs (aC P b d) (bC P b d) 0 n

/-- The three results: the gated states, the last three inputs of every sequence, the last state of every sequence. -/
def yR (i : Fin 16384) (d : Fin 2048) : EReal :=
  st P ⟨i.val / 2048, by have := i.isLt; omega⟩ d (i.val % 2048 + 1) * gelu (P.pa i ⟨2048 + d.val, by have := d.isLt; omega⟩)
def cR (b : Fin 8) (j : Fin 3) (d : Fin 2048) : EReal := xin P b (2045 + j.val) d
def hR (b : Fin 8) (d : Fin 2048) : EReal := st P b d 2048

end Cert.KernelIdeal.Rg

end
-- ==== Proof.Loop.lean ====
/- One trip of the scan's loop, and the loop by its invariant. -/
module

public import proofs.«01_k».proof.Proof.Body

@[expose] public section

set_option maxRecDepth 16384

noncomputable section

namespace Cert.KernelIdeal.Rg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- What holds before trip `k`: the decays as they were, the array of inputs and states at the scan's, and the
    carried value the scan's. -/
abbrev scanInv (c : Dev nD) (arg15 arg16 : Memref sig .tc .vmem S1024x2048 .f32) (A B : Vec F S1024x2048 .f32)
    (h₀ : Vec F S8x2048 .f32) (k : ℕ) (acc : Vec F S8x2048 .f32) : sProp 𝕄 :=
  iprop(owns (c : Thread nD τ) arg15 fullShare A ∗ owns (c : Thread nD τ) arg16 fullShare (scan A B h₀ k).2
    ∗ ⌜acc = (scan A B h₀ k).1⌝)

set_option maxHeartbeats 4000000 in
/-- One trip of the loop at the scan's state. -/
theorem trip (c : Dev nD) (E : Set ℕ) (i : grid0.Coords) (arg3 : Memref sig .tc .vmem S1024x2048 .bf16) (harg3 : arg3.IsWhole) (arg4 : Memref sig .tc .vmem S1024x2048 .bf16) (harg4 : arg4.IsWhole) (arg5 : Memref sig .tc .vmem S4x2048 .f32) (harg5 : arg5.IsWhole) (arg6 : Memref sig .tc .vmem S1x2048 .f32) (harg6 : arg6.IsWhole) (arg7 : Memref sig .tc .vmem S16x128x256 .bf16) (harg7 : arg7.IsWhole) (arg8 : Memref sig .tc .vmem S16x1x256 .f32) (harg8 : arg8.IsWhole) (arg9 : Memref sig .tc .vmem S1x2048 .f32) (harg9 : arg9.IsWhole) (arg10 : Memref sig .tc .vmem S1024x2048 .bf16) (harg10 : arg10.IsWhole) (arg11 : Memref sig .tc .vmem S1x3x2048 .f32) (harg11 : arg11.IsWhole) (arg12 : Memref sig .tc .vmem S1x1x2048 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S1024x2048 .f32) (harg15 : arg15.IsWhole) (arg16 : Memref sig .tc .vmem S1024x2048 .f32) (harg16 : arg16.IsWhole) (v44 : FVec F S1x2048 .f32) (v68 : FVec F S1024x128 .f32) (v74 : FVec F S1024x128 .f32) (v98 : FVec F S1024x128 .f32) (v104 : FVec F S1024x128 .f32) (v128 : FVec F S1024x128 .f32) (v134 : FVec F S1024x128 .f32) (v158 : FVec F S1024x128 .f32) (v164 : FVec F S1024x128 .f32) (v188 : FVec F S1024x128 .f32) (v194 : FVec F S1024x128 .f32) (v218 : FVec F S1024x128 .f32) (v224 : FVec F S1024x128 .f32) (v248 : FVec F S1024x128 .f32) (v254 : FVec F S1024x128 .f32) (v278 : FVec F S1024x128 .f32) (v284 : FVec F S1024x128 .f32) (v308 : FVec F S1024x128 .f32) (v314 : FVec F S1024x128 .f32) (v338 : FVec F S1024x128 .f32) (v344 : FVec F S1024x128 .f32) (v368 : FVec F S1024x128 .f32) (v374 : FVec F S1024x128 .f32) (v398 : FVec F S1024x128 .f32) (v404 : FVec F S1024x128 .f32) (v428 : FVec F S1024x128 .f32) (v434 : FVec F S1024x128 .f32) (v458 : FVec F S1024x128 .f32) (v464 : FVec F S1024x128 .f32) (v488 : FVec F S1024x128 .f32) (v494 : FVec F S1024x128 .f32) (v495 : FVec F S1024x128 .f32) (v503 : FVec F S1024x256 .f32) (cst_192 : F .f32) (v533 : IVec S8x2048 32) (hv : v533 = rowIota) (A B : Vec F S1024x2048 .f32) (h₀ : Vec F S8x2048 .f32) (k : Fin k0_t1_loop.trips) (acc : Vec F S8x2048 .f32) :
    scanInv (F := F) c arg15 arg16 A B h₀ k.val acc
      ⊢ wp frame (wpE (defs₀ (F := F)) Variants.none (c : Thread nD τ) none) E (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 v44 v68 v74 v98 v104 v128 v134 v158 v164 v188 v194 v218 v224 v248 v254 v278 v284 v308 v314 v338 v344 v368 v374 v398 v404 v428 v434 v458 v464 v488 v494 v495 v503 cst_192 v533 k acc)
          (fun yld => scanInv (F := F) c arg15 arg16 A B h₀ (k.val + 1) yld) := by
  have hk : k.val < 128 := Nat.lt_of_lt_of_le k.isLt k0_t1_abs.2.1
  subst hv
  unfold scanInv owns
  iintro ⟨⟨%f15, %hf15, H15⟩, ⟨%f, %hf, H16⟩, %hacc⟩
  unfold k0_t1_body
  sl_exec
  sl_step
  have e1 : trip.sl.r c arg15 arg16 k f15 f = k0_pay5 rowIota (rows A k) (rows (scan A B h₀ k.val).2 k) := by
    sl_unfold_words; simp only [View.readAt_eq_ld, hf15, hf]; rfl
  have e2 : trip.sl.r_1 c arg15 k f15 = k0_pay6 rowIota (rows A k) := by
    sl_unfold_words; simp only [View.readAt_eq_ld, hf15, hf]; rfl
  have e3 : trip.sl.r_2 c arg15 k f15 = k0_pay7 rowIota (rows A k) := by
    sl_unfold_words; simp only [View.readAt_eq_ld, hf15, hf]; rfl
  isplitl [H15]
  · iexists _; isplitr; swap; · iexact H15
    ipureintro; exact hf15
  isplitl [H16]
  · iexists _; isplitr; swap; · iexact H16
    ipureintro
    rw [View.read_writes_cons_put _ _ _ _ _ (k0_off1_eq k), View.writes_nil, hf, scan_succ, e1, e2, e3, hacc]
    simp only [k0_pay94, shapeCast_self]; rfl
  ipureintro
  rw [scan_succ, e1, e2, e3, hacc]; rfl

/-- The loop at the head of a program: the continuation runs from the scan's last state. -/
theorem loop_run (c : Dev nD) (E : Set ℕ) {i : grid0.Coords} {arg3 : Memref sig .tc .vmem S1024x2048 .bf16} {harg3 : arg3.IsWhole} {arg4 : Memref sig .tc .vmem S1024x2048 .bf16} {harg4 : arg4.IsWhole} {arg5 : Memref sig .tc .vmem S4x2048 .f32} {harg5 : arg5.IsWhole} {arg6 : Memref sig .tc .vmem S1x2048 .f32} {harg6 : arg6.IsWhole} {arg7 : Memref sig .tc .vmem S16x128x256 .bf16} {harg7 : arg7.IsWhole} {arg8 : Memref sig .tc .vmem S16x1x256 .f32} {harg8 : arg8.IsWhole} {arg9 : Memref sig .tc .vmem S1x2048 .f32} {harg9 : arg9.IsWhole} {arg10 : Memref sig .tc .vmem S1024x2048 .bf16} {harg10 : arg10.IsWhole} {arg11 : Memref sig .tc .vmem S1x3x2048 .f32} {harg11 : arg11.IsWhole} {arg12 : Memref sig .tc .vmem S1x1x2048 .f32} {harg12 : arg12.IsWhole} {arg13 : Memref sig .tc .vmem S8x2048 .f32} {harg13 : arg13.IsWhole} {arg14 : Memref sig .tc .vmem S8x2048 .f32} {harg14 : arg14.IsWhole} {arg15 : Memref sig .tc .vmem S1024x2048 .f32} {harg15 : arg15.IsWhole} {arg16 : Memref sig .tc .vmem S1024x2048 .f32} {harg16 : arg16.IsWhole} {v44 : FVec F S1x2048 .f32} {v68 : FVec F S1024x128 .f32} {v74 : FVec F S1024x128 .f32} {v98 : FVec F S1024x128 .f32} {v104 : FVec F S1024x128 .f32} {v128 : FVec F S1024x128 .f32} {v134 : FVec F S1024x128 .f32} {v158 : FVec F S1024x128 .f32} {v164 : FVec F S1024x128 .f32} {v188 : FVec F S1024x128 .f32} {v194 : FVec F S1024x128 .f32} {v218 : FVec F S1024x128 .f32} {v224 : FVec F S1024x128 .f32} {v248 : FVec F S1024x128 .f32} {v254 : FVec F S1024x128 .f32} {v278 : FVec F S1024x128 .f32} {v284 : FVec F S1024x128 .f32} {v308 : FVec F S1024x128 .f32} {v314 : FVec F S1024x128 .f32} {v338 : FVec F S1024x128 .f32} {v344 : FVec F S1024x128 .f32} {v368 : FVec F S1024x128 .f32} {v374 : FVec F S1024x128 .f32} {v398 : FVec F S1024x128 .f32} {v404 : FVec F S1024x128 .f32} {v428 : FVec F S1024x128 .f32} {v434 : FVec F S1024x128 .f32} {v458 : FVec F S1024x128 .f32} {v464 : FVec F S1024x128 .f32} {v488 : FVec F S1024x128 .f32} {v494 : FVec F S1024x128 .f32} {v495 : FVec F S1024x128 .f32} {v503 : FVec F S1024x256 .f32} {cst_192 : F .f32} {v533 : IVec S8x2048 32} {init : Vec F S8x2048 .f32} (A B : Vec F S1024x2048 .f32) (h₀ : Vec F S8x2048 .f32)
    {β : Type} {kk : Vec F S8x2048 .f32 → Prog (TpuEff nD τ sig (Elt F) Λ₀ .tc) β} {Q : β → sProp 𝕄} :
    iprop(owns (c : Thread nD τ) arg15 fullShare A ∗ owns (c : Thread nD τ) arg16 fullShare B ∗ ⌜v533 = rowIota⌝ ∗ ⌜init = h₀⌝
      ∗ (iprop(owns (c : Thread nD τ) arg15 fullShare A ∗ owns (c : Thread nD τ) arg16 fullShare (statesOf A B h₀))
          -∗ wp frame (wpE (defs₀ (F := F)) Variants.none (c : Thread nD τ) none) E (kk (lastOf A B h₀)) Q))
      ⊢ wp frame (wpE (defs₀ (F := F)) Variants.none (c : Thread nD τ) none) E
          (Scf.for k0_t1_loop.lb k0_t1_loop.ub k0_t1_loop.st k0_t1_ok init (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 v44 v68 v74 v98 v104 v128 v134 v158 v164 v188 v194 v218 v224 v248 v254 v278 v284 v308 v314 v338 v344 v368 v374 v398 v404 v428 v434 v458 v464 v488 v494 v495 v503 cst_192 v533) >>= kk) Q := by
  iintro ⟨H15, H16, %hv, %hi, Hk⟩
  subst hi
  iapply (Scf.wp_for_bind frame (wpE (defs₀ (F := F)) Variants.none (c : Thread nD τ) none) E _ _ _ k0_t1_ok init _
    (scanInv (F := F) c arg15 arg16 A B init)
    (fun k acc => trip (F := F) c E i arg3 harg3 arg4 harg4 arg5 harg5 arg6 harg6 arg7 harg7 arg8 harg8 arg9 harg9 arg10 harg10 arg11 harg11 arg12 harg12 arg13 harg13 arg14 harg14 arg15 harg15 arg16 harg16 v44 v68 v74 v98 v104 v128 v134 v158 v164 v188 v194 v218 v224 v248 v254 v278 v284 v308 v314 v338 v344 v368 v374 v398 v404 v428 v434 v458 v464 v488 v494 v495 v503 cst_192 v533 hv A B init k acc)) $$ [H15 H16]
  · unfold scanInv
    isplitl [H15]; · iexact H15
    isplitl [H16]; · iexact H16
    ipureintro; rfl
  iintro %acc ⟨H15, H16, %ha⟩
  obtain rfl := ha
  iapply Hk
  isplitl [H15]; · iexact H15
  iexact H16

end Cert.KernelIdeal.Rg

end
-- ==== Proof.RunA.lean ====
/- The recurrence kernel's body run at the first block of a sequence. -/
module

public import proofs.«01_k».proof.Proof.Loop

@[expose] public section

set_option maxRecDepth 16384

noncomputable section

namespace Cert.KernelIdeal.Rg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body's run at the first block of a sequence: the convolution's tail and the state start at zero, and the two
    state outputs are left as they were. -/
theorem runA (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S4x2048 .f32) (harg5 : arg5.IsWhole) (arg6 : Memref sig .tc .vmem S1x2048 .f32) (harg6 : arg6.IsWhole) (arg7 : Memref sig .tc .vmem S16x128x256 .bf16) (harg7 : arg7.IsWhole) (arg8 : Memref sig .tc .vmem S16x1x256 .f32) (harg8 : arg8.IsWhole) (arg9 : Memref sig .tc .vmem S1x2048 .f32) (harg9 : arg9.IsWhole) (arg10 : Memref sig .tc .vmem S1024x2048 .bf16) (harg10 : arg10.IsWhole) (arg11 : Memref sig .tc .vmem S1x3x2048 .f32) (harg11 : arg11.IsWhole) (arg12 : Memref sig .tc .vmem S1x1x2048 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S1024x2048 .f32) (harg15 : arg15.IsWhole) (arg16 : Memref sig .tc .vmem S1024x2048 .f32) (harg16 : arg16.IsWhole) (hc0 : cond0_0 i) (hc1 : ¬cond0_1 i)
    (x0 : Vec F S1024x2048 .bf16) (x1 : Vec F S1024x2048 .bf16) (x2 : Vec F S4x2048 .f32) (x3 : Vec F S1x2048 .f32) (x4 : Vec F S16x128x256 .bf16) (x5 : Vec F S16x1x256 .f32) (x6 : Vec F S1x2048 .f32) (xi8 : Vec F S1x3x2048 .f32) (xi9 : Vec F S1x1x2048 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare xi8 ∗ owns (c : Thread nD τ) arg12 fullShare xi9 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (k0_pay1 (statesOf (coef x0 k0_pay9 x2 x3 x4 x5 x6).1 (coef x0 k0_pay9 x2 x3 x4 x5 x6).2 k0_pay10) x1) ∗ owns (c : Thread nD τ) arg11 fullShare xi8 ∗ owns (c : Thread nD τ) arg12 fullShare xi9 ∗ owns (c : Thread nD τ) arg13 fullShare (k0_pay13 x0) ∗ owns (c : Thread nD τ) arg14 fullShare (k0_pay96 (lastOf (coef x0 k0_pay9 x2 x3 x4 x5 x6).1 (coef x0 k0_pay9 x2 x3 x4 x5 x6).2 k0_pay10)) ∗ (∃ d, owns (c : Thread nD τ) arg15 fullShare d) ∗ (∃ d, owns (c : Thread nD τ) arg16 fullShare d)) -∗ K ⟨⟩))
      ⊢ wp frame (wpE (defs₀ (F := F)) Variants.none c none) E (cc0_rglru_seq i arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_rglru_seq_eq_skeleton]; unfold cc0_rglru_seq_skel
  simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%ds0, %fs0, -, HS0⟩, ⟨%ds1, %fs1, -, HS1⟩, ⟨%ds2, %fs2, -, HS2⟩, ⟨%ds3, %fs3, -, HS3⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg11.eq_unread hf8; obtain rfl := harg12.eq_unread hf9
  sl_exec (disch := first | sl_exact hc0 | sl_exact hc1)
  iapply (loop_run (F := F) c E (coef x0 k0_pay9 x2 x3 x4 x5 x6).1 (coef x0 k0_pay9 x2 x3 x4 x5 x6).2 k0_pay10)
  unfold owns
  isplitl [HS2]
  · iexists _; isplitr; swap; · iexact HS2
    ipureintro
    sl_unfold_words
    simp only [writes_all_1024, View.readAt_eq_ld, cov_all_8, Memref.IsWhole.read_unread, ld_all_1024, ld_all_8, ld_all_1]
    rfl
  isplitl [HS3]
  · iexists _; isplitr; swap; · iexact HS3
    ipureintro
    sl_unfold_words
    simp only [writes_all_1024, View.readAt_eq_ld, cov_all_8, Memref.IsWhole.read_unread, ld_all_1024, ld_all_8, ld_all_1]
    rfl
  isplitr
  · ipureintro; sl_unfold_words; rfl
  isplitr
  · ipureintro; sl_unfold_words; simp only [View.readAt_eq_ld, cov_all_8, Memref.IsWhole.read_unread, ld_all_8]
  iintro ⟨⟨%g2, %hg2, HS2⟩, ⟨%g3, %hg3, HS3⟩⟩
  sl_exec (disch := first | sl_exact hc0 | sl_exact hc1)
  sl_step
  iapply Hk
  isplitl [H0]
  · iexists _; isplitr; swap; · iexact H0
    ipureintro; exact harg3.read_unread _
  isplitl [H1]
  · iexists _; isplitr; swap; · iexact H1
    ipureintro; exact harg4.read_unread _
  isplitl [H2]
  · iexists _; isplitr; swap; · iexact H2
    ipureintro; exact harg5.read_unread _
  isplitl [H3]
  · iexists _; isplitr; swap; · iexact H3
    ipureintro; exact harg6.read_unread _
  isplitl [H4]
  · iexists _; isplitr; swap; · iexact H4
    ipureintro; exact harg7.read_unread _
  isplitl [H5]
  · iexists _; isplitr; swap; · iexact H5
    ipureintro; exact harg8.read_unread _
  isplitl [H6]
  · iexists _; isplitr; swap; · iexact H6
    ipureintro; exact harg9.read_unread _
  isplitl [H7]
  · iexists _; isplitr; swap; · iexact H7
    ipureintro
    sl_unfold_words
    simp only [writes_all_1024, View.readAt_eq_ld, Memref.IsWhole.read_unread, ld_all_1024, hg3]
  isplitl [H8]
  · iexists _; isplitr; swap; · iexact H8
    ipureintro; exact harg11.read_unread _
  isplitl [H9]
  · iexists _; isplitr; swap; · iexact H9
    ipureintro; exact harg12.read_unread _
  isplitl [HS0]
  · iexists _; isplitr; swap; · iexact HS0
    ipureintro
    sl_unfold_words
    simp only [writes_all_8, View.readAt_eq_ld, Memref.IsWhole.read_unread, ld_all_1024]
  isplitl [HS1]
  · iexists _; isplitr; swap; · iexact HS1
    ipureintro
    sl_unfold_words
    simp only [writes_all_8]
  isplitl [HS2]
  · iexists _, _; isplitr; swap; · iexact HS2
    ipureintro; rfl
  iexists _, _; isplitr; swap; · iexact HS3
  ipureintro; rfl

end Cert.KernelIdeal.Rg

end
-- ==== Proof.RunB.lean ====
/- The recurrence kernel's body run at the last block of a sequence. -/
module

public import proofs.«01_k».proof.Proof.RunA

@[expose] public section

set_option maxRecDepth 16384

noncomputable section

namespace Cert.KernelIdeal.Rg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body's run at the last block of a sequence: the convolution's tail `xs0` and the state `xs1` are those the block
    before left, and the two state outputs are written. -/
theorem runB (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S4x2048 .f32) (harg5 : arg5.IsWhole) (arg6 : Memref sig .tc .vmem S1x2048 .f32) (harg6 : arg6.IsWhole) (arg7 : Memref sig .tc .vmem S16x128x256 .bf16) (harg7 : arg7.IsWhole) (arg8 : Memref sig .tc .vmem S16x1x256 .f32) (harg8 : arg8.IsWhole) (arg9 : Memref sig .tc .vmem S1x2048 .f32) (harg9 : arg9.IsWhole) (arg10 : Memref sig .tc .vmem S1024x2048 .bf16) (harg10 : arg10.IsWhole) (arg11 : Memref sig .tc .vmem S1x3x2048 .f32) (harg11 : arg11.IsWhole) (arg12 : Memref sig .tc .vmem S1x1x2048 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S1024x2048 .f32) (harg15 : arg15.IsWhole) (arg16 : Memref sig .tc .vmem S1024x2048 .f32) (harg16 : arg16.IsWhole) (hc0 : ¬cond0_0 i) (hc1 : cond0_1 i)
    (x0 : Vec F S1024x2048 .bf16) (x1 : Vec F S1024x2048 .bf16) (x2 : Vec F S4x2048 .f32) (x3 : Vec F S1x2048 .f32) (x4 : Vec F S16x128x256 .bf16) (x5 : Vec F S16x1x256 .f32) (x6 : Vec F S1x2048 .f32) (xs0 : Vec F S8x2048 .f32) (xs1 : Vec F S8x2048 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ owns (c : Thread nD τ) arg14 fullShare xs1 ∗ (∃ d, owns (c : Thread nD τ) arg15 fullShare d) ∗ (∃ d, owns (c : Thread nD τ) arg16 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (k0_pay1 (statesOf (coef x0 xs0 x2 x3 x4 x5 x6).1 (coef x0 xs0 x2 x3 x4 x5 x6).2 xs1) x1) ∗ owns (c : Thread nD τ) arg11 fullShare (convOut x0) ∗ owns (c : Thread nD τ) arg12 fullShare (k0_pay3 (lastOf (coef x0 xs0 x2 x3 x4 x5 x6).1 (coef x0 xs0 x2 x3 x4 x5 x6).2 xs1)) ∗ owns (c : Thread nD τ) arg13 fullShare (k0_pay13 x0) ∗ owns (c : Thread nD τ) arg14 fullShare (k0_pay96 (lastOf (coef x0 xs0 x2 x3 x4 x5 x6).1 (coef x0 xs0 x2 x3 x4 x5 x6).2 xs1)) ∗ (∃ d, owns (c : Thread nD τ) arg15 fullShare d) ∗ (∃ d, owns (c : Thread nD τ) arg16 fullShare d)) -∗ K ⟨⟩))
      ⊢ wp frame (wpE (defs₀ (F := F)) Variants.none c none) E (cc0_rglru_seq i arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_rglru_seq_eq_skeleton]; unfold cc0_rglru_seq_skel
  simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%fs0, %hfs0, HS0⟩, ⟨%fs1, %hfs1, HS1⟩, ⟨%ds2, %fs2, -, HS2⟩, ⟨%ds3, %fs3, -, HS3⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg13.eq_unread hfs0; obtain rfl := harg14.eq_unread hfs1
  sl_exec (disch := first | sl_exact hc0 | sl_exact hc1)
  iapply (loop_run (F := F) c E (coef x0 xs0 x2 x3 x4 x5 x6).1 (coef x0 xs0 x2 x3 x4 x5 x6).2 xs1)
  unfold owns
  isplitl [HS2]
  · iexists _; isplitr; swap; · iexact HS2
    ipureintro
    sl_unfold_words
    simp only [writes_all_1024, View.readAt_eq_ld, cov_all_8, Memref.IsWhole.read_unread, ld_all_1024, ld_all_8, ld_all_1]
    rfl
  isplitl [HS3]
  · iexists _; isplitr; swap; · iexact HS3
    ipureintro
    sl_unfold_words
    simp only [writes_all_1024, View.readAt_eq_ld, cov_all_8, Memref.IsWhole.read_unread, ld_all_1024, ld_all_8, ld_all_1]
    rfl
  isplitr
  · ipureintro; sl_unfold_words; rfl
  isplitr
  · ipureintro; sl_unfold_words; simp only [View.readAt_eq_ld, cov_all_8, Memref.IsWhole.read_unread, ld_all_8]
  iintro ⟨⟨%g2, %hg2, HS2⟩, ⟨%g3, %hg3, HS3⟩⟩
  sl_exec (disch := first | sl_exact hc0 | sl_exact hc1)
  sl_step
  iapply Hk
  isplitl [H0]
  · iexists _; isplitr; swap; · iexact H0
    ipureintro; exact harg3.read_unread _
  isplitl [H1]
  · iexists _; isplitr; swap; · iexact H1
    ipureintro; exact harg4.read_unread _
  isplitl [H2]
  · iexists _; isplitr; swap; · iexact H2
    ipureintro; exact harg5.read_unread _
  isplitl [H3]
  · iexists _; isplitr; swap; · iexact H3
    ipureintro; exact harg6.read_unread _
  isplitl [H4]
  · iexists _; isplitr; swap; · iexact H4
    ipureintro; exact harg7.read_unread _
  isplitl [H5]
  · iexists _; isplitr; swap; · iexact H5
    ipureintro; exact harg8.read_unread _
  isplitl [H6]
  · iexists _; isplitr; swap; · iexact H6
    ipureintro; exact harg9.read_unread _
  isplitl [H7]
  · iexists _; isplitr; swap; · iexact H7
    ipureintro
    sl_unfold_words
    simp only [writes_all_1024, View.readAt_eq_ld, Memref.IsWhole.read_unread, ld_all_1024, hg3]
  isplitl [H8]
  · iexists _; isplitr; swap; · iexact H8
    ipureintro
    refine (View.read_writes_full arg11.view _ _ _ _).trans ?_
    sl_unfold_words
    simp only [View.readAt_eq_ld, Memref.IsWhole.read_unread, ld_all_1024, convOut]
  isplitl [H9]
  · iexists _; isplitr; swap; · iexact H9
    ipureintro
    exact View.read_writes_full arg12.view _ _ _ _
  isplitl [HS0]
  · iexists _; isplitr; swap; · iexact HS0
    ipureintro
    sl_unfold_words
    simp only [writes_all_8, View.readAt_eq_ld, Memref.IsWhole.read_unread, ld_all_1024]
  isplitl [HS1]
  · iexists _; isplitr; swap; · iexact HS1
    ipureintro
    sl_unfold_words
    simp only [writes_all_8]
  isplitl [HS2]
  · iexists _, _; isplitr; swap; · iexact HS2
    ipureintro; rfl
  iexists _, _; isplitr; swap; · iexact HS3
  ipureintro; rfl

end Cert.KernelIdeal.Rg

end
-- ==== Proof.Launch.lean ====
/- The recurrence kernel's launch: what every grid point leaves, the pipeline's proof data, the body at every point,
   and the run of the whole program, over any float values. -/
module

public import proofs.«01_k».proof.Proof.RunB
public import Idealize.ShloMosaic.Lib.Claim

@[expose] public section

set_option maxRecDepth 16384

noncomputable section

namespace Cert.KernelIdeal.Rg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The convolution's tail before point `t`: zero at the first block of a sequence, the last eight rows of the block
    before at the other. -/
def tailAt (c : Dev nD) (t : Fin cfg0.N) : Vec F S8x2048 .f32 :=
  if t.val % 2 = 0 then k0_pay9 else k0_pay13 (iblk m c 0 ⟨t.val - 1, by have := t.isLt; omega⟩)

/-- Both coefficient arrays at point `t`. -/
def coefAt (c : Dev nD) (t : Fin cfg0.N) : FVec F S1024x2048 .f32 × FVec F S1024x2048 .f32 :=
  coef (iblk m c 0 t) (tailAt m c t) (iblk m c 2 t) (iblk m c 3 t) (iblk m c 4 t) (iblk m c 5 t) (iblk m c 6 t)

/-- The state before point `t`, in every one of eight rows: zero at the first block of a sequence, the last state of
    the block before at the other. -/
def stateAt (c : Dev nD) (t : Fin cfg0.N) : Vec F S8x2048 .f32 :=
  if t.val % 2 = 0 then k0_pay10
  else k0_pay96 (lastOf (coefAt m c ⟨t.val - 1, by have := t.isLt; omega⟩).1 (coefAt m c ⟨t.val - 1, by have := t.isLt; omega⟩).2 k0_pay10)

/-- The states of point `t`'s rows, -/
def statesAt (c : Dev nD) (t : Fin cfg0.N) : Vec F S1024x2048 .f32 := statesOf (coefAt m c t).1 (coefAt m c t).2 (stateAt m c t)

/-- and the last of them. -/
def lastAt (c : Dev nD) (t : Fin cfg0.N) : Vec F S8x2048 .f32 := lastOf (coefAt m c t).1 (coefAt m c t).2 (stateAt m c t)

/-- What point `t` leaves in the three results' buffers. -/
def yAt (c : Dev nD) (t : Fin cfg0.N) : Vec F S1024x2048 .bf16 := k0_pay1 (statesAt m c t) (iblk m c 1 t)
def convAt (c : Dev nD) (t : Fin cfg0.N) : Vec F S1x3x2048 .f32 := convOut (iblk m c 0 t)
def hAt (c : Dev nD) (t : Fin cfg0.N) : Vec F S1x1x2048 .f32 := k0_pay3 (lastAt m c t)

theorem tailAt_even (c : Dev nD) (t : Fin cfg0.N) (h : t.val % 2 = 0) : tailAt m c t = k0_pay9 := if_pos h
theorem stateAt_even (c : Dev nD) (t : Fin cfg0.N) (h : t.val % 2 = 0) : stateAt m c t = k0_pay10 := if_pos h
theorem tailAt_odd (c : Dev nD) (t : Fin cfg0.N) (h : ¬t.val % 2 = 0) (hp : t.val - 1 < cfg0.N) :
    tailAt m c t = k0_pay13 (iblk m c 0 ⟨t.val - 1, hp⟩) := if_neg h
theorem stateAt_odd (c : Dev nD) (t : Fin cfg0.N) (h : ¬t.val % 2 = 0) (hp : t.val - 1 < cfg0.N) :
    stateAt m c t = k0_pay96 (lastAt m c ⟨t.val - 1, hp⟩) := by
  unfold lastAt
  rw [stateAt_even m c ⟨t.val - 1, hp⟩ (by show (t.val - 1) % 2 = 0; omega)]
  exact if_neg h

/-- The invariant before point `n`: at the start what the launch hands in; later the tail and the state scratch at
    what the point before left, and the other scratch at anything. -/
def PhiS (c : Dev nD) : (n : ℕ) → n ≤ cfg0.N → sProp 𝕄
  | 0, _ => Pipeline.ΦA spec0 c
  | n + 1, hn => iprop(iprop(owns (c : Thread nD τ) scM0_0 fullShare (k0_pay13 (iblk m c 0 ⟨n, hn⟩)) ∗ owns (c : Thread nD τ) scM0_1 fullShare (k0_pay96 (lastAt m c ⟨n, hn⟩)) ∗ (∃ d, owns (c : Thread nD τ) scM0_2 fullShare d) ∗ (∃ d, owns (c : Thread nD τ) scM0_3 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (k0_pay13 (iblk m c 0 ⟨n, hn⟩)) ∗ owns (c : Thread nD τ) scM0_1 fullShare (k0_pay96 (lastAt m c ⟨n, hn⟩)) ∗ (∃ d, owns (c : Thread nD τ) scM0_2 fullShare d) ∗ (∃ d, owns (c : Thread nD τ) scM0_3 fullShare d)) ∗ (∃ r, prngReg c r)) := rfl

theorem PhiS_pos (c : Dev nD) (n : ℕ) (h : n ≤ cfg0.N) (hz : n ≠ 0) (hp : n - 1 < cfg0.N) :
    PhiS m c n h = iprop(iprop(owns (c : Thread nD τ) scM0_0 fullShare (k0_pay13 (iblk m c 0 ⟨n - 1, hp⟩)) ∗ owns (c : Thread nD τ) scM0_1 fullShare (k0_pay96 (lastAt m c ⟨n - 1, hp⟩)) ∗ (∃ d, owns (c : Thread nD τ) scM0_2 fullShare d) ∗ (∃ d, owns (c : Thread nD τ) scM0_3 fullShare d)) ∗ (∃ r, prngReg c r)) := by
  cases n with
  | zero => exact absurd rfl hz
  | succ n => rfl

/-- The pipeline's proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => yAt m c t
    | ⟨8, _⟩ => convAt m c t
    | ⟨9, _⟩ => hAt m c t
  Φ t := PhiS m c t.val (Nat.le_of_lt_succ t.isLt)
  q w := Pipeline.shareOf spec0 w
  owed _ := 0

/-- Its arrays are the contents the region finds. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = yAt m c t := by dsimp only [dats]
theorem after0_8 (c : Dev nD) (t : Fin cfg0.N) : (dats m 0 c).after 8 t = convAt m c t := by dsimp only [dats]
theorem after0_9 (c : Dev nD) (t : Fin cfg0.N) : (dats m 0 c).after 9 t = hAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is handed at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 9600000 in
/-- The body at an even point. -/
theorem sound_even (c : Dev nD) (t : Fin cfg0.N) (h0 : t.val % 2 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  have h1 : ¬t.val % 2 = 1 := by omega
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [Dat.leavesExact_idle (dats m 0 c) 8 t (idleAt0_8_A t ((hcond0_0 t).mpr h0) (fun h => h1 ((hcond0_1 t).mp h))) (noFlush0_8_A t ((hcond0_0 t).mpr h0) (fun h => h1 ((hcond0_1 t).mp h)))]
    rw [Dat.leavesExact_idle (dats m 0 c) 9 t (idleAt0_9_A t ((hcond0_0 t).mpr h0) (fun h => h1 ((hcond0_1 t).mp h))) (noFlush0_9_A t ((hcond0_0 t).mpr h0) (fun h => h1 ((hcond0_1 t).mp h)))]
    unfold yAt statesAt lastAt coefAt
    rw [show (⟨t.val, t.isLt⟩ : Fin cfg0.N) = t from rfl, tailAt_even m c t h0, stateAt_even m c t h0]
    by_cases hz : t.val = 0
    · rw [PhiS_castSucc m c t, PhiS_zero m c _ _ hz, PhiA0_eq]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (runA (F := F) c (grid0.coords t) _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      isplitl [HS0]; · iexact HS0
      isplitl [HS1]; · iexact HS1
      isplitl [HS2]; · iexact HS2
      isplitl [HS3]; · iexact HS3
      iintro ⟨H0, H1, H2, H3, H4, H5, H6, H7, H8, H9, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9
    · rw [PhiS_castSucc m c t, PhiS_pos m c _ _ hz (by have := t.isLt; omega)]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (runA (F := F) c (grid0.coords t) _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      isplitl [HS0]; · iexists _; iexact HS0
      isplitl [HS1]; · iexists _; iexact HS1
      isplitl [HS2]; · iexact HS2
      isplitl [HS3]; · iexact HS3
      iintro ⟨H0, H1, H2, H3, H4, H5, H6, H7, H8, H9, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9

set_option maxHeartbeats 9600000 in
/-- The body at an odd point. -/
theorem sound_odd (c : Dev nD) (t : Fin cfg0.N) (h0 : ¬t.val % 2 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  have h1 : t.val % 2 = 1 := by omega
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8_B t (fun h => h0 ((hcond0_0 t).mp h)) ((hcond0_1 t).mpr h1)], after0_8]
    rw [show (dats m 0 c).leavesExact 9 t = owns (c : Thread nD τ) (ms0_9 t) fullShare ((dats m 0 c).after 9 t) from by
      unfold Dat.leavesExact; rw [liveAt0_9_B t (fun h => h0 ((hcond0_0 t).mp h)) ((hcond0_1 t).mpr h1)], after0_9]
    have hz : t.val ≠ 0 := by omega
    have hp : t.val - 1 < cfg0.N := by have := t.isLt; omega
    rw [PhiS_castSucc m c t, PhiS_pos m c _ _ hz hp, ← stateAt_odd m c t h0 hp, ← tailAt_odd m c t h0 hp]
    unfold yAt convAt hAt statesAt lastAt coefAt
    rw [show (⟨t.val, t.isLt⟩ : Fin cfg0.N) = t from rfl]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (runB (F := F) c (grid0.coords t) _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    isplitl [HS2]; · iexact HS2
    isplitl [HS3]; · iexact HS3
    iintro ⟨H0, H1, H2, H3, H4, H5, H6, H7, H8, H9, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem sound_body (c : Dev nD) (t : Fin cfg0.N) :
    bodyPre m c t ⊢ wp frame (wpE (defs₀ (F := F)) Variants.none c none) Set.univ (bodyAt0 t) (fun _ => bodyPost m c t) := by
  by_cases h0 : t.val % 2 = 0
  · exact sound_even m c t h0
  · exact sound_odd m c t h0

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht (by have := t.isLt; omega), PhiA0_eq]
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexact HS2
    iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- THE FRAME at any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelIdeal.Rg

end
-- ==== Proof.Blocks.lean ====
/- The blocks a grid point is handed, read from the argument arrays: point `t` holds rows `1024 t, …, 1024 t + 1023` of the
   activations, that is half `t mod 2` of sequence `t / 2`; the packed gate weights and biases hold the recurrence gate in
   their first 128 columns and the input gate in the others. -/
module

public import proofs.«01_k».proof.Proof.Gates
public import proofs.«01_k».proof.Proof.Math
public import proofs.«01_k».proof.Proof.Launch

@[expose] public section

set_option maxRecDepth 16384

noncomputable section

namespace Cert.KernelIdeal.Rg

open Idealize.ShloMosaic Idealize.ShloMosaic.ValueIdx Idealize.ShloMosaic.TcCoe
open Cert.KernelIdeal Cert.KernelIdeal.Gen

section Host
variable {F : FTy → Type} [FloatOps F]
variable (m : (ℓ : Loc nD τ sig) → Buf (Elt F) ℓ)

/-- What the host operations leave in the four prepared arrays. -/
theorem V_v1 (c : Dev nD) : V m c main_v1 = (truncf .bf16 (concatenate S16x128x256 2
      [⟨S16x128x128, m ((c : Thread nD τ).loc main_arg3)⟩, ⟨S16x128x128, m ((c : Thread nD τ).loc main_arg5)⟩]
      concatenates_S16x128x128_S16x128x128_S16x128x256_d2) bitsLt_bf16_f32 : FVec F S16x128x256 .bf16) := rfl
theorem V_v3 (c : Dev nD) : V m c main_v3 = (broadcastInDim S16x1x256 ![0, 2] bcast_S16x256_S16x1x256_0_2 (concatenate S16x256 1
      [⟨S16x128, m ((c : Thread nD τ).loc main_arg4)⟩, ⟨S16x128, m ((c : Thread nD τ).loc main_arg6)⟩]
      concatenates_S16x128_S16x128_S16x256_d1) : FVec F S16x1x256 .f32) := rfl
theorem V_v4 (c : Dev nD) : V m c main_v4 = (broadcastInDim S1x2048 ![1] bcast_S2048_S1x2048_1 (m ((c : Thread nD τ).loc main_arg2)) : FVec F S1x2048 .f32) := rfl
theorem V_v5 (c : Dev nD) : V m c main_v5 = (broadcastInDim S1x2048 ![1] bcast_S2048_S1x2048_1 (m ((c : Thread nD τ).loc main_arg7)) : FVec F S1x2048 .f32) := rfl

end Host

variable (m : (ℓ : Loc nD τ sig) → Buf (Elt Ideal) ℓ)

/-- The arguments device `c` holds. -/
def args (c : Dev nD) : Args :=
  argsOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

variable (c : Dev nD) (t : Fin cfg0.N)

theorem lt16 : t.val < 16 := Nat.lt_of_lt_of_eq t.isLt N_0

theorem index0 : ∀ t : Fin grid0.N, win0_0.index t 0 = t.val ∧ win0_0.index t 1 = 0 := by decide +kernel
theorem index1 : ∀ t : Fin grid0.N, win0_1.index t 0 = t.val ∧ win0_1.index t 1 = 1 := by decide +kernel
theorem index2 : ∀ t : Fin grid0.N, ∀ a, win0_2.index t a = 0 := by decide +kernel
theorem index3 : ∀ t : Fin grid0.N, ∀ a, win0_3.index t a = 0 := by decide +kernel
theorem index4 : ∀ t : Fin grid0.N, ∀ a, win0_4.index t a = 0 := by decide +kernel
theorem index5 : ∀ t : Fin grid0.N, ∀ a, win0_5.index t a = 0 := by decide +kernel
theorem index6 : ∀ t : Fin grid0.N, ∀ a, win0_6.index t a = 0 := by decide +kernel

/-- The activations' block: rows `1024 t + r`, columns as they are. -/
theorem iblk0_apply (r : Fin 1024) (d : Fin 2048) : (iblk m c 0 t : Vec Ideal S1024x2048 .bf16) (ix2 r d)
    = (args m c).pa ⟨1024 * t.val + r.val, by have := lt16 t; have := r.isLt; omega⟩ ⟨d.val, by have := d.isLt; omega⟩ := by
  unfold iblk
  rw [View.read_apply]
  show V m c main_arg0 _ = m ((c : Thread nD τ).loc main_arg0) _
  rw [V_main_arg0]
  congr 1
  funext a
  apply Fin.ext
  match a with
  | ⟨0, _⟩ => show win0_0.index t 0 * 1024 + 1 * r.val = 1024 * t.val + r.val; rw [(index0 t).1]; omega
  | ⟨1, _⟩ => show win0_0.index t 1 * 2048 + 1 * d.val = d.val; rw [(index0 t).2]; omega

/-- The output gate's block: the same rows, the next 2048 columns. -/
theorem iblk1_apply (r : Fin 1024) (d : Fin 2048) : (iblk m c 1 t : Vec Ideal S1024x2048 .bf16) (ix2 r d)
    = (args m c).pa ⟨1024 * t.val + r.val, by have := lt16 t; have := r.isLt; omega⟩ ⟨2048 + d.val, by have := d.isLt; omega⟩ := by
  unfold iblk
  rw [View.read_apply]
  show V m c main_arg0 _ = m ((c : Thread nD τ).loc main_arg0) _
  rw [V_main_arg0]
  congr 1
  funext a
  apply Fin.ext
  match a with
  | ⟨0, _⟩ => show win0_1.index t 0 * 1024 + 1 * r.val = 1024 * t.val + r.val; rw [(index1 t).1]; omega
  | ⟨1, _⟩ => show win0_1.index t 1 * 2048 + 1 * d.val = 2048 + d.val; rw [(index1 t).2]; omega

theorem iblk2_apply (k : Fin 4) (d : Fin 2048) : (iblk m c 2 t : Vec Ideal S4x2048 .f32) (ix2 k d) = (args m c).wc k d := by
  unfold iblk
  rw [View.read_apply]
  show V m c main_arg1 _ = m ((c : Thread nD τ).loc main_arg1) _
  rw [V_main_arg1]
  congr 1
  funext a
  apply Fin.ext
  match a with
  | ⟨0, _⟩ => show win0_2.index t 0 * 4 + 1 * k.val = k.val; rw [index2 t]; omega
  | ⟨1, _⟩ => show win0_2.index t 1 * 2048 + 1 * d.val = d.val; rw [index2 t]; omega

theorem iblk3_apply (d : Fin 2048) : (iblk m c 3 t : Vec Ideal S1x2048 .f32) (ix2 0 d) = (args m c).bc d := by
  unfold iblk
  rw [View.read_apply]
  show V m c main_v4 _ = m ((c : Thread nD τ).loc main_arg2) (ix1 d)
  rw [V_v4]
  refine broadcastInDim_apply _ _ _ _ _ fun a => ?_
  match a with
  | ⟨0, _⟩ => show d.val = win0_3.index t 1 * 2048 + 1 * d.val; rw [index3 t]; omega

theorem iblk6_apply (d : Fin 2048) : (iblk m c 6 t : Vec Ideal S1x2048 .f32) (ix2 0 d) = (args m c).lam d := by
  unfold iblk
  rw [View.read_apply]
  show V m c main_v5 _ = m ((c : Thread nD τ).loc main_arg7) (ix1 d)
  rw [V_v5]
  refine broadcastInDim_apply _ _ _ _ _ fun a => ?_
  match a with
  | ⟨0, _⟩ => show d.val = win0_6.index t 1 * 2048 + 1 * d.val; rw [index6 t]; omega

/-- The packed weights: what the block reads is what the packed array holds there. -/
theorem iblk4_eq : (iblk m c 4 t : Vec Ideal S16x128x256 .bf16) = V m c main_v1 := by
  funext j
  unfold iblk
  rw [View.read_apply]
  show V m c main_v1 _ = V m c main_v1 j
  congr 1
  funext a
  apply Fin.ext
  match a with
  | ⟨0, _⟩ => show win0_4.index t 0 * 16 + 1 * (j 0).val = (j 0).val; rw [index4 t]; omega
  | ⟨1, _⟩ => show win0_4.index t 1 * 128 + 1 * (j 1).val = (j 1).val; rw [index4 t]; omega
  | ⟨2, _⟩ => show win0_4.index t 2 * 256 + 1 * (j 2).val = (j 2).val; rw [index4 t]; omega

theorem iblk5_eq : (iblk m c 5 t : Vec Ideal S16x1x256 .f32) = V m c main_v3 := by
  funext j
  unfold iblk
  rw [View.read_apply]
  show V m c main_v3 _ = V m c main_v3 j
  congr 1
  funext a
  apply Fin.ext
  match a with
  | ⟨0, _⟩ => show win0_5.index t 0 * 16 + 1 * (j 0).val = (j 0).val; rw [index5 t]; omega
  | ⟨1, _⟩ => show win0_5.index t 1 * 1 + 1 * (j 1).val = (j 1).val; rw [index5 t]; omega
  | ⟨2, _⟩ => show win0_5.index t 2 * 256 + 1 * (j 2).val = (j 2).val; rw [index5 t]; omega

theorem iblk4_left (n : Fin 16) (k j : Fin 128) :
    (iblk m c 4 t : Vec Ideal S16x128x256 .bf16) (ix3 n k ⟨j.val, by have := j.isLt; omega⟩) = (args m c).wa n k j := by
  rw [iblk4_eq, V_v1]
  refine concatenate_pair_apply_left (t := S16x128x256) (s₁ := S16x128x128) (s₂ := S16x128x128) 2 _ _ concatenates_S16x128x128_S16x128x128_S16x128x256_d2 _ rfl (ix3 n k j) fun a => ?_
  match a with
  | ⟨0, _⟩ => rfl
  | ⟨1, _⟩ => rfl
  | ⟨2, _⟩ => rfl

theorem iblk4_right (n : Fin 16) (k j : Fin 128) :
    (iblk m c 4 t : Vec Ideal S16x128x256 .bf16) (ix3 n k ⟨128 + j.val, by have := j.isLt; omega⟩) = (args m c).wx n k j := by
  rw [iblk4_eq, V_v1]
  refine concatenate_pair_apply_right (t := S16x128x256) (s₁ := S16x128x128) (s₂ := S16x128x128) 2 _ _ concatenates_S16x128x128_S16x128x128_S16x128x256_d2 _ rfl rfl (ix3 n k j) (fun a ha => ?_) (Nat.add_comm j.val 128)
  match a with
  | ⟨0, _⟩ => rfl
  | ⟨1, _⟩ => rfl
  | ⟨2, _⟩ => exact absurd rfl ha

theorem iblk5_left (n : Fin 16) (j : Fin 128) :
    (iblk m c 5 t : Vec Ideal S16x1x256 .f32) (ix3 n 0 ⟨j.val, by have := j.isLt; omega⟩) = (args m c).ba n j := by
  rw [iblk5_eq, V_v3]
  refine (broadcastInDim_apply _ _ _ _ (ix2 n ⟨j.val, by have := j.isLt; omega⟩) fun a => ?_).trans ?_
  · match a with
    | ⟨0, _⟩ => rfl
    | ⟨1, _⟩ => rfl
  · refine concatenate_pair_apply_left (t := S16x256) (s₁ := S16x128) (s₂ := S16x128) 1 _ _ _ _ rfl (ix2 n j) fun a => ?_
    match a with
    | ⟨0, _⟩ => rfl
    | ⟨1, _⟩ => rfl

theorem iblk5_right (n : Fin 16) (j : Fin 128) :
    (iblk m c 5 t : Vec Ideal S16x1x256 .f32) (ix3 n 0 ⟨128 + j.val, by have := j.isLt; omega⟩) = (args m c).bx n j := by
  rw [iblk5_eq, V_v3]
  refine (broadcastInDim_apply _ _ _ _ (ix2 n ⟨128 + j.val, by have := j.isLt; omega⟩) fun a => ?_).trans ?_
  · match a with
    | ⟨0, _⟩ => rfl
    | ⟨1, _⟩ => rfl
  · refine concatenate_pair_apply_right (t := S16x256) (s₁ := S16x128) (s₂ := S16x128) 1 _ _ _ _ rfl rfl (ix2 n j) (fun a ha => ?_) (Nat.add_comm j.val 128)
    match a with
    | ⟨0, _⟩ => rfl
    | ⟨1, _⟩ => exact absurd rfl ha

end Cert.KernelIdeal.Rg

end
-- ==== Proof.ScanValue.lean ====
/- The 128 groups of a block together: the scan leaves, row by row, the states of the recurrence over the block. -/
module

public import proofs.«01_k».proof.Proof.Group
public import proofs.«01_k».proof.Proof.Gen.KernelIdeal.Loops

@[expose] public section

noncomputable section

namespace Cert.KernelIdeal.Rg

open Idealize.ShloMosaic Idealize.ShloMosaic.ValueIdx
open Cert.KernelIdeal Cert.KernelIdeal.Gen

/-- A column of a block as a sequence. -/
def col (A : Vec Ideal S1024x2048 .f32) (d : Fin 2048) (n : ℕ) : EReal := if h : n < 1024 then A (ix2 ⟨n, h⟩ d) else 0

theorem col_of_lt (A : Vec Ideal S1024x2048 .f32) (d : Fin 2048) (n : ℕ) (h : n < 1024) : col A d n = A (ix2 ⟨n, h⟩ d) := dif_pos h

theorem trips_eq : k0_t1_loop.trips = 128 := by decide

/-- The eight rows of trip `k`, read at a row. -/
theorem rows_apply (A : Vec Ideal S1024x2048 .f32) (k : Fin k0_t1_loop.trips) (r : Fin 8) (d : Fin 2048) (h : 8 * k.val + r.val < 1024) :
    rows A k (ix2 r d) = A (ix2 ⟨8 * k.val + r.val, h⟩ d) := by
  have e := k0_off1_eq k
  refine congrArg A (funext fun a => Fin.ext ?_)
  match a with
  | ⟨0, _⟩ =>
    show k0_off1 k 0 + 1 * r.val = 8 * k.val + r.val
    rw [e]; show 8 * k.val + 1 * r.val = _; omega
  | ⟨1, _⟩ =>
    show k0_off1 k 1 + 1 * d.val = d.val
    rw [e]; show 0 + 1 * d.val = _; omega

/-- Eight rows put at row `8 k`, read at a row. -/
theorem put_apply (X : Vec Ideal S1024x2048 .f32) (w : FVec Ideal S8x2048 .f32) (k : ℕ) (t : Fin 1024) (d : Fin 2048) :
    VecWindow.put X ![8 * k, 0] S8x2048.size w (ix2 t d)
      = if h : 8 * k ≤ t.val ∧ t.val < 8 * k + 8 then w (ix2 ⟨t.val - 8 * k, by omega⟩ d) else X (ix2 t d) := by
  unfold VecWindow.put
  by_cases h : 8 * k ≤ t.val ∧ t.val < 8 * k + 8
  · rw [dif_pos h, dif_pos (fun a => by
      match a with
      | ⟨0, _⟩ => exact h
      | ⟨1, _⟩ => exact ⟨Nat.zero_le _, by show d.val < 0 + 2048; have := d.isLt; omega⟩)]
    refine congrArg w (funext fun a => Fin.ext ?_)
    match a with
    | ⟨0, _⟩ => rfl
    | ⟨1, _⟩ => rfl
  · rw [dif_neg h, dif_neg (fun hall => h (hall 0))]

/-- THE SCAN before trip `n`: the carried state is the recurrence's state before row `8 n`; the rows before it hold
    their states, the others their inputs. -/
theorem scan_apply (A B : Vec Ideal S1024x2048 .f32) (h₀ : Vec Ideal S8x2048 .f32) (d : Fin 2048) (H : EReal)
    (hA0 : ∀ t : Fin 1024, 0 ≤ A (ix2 t d)) (hA1 : ∀ t : Fin 1024, A (ix2 t d) ≠ ⊤) (hh : ∀ r : Fin 8, h₀ (ix2 r d) = H) (n : ℕ) (hn : n ≤ 128) :
    (∀ r : Fin 8, (scan A B h₀ n).1 (ix2 r d) = hs (col A d) (col B d) H (8 * n))
    ∧ ∀ t : Fin 1024, (scan A B h₀ n).2 (ix2 t d) = if t.val < 8 * n then hs (col A d) (col B d) H (t.val + 1) else B (ix2 t d) := by
  induction n with
  | zero => exact ⟨hh, fun t => by rw [if_neg (by omega)]; rfl⟩
  | succ n ih =>
    obtain ⟨i1, i2⟩ := ih (by omega)
    have e := scan_succ A B h₀ ⟨n, by rw [trips_eq]; omega⟩
    dsimp only at e
    have hr (r : Fin 8) : 8 * n + r.val < 1024 := by have := r.isLt; omega
    have hA : ∀ r : Fin 8, rows A ⟨n, by rw [trips_eq]; omega⟩ (ix2 r d) = col A d (8 * n + r.val) := fun r => by
      rw [rows_apply A _ r d (hr r), col_of_lt A d _ (hr r)]
    have hB : ∀ r : Fin 8, rows (scan A B h₀ n).2 ⟨n, by rw [trips_eq]; omega⟩ (ix2 r d) = col B d (8 * n + r.val) := fun r => by
      rw [rows_apply _ _ r d (hr r), col_of_lt B d _ (hr r), i2]
      exact if_neg (by show ¬(8 * n + r.val < 8 * n); omega)
    have c0 : ∀ i, i < 8 → 0 ≤ col A d (8 * n + i) := fun i hi => by rw [col_of_lt A d _ (by omega)]; exact hA0 _
    have c1 : ∀ i, i < 8 → col A d (8 * n + i) ≠ ⊤ := fun i hi => by rw [col_of_lt A d _ (by omega)]; exact hA1 _
    have g := groupStates_apply _ _ _ (fun i => col A d (8 * n + i)) (fun i => col B d (8 * n + i)) _ d c0 c1 hA hB i1
    have g' := groupLast_apply _ _ _ (fun i => col A d (8 * n + i)) (fun i => col B d (8 * n + i)) _ d c0 c1 hA hB i1
    refine ⟨fun r => ?_, fun t => ?_⟩
    · rw [e]
      refine (g' r).trans ?_
      rw [hs_shift]; rfl
    · rw [e]
      refine (put_apply _ _ n t d).trans ?_
      by_cases h1 : 8 * n ≤ t.val ∧ t.val < 8 * n + 8
      · rw [dif_pos h1, if_pos (by omega), g, hs_shift]
        congr 1
        show 8 * n + (t.val - 8 * n + 1) = t.val + 1
        omega
      · rw [dif_neg h1, i2 t]
        by_cases h2 : t.val < 8 * n
        · rw [if_pos h2, if_pos (by omega)]
        · rw [if_neg h2, if_neg (by omega)]

theorem statesOf_apply (A B : Vec Ideal S1024x2048 .f32) (h₀ : Vec Ideal S8x2048 .f32) (d : Fin 2048) (H : EReal)
    (hA0 : ∀ t : Fin 1024, 0 ≤ A (ix2 t d)) (hA1 : ∀ t : Fin 1024, A (ix2 t d) ≠ ⊤) (hh : ∀ r : Fin 8, h₀ (ix2 r d) = H) (t : Fin 1024) :
    statesOf A B h₀ (ix2 t d) = hs (col A d) (col B d) H (t.val + 1) := by
  unfold statesOf
  rw [trips_eq]
  exact ((scan_apply A B h₀ d H hA0 hA1 hh 128 le_rfl).2 t).trans (if_pos (by have := t.isLt; omega))

theorem lastOf_apply (A B : Vec Ideal S1024x2048 .f32) (h₀ : Vec Ideal S8x2048 .f32) (d : Fin 2048) (H : EReal)
    (hA0 : ∀ t : Fin 1024, 0 ≤ A (ix2 t d)) (hA1 : ∀ t : Fin 1024, A (ix2 t d) ≠ ⊤) (hh : ∀ r : Fin 8, h₀ (ix2 r d) = H) (r : Fin 8) :
    lastOf A B h₀ (ix2 r d) = hs (col A d) (col B d) H 1024 := by
  unfold lastOf
  rw [trips_eq]
  exact (scan_apply A B h₀ d H hA0 hA1 hh 128 le_rfl).1 r

end Cert.KernelIdeal.Rg

end
-- ==== Proof.Value.lean ====
/- What a grid point computes, in terms of the arguments: the convolved input, the two coefficients and the states of its
   1024 steps; point `t` works on steps `1024 (t mod 2), …` of sequence `t / 2`. -/
module

public import proofs.«01_k».proof.Proof.Blocks
public import proofs.«01_k».proof.Proof.ScanValue

@[expose] public section

set_option maxRecDepth 16384

noncomputable section

namespace Cert.KernelIdeal.Rg

open Idealize.ShloMosaic Idealize.ShloMosaic.ValueIdx Idealize.ShloMosaic.TcCoe
open Cert.KernelIdeal Cert.KernelIdeal.Gen

section Conv
variable (x : Vec Ideal S1024x2048 .bf16) (tl : Vec Ideal S8x2048 .f32) (wc : Vec Ideal S4x2048 .f32) (bc : Vec Ideal S1x2048 .f32)

/-- The block with its eight-row tail before it. -/
def tailed (k : ℕ) (d : Fin 2048) : EReal :=
  if h : k < 8 then tl (ix2 ⟨k, h⟩ d) else if h' : k - 8 < 1024 then x (ix2 ⟨k - 8, h'⟩ d) else 0

theorem tailed_cat (k : Fin 1032) (d : Fin 2048) :
    concatenate S1032x2048 0 [⟨S8x2048, tl⟩, ⟨S1024x2048, k0_pay11 x⟩] concatenates_S8x2048_S1024x2048_S1032x2048_d0 (ix2 k d)
      = tailed x tl k.val d := by
  unfold tailed
  by_cases h : k.val < 8
  · rw [dif_pos h]
    refine concatenate_pair_apply_left (t := S1032x2048) (s₁ := S8x2048) (s₂ := S1024x2048) 0 _ _ _ _ rfl (ix2 ⟨k.val, h⟩ d) fun a => ?_
    match a with
    | ⟨0, _⟩ => rfl
    | ⟨1, _⟩ => rfl
  · have h' : k.val - 8 < 1024 := by have := k.isLt; omega
    rw [dif_neg h, dif_pos h']
    refine (concatenate_pair_apply_right (t := S1032x2048) (s₁ := S8x2048) (s₂ := S1024x2048) 0 tl (k0_pay11 x) concatenates_S8x2048_S1024x2048_S1032x2048_d0 (ix2 k d) rfl rfl (ix2 ⟨k.val - 8, h'⟩ d)
      (fun a ha => ?_) (Nat.sub_add_cancel (Nat.le_of_not_lt h))).trans rfl
    match a with
    | ⟨0, _⟩ => exact absurd rfl ha
    | ⟨1, _⟩ => rfl

theorem wcRow (k : Fin 4) (inb : ∀ a, (![k.val, 0] : Fin 2 → Nat) a + S1x2048.size a ≤ S4x2048.size a) (d : Fin 2048) :
    (View.ld wc (Rect.unit (s := S4x2048) ![k.val, 0] S1x2048.size inb) : Vec Ideal S1x2048 .f32) (ix2 0 d) = wc (ix2 k d) :=
  View.ld_unit_apply_of _ _ _ _ _ _ fun a => by
    match a with
    | ⟨0, _⟩ => rfl
    | ⟨1, _⟩ => exact (Nat.zero_add _).symm

theorem conv_apply (r : Fin 1024) (d : Fin 2048) :
    conv x tl wc bc (ix2 r d)
      = bc (ix2 0 d) + wc (ix2 3 d) * x (ix2 r d) + wc (ix2 0 d) * tailed x tl (r.val + 5) d
        + wc (ix2 1 d) * tailed x tl (r.val + 6) d + wc (ix2 2 d) * tailed x tl (r.val + 7) d := by
  have hs : ∀ (o : ℕ) (h : S1032x2048.Slices ![o, 0] S1024x2048) (ho : o + 1024 ≤ 1032), extractStridedSlice S1024x2048 ![o, 0]
      (concatenate S1032x2048 0 [⟨S8x2048, tl⟩, ⟨S1024x2048, k0_pay11 x⟩] concatenates_S8x2048_S1024x2048_S1032x2048_d0 : FVec Ideal S1032x2048 .f32) h (ix2 r d)
        = tailed x tl (r.val + o) d := fun o h ho => by
    refine (extractStridedSlice_apply _ _ _ _ (ix2 ⟨r.val + o, by have := r.isLt; omega⟩ d) (fun a => ?_)).trans (tailed_cat x tl _ d)
    match a with
    | ⟨0, _⟩ => exact Nat.add_comm _ _
    | ⟨1, _⟩ => exact (Nat.zero_add _).symm
  unfold conv k0_pay12
  rw [shapeCast_self]
  simp only [addf_apply, mulf_apply]
  rw [hs 5 _ (by omega), hs 6 _ (by omega), hs 7 _ (by omega)]
  refine congrArg₂ (· + ·) (congrArg₂ (· + ·) (congrArg₂ (· + ·) (congrArg₂ (· + ·) ?_ (congrArg₂ (· * ·) ?_ rfl)) (congrArg₂ (· * ·) ?_ rfl))
    (congrArg₂ (· * ·) ?_ rfl)) (congrArg₂ (· * ·) ?_ rfl)
  · exact broadcastTo_1b_ab_apply _ _ r d
  · exact (broadcastTo_1b_ab_apply _ _ r d).trans (wcRow wc 3 _ d)
  · exact (broadcastTo_1b_ab_apply _ _ r d).trans (wcRow wc 0 _ d)
  · exact (broadcastTo_1b_ab_apply _ _ r d).trans (wcRow wc 1 _ d)
  · exact (broadcastTo_1b_ab_apply _ _ r d).trans (wcRow wc 2 _ d)

end Conv

theorem pay9_apply (i : S8x2048.Idx) : k0_pay9 (F := Ideal) i = 0 := by
  unfold k0_pay9; rw [shapeCast_self]; exact Ideal.ofBits_zero_f32
theorem pay10_apply (i : S8x2048.Idx) : k0_pay10 (F := Ideal) i = 0 := by
  unfold k0_pay10; rw [shapeCast_self]; exact Ideal.ofBits_zero_f32
theorem pay13_apply (x : Vec Ideal S1024x2048 .bf16) (k : Fin 8) (d : Fin 2048) :
    k0_pay13 x (ix2 k d) = x (ix2 ⟨1016 + k.val, by have := k.isLt; omega⟩ d) := by
  unfold k0_pay13; rw [shapeCast_self]
  exact extractStridedSlice_apply _ _ _ _ _ fun a => by
    match a with
    | ⟨0, _⟩ => rfl
    | ⟨1, _⟩ => exact (Nat.zero_add _).symm

variable (m : (ℓ : Loc nD τ sig) → Buf (Elt Ideal) ℓ) (c : Dev nD) (t : Fin cfg0.N)

/-- The sequence of a point, and its first step. -/
def sq : Fin 8 := ⟨t.val / 2, by have := lt16 t; omega⟩
def t0 : ℕ := 1024 * (t.val % 2)

/-- The activations' block holds the sequence's inputs. -/
theorem iblk0_xin (r : Fin 1024) (d : Fin 2048) :
    (iblk m c 0 t : Vec Ideal S1024x2048 .bf16) (ix2 r d) = xin (args m c) (sq t) (t0 t + r.val) d := by
  have hr := r.isLt
  rw [iblk0_apply, xin_of_lt _ _ _ _ (by unfold t0; omega)]
  refine congrArg (fun i => (args m c).pa i _) (Fin.ext ?_)
  show 1024 * t.val + r.val = 2048 * (t.val / 2) + (1024 * (t.val % 2) + r.val); omega

/-- The tail before the block and the block hold the padded sequence. -/
theorem tailed_full (k : ℕ) (h5 : 5 ≤ k) (hk : k < 1032) (d : Fin 2048) :
    tailed (iblk m c 0 t) (tailAt m c t) k d = full (args m c) (sq t) (t0 t + k - 5) d := by
  unfold tailed
  by_cases h : k < 8
  · rw [dif_pos h]
    by_cases he : t.val % 2 = 0
    · rw [tailAt_even m c t he, pay9_apply]
      unfold full
      rw [if_pos (by unfold t0; rw [he]; omega)]
    · have hp : t.val - 1 < cfg0.N := Nat.lt_of_le_of_lt (Nat.sub_le _ _) t.isLt
      rw [tailAt_odd m c t he hp, pay13_apply, iblk0_xin]
      unfold full
      rw [if_neg (by unfold t0; omega)]
      have e1 : sq ⟨t.val - 1, hp⟩ = sq t := Fin.ext (by show (t.val - 1) / 2 = t.val / 2; omega)
      have e2 : t0 ⟨t.val - 1, hp⟩ + (1016 + k) = t0 t + k - 5 - 3 := by
        show 1024 * ((t.val - 1) % 2) + (1016 + k) = 1024 * (t.val % 2) + k - 5 - 3; omega
      rw [e1]
      exact congrArg (fun n => xin _ _ n d) e2
  · rw [dif_neg h, dif_pos (by omega), iblk0_xin]
    unfold full
    rw [if_neg (by omega)]
    exact congrArg (fun n => xin _ _ n d) (show t0 t + (k - 8) = t0 t + k - 5 - 3 by omega)

/-- THE CONVOLVED INPUT of a point. -/
theorem conv_value (r : Fin 1024) (d : Fin 2048) :
    conv (iblk m c 0 t) (tailAt m c t) (iblk m c 2 t) (iblk m c 3 t) (ix2 r d) = cv (args m c) (sq t) (t0 t + r.val) d := by
  have hr := r.isLt
  have e0 : (iblk m c 0 t : Vec Ideal S1024x2048 .bf16) (ix2 r d) = full (args m c) (sq t) (t0 t + r.val + 3) d := by
    rw [iblk0_xin]; unfold full; rw [if_neg (by omega)]; exact congrArg (fun n => xin _ _ n d) (by omega)
  rw [conv_apply, iblk3_apply, iblk2_apply, iblk2_apply, iblk2_apply, iblk2_apply, e0,
    tailed_full m c t _ (by omega) (by omega), tailed_full m c t _ (by omega) (by omega), tailed_full m c t _ (by omega) (by omega),
    show t0 t + (r.val + 5) - 5 = t0 t + r.val by omega, show t0 t + (r.val + 6) - 5 = t0 t + r.val + 1 by omega,
    show t0 t + (r.val + 7) - 5 = t0 t + r.val + 2 by omega]
  unfold cv
  rw [mul_comm ((args m c).wc 0 d), mul_comm ((args m c).wc 1 d), mul_comm ((args m c).wc 2 d), mul_comm ((args m c).wc 3 d)]
  ac_rfl

theorem logit_left (r : Fin 1024) (n : Fin 16) (j : Fin 128) :
    logit (conv (iblk m c 0 t) (tailAt m c t) (iblk m c 2 t) (iblk m c 3 t)) (iblk m c 4 t) (iblk m c 5 t) r n ⟨j.val, by have := j.isLt; omega⟩
      = lgt (args m c) (args m c).wa (args m c).ba (sq t) (t0 t + r.val) n j := by
  unfold logit lgt
  rw [iblk5_left]
  exact congrArg (· + _) (Finset.sum_congr rfl fun k _ => by rw [iblk4_left, conv_value])

theorem logit_right (r : Fin 1024) (n : Fin 16) (j : Fin 128) :
    logit (conv (iblk m c 0 t) (tailAt m c t) (iblk m c 2 t) (iblk m c 3 t)) (iblk m c 4 t) (iblk m c 5 t) r n ⟨128 + j.val, by have := j.isLt; omega⟩
      = lgt (args m c) (args m c).wx (args m c).bx (sq t) (t0 t + r.val) n j := by
  unfold logit lgt
  rw [iblk5_right]
  exact congrArg (· + _) (Finset.sum_congr rfl fun k _ => by rw [iblk4_right, conv_value])

/-- THE COEFFICIENTS of a point. -/
theorem coef_fst (r : Fin 1024) (d : Fin 2048) : (coefAt m c t).1 (ix2 r d) = aC (args m c) (sq t) d (t0 t + r.val) := by
  unfold coefAt coef
  rw [gates_fst_apply _ _ _ _ r (hd d) (pl d) d (hd_pl d), logit_left, iblk6_apply]
  rfl

theorem coef_snd (r : Fin 1024) (d : Fin 2048) : (coefAt m c t).2 (ix2 r d) = bC (args m c) (sq t) d (t0 t + r.val) := by
  unfold coefAt coef
  rw [gates_snd_apply _ _ _ _ r (hd d) (pl d) d (hd_pl d), logit_left, logit_right, iblk6_apply, conv_value]
  rfl

theorem col_fst (d : Fin 2048) (n : ℕ) (h : n < 1024) : col (coefAt m c t).1 d n = aC (args m c) (sq t) d (t0 t + n) := by
  rw [col_of_lt _ _ _ h]; exact coef_fst m c t ⟨n, h⟩ d
theorem col_snd (d : Fin 2048) (n : ℕ) (h : n < 1024) : col (coefAt m c t).2 d n = bC (args m c) (sq t) d (t0 t + n) := by
  rw [col_of_lt _ _ _ h]; exact coef_snd m c t ⟨n, h⟩ d

theorem coef_nonneg (d : Fin 2048) (r : Fin 1024) : 0 ≤ (coefAt m c t).1 (ix2 r d) := by rw [coef_fst]; exact dec_nonneg _ _
theorem coef_ne_top (d : Fin 2048) (r : Fin 1024) : (coefAt m c t).1 (ix2 r d) ≠ ⊤ := by rw [coef_fst]; exact dec_ne_top _ _

/-- If a block starts from the state before its first step, it goes on with the sequence's states. -/
theorem hs_block (d : Fin 2048) (n : ℕ) (h : n ≤ 1024) :
    hs (col (coefAt m c t).1 d) (col (coefAt m c t).2 d) (st (args m c) (sq t) d (t0 t)) n = st (args m c) (sq t) d (t0 t + n) := by
  unfold st
  rw [← hs_shift]
  exact hs_congr _ _ (fun i hi => col_fst m c t d i (by omega)) (fun i hi => col_snd m c t d i (by omega))

/-- THE STATE a block starts from. -/
theorem state_value (r : Fin 8) (d : Fin 2048) : stateAt m c t (ix2 r d) = st (args m c) (sq t) d (t0 t) := by
  by_cases he : t.val % 2 = 0
  · rw [stateAt_even m c t he, pay10_apply]
    unfold t0; rw [he]; rfl
  · have hp : t.val - 1 < cfg0.N := Nat.lt_of_le_of_lt (Nat.sub_le _ _) t.isLt
    have he' : (⟨t.val - 1, hp⟩ : Fin cfg0.N).val % 2 = 0 := by show (t.val - 1) % 2 = 0; omega
    rw [stateAt_odd m c t he hp]
    unfold k0_pay96 lastAt
    rw [shapeCast_self, stateAt_even m c _ he', lastOf_apply _ _ _ d 0 (coef_nonneg m c _ d) (coef_ne_top m c _ d) (fun r => pay10_apply _)]
    have e := hs_block m c ⟨t.val - 1, hp⟩ d 1024 le_rfl
    have e1 : sq ⟨t.val - 1, hp⟩ = sq t := Fin.ext (by show (t.val - 1) / 2 = t.val / 2; omega)
    have e2 : t0 ⟨t.val - 1, hp⟩ = 0 := by show 1024 * ((t.val - 1) % 2) = 0; omega
    have e3 : t0 t = 1024 := by show 1024 * (t.val % 2) = 1024; omega
    rw [e1, e2] at e
    rw [e3]
    exact e

/-- THE STATES of a point, -/
theorem states_value (r : Fin 1024) (d : Fin 2048) : statesAt m c t (ix2 r d) = st (args m c) (sq t) d (t0 t + r.val + 1) := by
  unfold statesAt
  rw [statesOf_apply _ _ _ d _ (coef_nonneg m c t d) (coef_ne_top m c t d) (fun r => state_value m c t r d)]
  exact hs_block m c t d (r.val + 1) (by have := r.isLt; omega)

/-- and the last of them. -/
theorem last_value (r : Fin 8) (d : Fin 2048) : lastAt m c t (ix2 r d) = st (args m c) (sq t) d (t0 t + 1024) := by
  unfold lastAt
  rw [lastOf_apply _ _ _ d _ (coef_nonneg m c t d) (coef_ne_top m c t d) (fun r => state_value m c t r d)]
  exact hs_block m c t d 1024 le_rfl

end Cert.KernelIdeal.Rg

end
-- ==== Proof.Final.lean ====
/- What the kernel's three result arrays end holding, as functions of the arguments: every block a grid point writes back
   is its part of the gated states, of the last three inputs and of the last states. -/
module

public import proofs.«01_k».proof.Proof.Value
public import Idealize.ShloMosaic.Lib.Pipeline.ValueKit.Geometry
public import Idealize.ShloMosaic.Lib.Claim

@[expose] public section

set_option maxRecDepth 16384

noncomputable section

namespace Cert.KernelIdeal.Rg

open Idealize.ShloMosaic Idealize.ShloMosaic.ValueIdx Idealize.ShloMosaic.TcCoe Idealize.SL.Sem
open Cert.KernelIdeal Cert.KernelIdeal.Gen
open Idealize.ShloMosaic.Pipeline (Dat)

/-- The three results as arrays. -/
def yArr (P : Args) : Vec Ideal ⟨2, ![16384, 2048]⟩ .bf16 := fun i => yR P (i 0) (i 1)
def cArr (P : Args) : Vec Ideal ⟨3, ![8, 3, 2048]⟩ .f32 := fun i => cR P (i 0) (i 1) (i 2)
def hArr (P : Args) : Vec Ideal ⟨3, ![8, 1, 2048]⟩ .f32 := fun i => hR P (i 0) (i 2)

variable (m : (ℓ : Loc nD τ sig) → Buf (Elt Ideal) ℓ) (ρ : Dev nD → PrngReg) (c : Dev nD) (t : Fin cfg0.N)

/-- A block of the gated states. -/
theorem y_value (r : Fin 1024) (d : Fin 2048) :
    yAt m c t (ix2 r d) = yR (args m c) ⟨1024 * t.val + r.val, by have := lt16 t; have := r.isLt; omega⟩ d := by
  have hr := r.isLt
  have e1 : (⟨(1024 * t.val + r.val) / 2048, by have := lt16 t; omega⟩ : Fin 8) = sq t := Fin.ext (by show (1024 * t.val + r.val) / 2048 = t.val / 2; omega)
  have e2 : (1024 * t.val + r.val) % 2048 + 1 = t0 t + r.val + 1 := by unfold t0; omega
  unfold yAt k0_pay1 yR
  dsimp only
  rw [e1, e2, ← states_value, ← iblk1_apply, ← gelu_kernel]
  rfl

/-- The last three inputs of a sequence, at its second point. -/
theorem c_value (h1 : t.val % 2 = 1) (j : Fin 3) (d : Fin 2048) : convAt m c t (ix3 0 j d) = cR (args m c) (sq t) j d := by
  have hj := j.isLt
  unfold convAt convOut k0_pay2 k0_pay11 cR
  rw [shapeCast_ab_1ab_apply]
  refine (extractStridedSlice_apply _ _ _ _ (ix2 (⟨1021 + j.val, by omega⟩ : Fin 1024) d) (fun a => ?_)).trans ?_
  · match a with
    | ⟨0, _⟩ => rfl
    | ⟨1, _⟩ => exact (Nat.zero_add _).symm
  · refine (iblk0_xin m c t _ d).trans ?_
    exact congrArg (fun n => xin _ _ n d) (show t0 t + (1021 + j.val) = 2045 + j.val by unfold t0; omega)

/-- The last state of a sequence, at its second point. -/
theorem h_value (h1 : t.val % 2 = 1) (d : Fin 2048) : hAt m c t (ix3 0 0 d) = hR (args m c) (sq t) d := by
  unfold hAt k0_pay3 hR
  rw [shapeCast_ab_1ab_apply]
  refine (extractStridedSlice_apply _ _ _ _ (ix2 (0 : Fin 8) d) (fun a => ?_)).trans ?_
  · match a with
    | ⟨0, _⟩ => rfl
    | ⟨1, _⟩ => exact (Nat.zero_add _).symm
  · rw [last_value]
    exact congrArg (st _ _ d) (show t0 t + 1024 = 2048 by unfold t0; omega)

/-- The same, at any index of a block. -/
theorem y_block (y : S1024x2048.Idx) : yAt m c t y = yR (args m c) ⟨1024 * t.val + (y 0).val, by have := lt16 t; have := (y 0).isLt; have h : S1024x2048.size 0 = 1024 := rfl; omega⟩ (y 1) := by
  conv_lhs => rw [eq_ix2 y]
  exact y_value m c t (y 0) (y 1)
theorem c_block (h1 : t.val % 2 = 1) (y : S1x3x2048.Idx) : convAt m c t y = cR (args m c) (sq t) (y 1) (y 2) := by
  have e0 : y 0 = (0 : Fin 1) := Subsingleton.elim (α := Fin 1) _ _
  conv_lhs => rw [eq_ix3 y, e0]
  exact c_value m c t h1 (y 1) (y 2)
theorem h_block (h1 : t.val % 2 = 1) (y : S1x1x2048.Idx) : hAt m c t y = hR (args m c) (sq t) (y 2) := by
  have e0 : y 0 = (0 : Fin 1) := Subsingleton.elim (α := Fin 1) _ _
  have e1 : y 1 = (0 : Fin 1) := Subsingleton.elim (α := Fin 1) _ _
  conv_lhs => rw [eq_ix3 y, e0, e1]
  exact h_value m c t h1 (y 2)

theorem index7 : ∀ t : Fin grid0.N, win0_7.index t 0 = t.val ∧ win0_7.index t 1 = 0 := by decide +kernel
theorem index8 : ∀ t : Fin grid0.N, win0_8.index t 0 = t.val / 2 ∧ win0_8.index t 1 = 0 ∧ win0_8.index t 2 = 0 := by decide +kernel
theorem index9 : ∀ t : Fin grid0.N, win0_9.index t 0 = t.val / 2 ∧ win0_9.index t 1 = 0 ∧ win0_9.index t 2 = 0 := by decide +kernel

/-- THE GATED STATES. -/
theorem final_y : (dats m 0 c).arrAt 7 cfg0.N = yArr (args m c) := by
  refine (dats m 0 c).arrAt_eq_of_covers 7 _ (by decide +kernel) fun t hf y => ?_
  rw [after0_7]
  refine (y_block m c t y).trans ?_
  refine congrArg₂ (yR (args m c)) (Fin.ext ?_) (Fin.ext ?_)
  · show 1024 * t.val + (y 0).val = win0_7.index t 0 * 1024 + 1 * (y 0).val
    rw [(index7 t).1]; omega
  · show (y 1).val = win0_7.index t 1 * 2048 + 1 * (y 1).val
    rw [(index7 t).2]; omega

/-- THE LAST INPUTS. -/
theorem final_c : (dats m 0 c).arrAt 8 cfg0.N = cArr (args m c) := by
  refine (dats m 0 c).arrAt_eq_of_covers 8 _ (by decide +kernel) fun t hf y => ?_
  have h1 : t.val % 2 = 1 := (flush0_8 t).mp hf
  rw [after0_8]
  refine (c_block m c t h1 y).trans ?_
  have p0 : ∀ {b b' : Fin 8} {j j' : Fin 3} {d d' : Fin 2048}, b = b' → j = j' → d = d' → cR (args m c) b j d = cR (args m c) b' j' d' := by
    rintro _ _ _ _ _ _ rfl rfl rfl; rfl
  refine p0 (Fin.ext ?_) (Fin.ext ?_) (Fin.ext ?_)
  · have h0 : (y 0).val < 1 := (y 0).isLt
    show t.val / 2 = win0_8.index t 0 * 1 + 1 * (y 0).val
    rw [(index8 t).1]; omega
  · show (y 1).val = win0_8.index t 1 * 3 + 1 * (y 1).val
    rw [(index8 t).2.1]; omega
  · show (y 2).val = win0_8.index t 2 * 2048 + 1 * (y 2).val
    rw [(index8 t).2.2]; omega

/-- THE LAST STATES. -/
theorem final_h : (dats m 0 c).arrAt 9 cfg0.N = hArr (args m c) := by
  refine (dats m 0 c).arrAt_eq_of_covers 9 _ (by decide +kernel) fun t hf y => ?_
  have h1 : t.val % 2 = 1 := (flush0_9 t).mp hf
  rw [after0_9]
  refine (h_block m c t h1 y).trans ?_
  refine congrArg₂ (hR (args m c)) (Fin.ext ?_) (Fin.ext ?_)
  · have h0 : (y 0).val < 1 := (y 0).isLt
    show t.val / 2 = win0_9.index t 0 * 1 + 1 * (y 0).val
    rw [(index9 t).1]; omega
  · show (y 2).val = win0_9.index t 2 * 2048 + 1 * (y 2).val
    rw [(index9 t).2.2]; omega

/-- THE KERNEL'S RUN, READ: the three results, and the arguments unchanged. -/
theorem run_value : θ_run defs (onTc (τ := τ) (main (F := Ideal))) ⟨m, fun _ => 0, ρ⟩ (fun r => ∀ c : Dev nD,
      (r.2.mem ((c.tc : Thread nD τ).loc main_v6_0) = yArr (args m c)
      ∧ r.2.mem ((c.tc : Thread nD τ).loc main_v6_1) = cArr (args m c)
      ∧ r.2.mem ((c.tc : Thread nD τ).loc main_v6_2) = hArr (args m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨⟨((h.1 c).1 7).trans (final_y m c), ((h.1 c).1 8).trans (final_c m c), ((h.1 c).1 9).trans (final_h m c)⟩, h.2 c⟩)
    (θ_run_and (run_main m ρ) (unchanged m ρ))

end Cert.KernelIdeal.Rg

end
-- ==== Proof.RefRow.lean ====
/- Reading and writing one row of a three-axis array at a position the loop counts: entrywise, the row's entries. -/
module

public import Idealize.ShloMosaic.Lib.ValueIdx
public import Idealize.ShloMosaic.Lib.DynamicIndex
public import Idealize.ShloMosaic.Lib.Pipeline.Value
public import Idealize.ShloMosaic.Lib.Pointwise.ShapeOpsCore

@[expose] public section

namespace Cert.ReferenceIdeal.Rg

open Idealize.ShloMosaic

variable {α : Type}

/-- The row at position `n`. -/
theorem row_read (x : (⟨3, ![2048, 8, 2048]⟩ : Shape).Idx → α) (start : Fin 3 → Int) (h : (⟨3, ![2048, 8, 2048]⟩ : Shape).Slices (fun _ => 0) ⟨3, ![1, 8, 2048]⟩)
    (n : ℕ) (hn : n < 2048) (h0 : start 0 = n) (h1 : start 1 = 0) (h2 : start 2 = 0) (b : Fin 8) (d : Fin 2048) :
    Host.dynamicSlice ⟨3, ![1, 8, 2048]⟩ x start h (ValueIdx.ix3 0 b d) = x (ValueIdx.ix3 ⟨n, hn⟩ b d) := by
  have hoff : (⟨3, ![2048, 8, 2048]⟩ : Shape).Slices ![n, 0, 0] ⟨3, ![1, 8, 2048]⟩ := ⟨rfl, fun a => by
    match a with
    | ⟨0, _⟩ => show n + 1 ≤ 2048; omega
    | ⟨1, _⟩ => show 0 + 8 ≤ 8; omega
    | ⟨2, _⟩ => show 0 + 2048 ≤ 2048; omega⟩
  rw [Host.dynamicSlice_eq_extractStridedSlice _ x start ![n, 0, 0] h hoff (fun a => by
    match a with
    | ⟨0, _⟩ => exact h0
    | ⟨1, _⟩ => exact h1
    | ⟨2, _⟩ => exact h2)]
  exact extractStridedSlice_apply _ _ _ _ _ (fun a => by
    match a with
    | ⟨0, _⟩ => exact (Nat.add_zero n).symm
    | ⟨1, _⟩ => exact (Nat.zero_add _).symm
    | ⟨2, _⟩ => exact (Nat.zero_add _).symm)

/-- An array whose row at position `n` was written: that row is the new one, -/
theorem row_write (x : (⟨3, ![2048, 8, 2048]⟩ : Shape).Idx → α) (u : (⟨3, ![1, 8, 2048]⟩ : Shape).Idx → α) (start : Fin 3 → Int)
    (h : (⟨3, ![2048, 8, 2048]⟩ : Shape).Slices (fun _ => 0) ⟨3, ![1, 8, 2048]⟩)
    (n : ℕ) (hn : n < 2048) (h0 : start 0 = n) (h1 : start 1 = 0) (h2 : start 2 = 0) (k : Fin 2048) (b : Fin 8) (d : Fin 2048) :
    Host.dynamicUpdateSlice x u start h (ValueIdx.ix3 k b d) = if k.val = n then u (ValueIdx.ix3 0 b d) else x (ValueIdx.ix3 k b d) := by
  have hoff : (⟨3, ![2048, 8, 2048]⟩ : Shape).Slices ![n, 0, 0] ⟨3, ![1, 8, 2048]⟩ := ⟨rfl, fun a => by
    match a with
    | ⟨0, _⟩ => show n + 1 ≤ 2048; omega
    | ⟨1, _⟩ => show 0 + 8 ≤ 8; omega
    | ⟨2, _⟩ => show 0 + 2048 ≤ 2048; omega⟩
  rw [Host.dynamicUpdateSlice_eq_updateSlice x u start h ![n, 0, 0] (fun a => by
    match a with
    | ⟨0, _⟩ => show (min (max (start 0) 0) ((2048 - 1 : ℕ) : Int)).toNat = n; rw [h0]; omega
    | ⟨1, _⟩ => show (min (max (start 1) 0) ((8 - 8 : ℕ) : Int)).toNat = 0; rw [h1]; omega
    | ⟨2, _⟩ => show (min (max (start 2) 0) ((2048 - 2048 : ℕ) : Int)).toNat = 0; rw [h2]; omega) hoff, updateSlice_apply]
  by_cases hk : k.val = n
  · rw [dif_pos (fun a => by
      match a with
      | ⟨0, _⟩ => show n ≤ k.val ∧ k.val < n + 1; omega
      | ⟨1, _⟩ => have := b.isLt; show 0 ≤ b.val ∧ b.val < 0 + 8; omega
      | ⟨2, _⟩ => have := d.isLt; show 0 ≤ d.val ∧ d.val < 0 + 2048; omega), if_pos hk]
    refine congrArg u (funext fun a => Fin.ext ?_)
    match a with
    | ⟨0, _⟩ => show k.val - n = 0; omega
    | ⟨1, _⟩ => rfl
    | ⟨2, _⟩ => rfl
  · rw [dif_neg (fun hh => hk (by have := hh 0; have h' : n ≤ k.val ∧ k.val < n + 1 := this; omega)), if_neg hk]

end Cert.ReferenceIdeal.Rg
-- ==== Proof.RefCoef.lean ====
/- The reference's values before its scan, read entrywise: the convolved inputs, the gates, the decays and the driven inputs
   are those of the recurrence's mathematics. -/
module

public import proofs.«01_k».proof.Proof.Math
public import proofs.«01_k».proof.Proof.Gen.ReferenceIdeal.Step
public import Idealize.ShloMosaic.Lib.ValueLayout
public import Idealize.ShloMosaic.Lib.IdealHost

@[expose] public section

set_option maxRecDepth 16384

noncomputable section

namespace Cert.ReferenceIdeal.Rg

open Idealize.ShloMosaic Idealize.ShloMosaic.ValueIdx
open Cert.ReferenceIdeal Cert.ReferenceIdeal.Gen Cert.ReferenceIdeal.Step
open Cert.KernelIdeal.Rg (Args argsOf xin xin_of_lt full cv lgt hd pl hd_pl aC bC st yR cR hR sg sp la dec inp sp_reference hs)

section Shapes
variable {α : Type}

/-- A row repeated over sequences and steps. -/
theorem rows_apply (x : S2048.Idx → α) (b : Fin 8) (t d : Fin 2048) :
    broadcastInDim S8x2048x2048 ![0, 1, 2] bcast_S1x1x2048_S8x2048x2048_0_1_2 (broadcastInDim S1x1x2048 ![2] bcast_S2048_S1x1x2048_2 x) (ix3 b t d)
      = x (ix1 d) := by
  refine (broadcastInDim_apply _ _ _ _ (ix3 (0 : Fin 1) (0 : Fin 1) d) fun a => ?_).trans (broadcastInDim_apply _ _ _ _ (ix1 d) fun a => ?_)
  · match a with
    | ⟨0, _⟩ => rfl
    | ⟨1, _⟩ => rfl
    | ⟨2, _⟩ => rfl
  · match a with
    | ⟨0, _⟩ => rfl

/-- A head-by-head bias repeated over sequences and steps. -/
theorem heads_apply (x : S16x128.Idx → α) (b : Fin 8) (t : Fin 2048) (n : Fin 16) (j : Fin 128) :
    broadcastInDim S8x2048x16x128 ![0, 1, 2, 3] bcast_S1x1x16x128_S8x2048x16x128_0_1_2_3 (broadcastInDim S1x1x16x128 ![2, 3] bcast_S16x128_S1x1x16x128_2_3 x) (ix4 b t n j)
      = x (ix2 n j) := by
  refine (broadcastInDim_apply _ _ _ _ (ix4 (0 : Fin 1) (0 : Fin 1) n j) fun a => ?_).trans (broadcastInDim_apply _ _ _ _ (ix2 n j) fun a => ?_)
  · match a with
    | ⟨0, _⟩ => rfl
    | ⟨1, _⟩ => rfl
    | ⟨2, _⟩ => rfl
    | ⟨3, _⟩ => rfl
  · match a with
    | ⟨0, _⟩ => rfl
    | ⟨1, _⟩ => rfl

/-- The filter's row `k`. -/
theorem filter_apply (w : S4x2048.Idx → α) (k : Fin 4) (hs : S4x2048.Slices ![k.val, 0] S1x2048) (d : Fin 2048) :
    shapeCast S2048 (extractStridedSlice S1x2048 ![k.val, 0] w hs) shapeCasts_S1x2048_S2048 (ix1 d) = w (ix2 k d) := by
  refine (shapeCast_1a_a_apply _ _ d).trans (extractStridedSlice_apply _ _ _ _ _ fun a => ?_)
  match a with
  | ⟨0, _⟩ => rfl
  | ⟨1, _⟩ => exact (Nat.zero_add _).symm

/-- A window of the padded sequences, `o` steps on. -/
theorem window_apply (x : S8x2051x2048.Idx → α) (o : ℕ) (ho : o ≤ 3) (hs : S8x2051x2048.Slices ![0, o, 0] S8x2048x2048) (b : Fin 8) (t d : Fin 2048) :
    extractStridedSlice S8x2048x2048 ![0, o, 0] x hs (ix3 b t d) = x (ix3 b ⟨t.val + o, by have := t.isLt; omega⟩ d) :=
  extractStridedSlice_apply _ _ _ _ _ fun a => by
    match a with
    | ⟨0, _⟩ => exact (Nat.zero_add _).symm
    | ⟨1, _⟩ => exact Nat.add_comm _ _
    | ⟨2, _⟩ => exact (Nat.zero_add _).symm

/-- A column's entry, by head and place. -/
theorem split_apply (x : S8x2048x2048.Idx → α) (b : Fin 8) (t : Fin 2048) (n : Fin 16) (j : Fin 128) :
    shapeCast S8x2048x16x128 x shapeCasts_S8x2048x2048_S8x2048x16x128 (ix4 b t n j)
      = x (ix3 b t ⟨128 * n.val + j.val, by have := n.isLt; have := j.isLt; omega⟩) :=
  shapeCast_apply _ _ _ _ (by
    rw [Shape.rowMajor_val_three, Shape.rowMajor_val_four]
    show (b.val * 2048 + t.val) * 2048 + (128 * n.val + j.val) = ((b.val * 2048 + t.val) * 16 + n.val) * 128 + j.val
    omega)

theorem join_apply (x : S8x2048x16x128.Idx → α) (b : Fin 8) (t d : Fin 2048) :
    shapeCast S8x2048x2048 x shapeCasts_S8x2048x16x128_S8x2048x2048 (ix3 b t d) = x (ix4 b t (hd d) (pl d)) :=
  shapeCast_apply _ _ _ _ (by
    rw [Shape.rowMajor_val_three, Shape.rowMajor_val_four]
    have := hd_pl d
    show ((b.val * 2048 + t.val) * 16 + (hd d).val) * 128 + (pl d).val = (b.val * 2048 + t.val) * 2048 + d.val
    omega)

/-- A token's row, by sequence and step. -/
theorem tokens_apply (x : S16384x2048.Idx → α) (b : Fin 8) (t d : Fin 2048) :
    shapeCast S8x2048x2048 x shapeCasts_S16384x2048_S8x2048x2048 (ix3 b t d) = x (ix2 ⟨2048 * b.val + t.val, by have := b.isLt; have := t.isLt; omega⟩ d) :=
  shapeCast_apply _ _ _ _ (by
    rw [Shape.rowMajor_val_two, Shape.rowMajor_val_three]
    show (2048 * b.val + t.val) * 2048 + d.val = (b.val * 2048 + t.val) * 2048 + d.val
    omega)

theorem cols_apply (x : S16384x8192.Idx → α) (o : ℕ) (ho : o + 2048 ≤ 8192) (hs : S16384x8192.Slices ![0, o] S16384x2048) (i : Fin 16384) (d : Fin 2048) :
    extractStridedSlice S16384x2048 ![0, o] x hs (ix2 i d) = x (ix2 i ⟨o + d.val, by have := d.isLt; omega⟩) :=
  extractStridedSlice_apply _ _ _ _ _ fun a => by
    match a with
    | ⟨0, _⟩ => exact (Nat.zero_add _).symm
    | ⟨1, _⟩ => rfl

/-- Steps first. -/
theorem steps_apply (x : S8x2048x2048.Idx → α) (t : Fin 2048) (b : Fin 8) (d : Fin 2048) :
    transpose S2048x8x2048 [1, 0, 2] x transposes_S8x2048x2048_S2048x8x2048_1_0_2 (ix3 t b d) = x (ix3 b t d) :=
  transpose_apply _ _ _ _ _ fun a => by
    match a with
    | ⟨0, _⟩ => rfl
    | ⟨1, _⟩ => rfl
    | ⟨2, _⟩ => rfl

theorem heads_last_apply (x : S16x128x8x2048.Idx → α) (b : Fin 8) (t : Fin 2048) (n : Fin 16) (j : Fin 128) :
    transpose S8x2048x16x128 [2, 3, 0, 1] x transposes_S16x128x8x2048_S8x2048x16x128_2_3_0_1 (ix4 b t n j) = x (ix4 n j b t) :=
  transpose_apply _ _ _ _ _ fun a => by
    match a with
    | ⟨0, _⟩ => rfl
    | ⟨1, _⟩ => rfl
    | ⟨2, _⟩ => rfl
    | ⟨3, _⟩ => rfl

end Shapes

/-- The block-diagonal product: a head's columns times its matrix. -/
theorem heads_dot (w : FVec Ideal S16x128x128 .f32) (x : FVec Ideal S8x2048x16x128 .f32) (b : Fin 8) (t : Fin 2048) (n : Fin 16) (j : Fin 128) :
    Host.dotGeneral dot_S16x128x128_S8x2048x16x128_S16x128x8x2048_1_3_2_01_0_2 none w x (ix4 n j b t)
      = ∑ k : Fin 128, x (ix4 b t n k) * w (ix3 n k j) := by
  simp only [Host.dotGeneral]
  rw [Ideal.dotGeneral_apply, ← Equiv.sum_comp (contrEquiv1 dot_S16x128x128_S8x2048x16x128_S16x128x8x2048_1_3_2_01_0_2 128 rfl rfl).symm]
  refine Finset.sum_congr rfl fun k _ => ?_
  rw [mul_comm]
  refine congrArg₂ (· * ·) (congrArg x (funext fun a => Fin.ext ?_)) (congrArg w (funext fun a => Fin.ext ?_))
  · match a with
    | ⟨0, _⟩ => rfl
    | ⟨1, _⟩ => rfl
    | ⟨2, _⟩ => rfl
    | ⟨3, _⟩ => exact contrEquiv1_symm_val dot_S16x128x128_S8x2048x16x128_S16x128x8x2048_1_3_2_01_0_2 128 rfl rfl k
  · match a with
    | ⟨0, _⟩ => rfl
    | ⟨1, _⟩ => exact contrEquiv1_symm_val dot_S16x128x128_S8x2048x16x128_S16x128x8x2048_1_3_2_01_0_2 128 rfl rfl k
    | ⟨2, _⟩ => rfl

variable (a0 : (⟨S16384x8192, .bf16⟩ : BufTy).Contents (Elt Ideal)) (a1 : (⟨S4x2048, .f32⟩ : BufTy).Contents (Elt Ideal))
  (a2 : (⟨S2048, .f32⟩ : BufTy).Contents (Elt Ideal)) (a3 : (⟨S16x128x128, .f32⟩ : BufTy).Contents (Elt Ideal))
  (a4 : (⟨S16x128, .f32⟩ : BufTy).Contents (Elt Ideal)) (a5 : (⟨S16x128x128, .f32⟩ : BufTy).Contents (Elt Ideal))
  (a6 : (⟨S16x128, .f32⟩ : BufTy).Contents (Elt Ideal)) (a7 : (⟨S2048, .f32⟩ : BufTy).Contents (Elt Ideal))

theorem v2_apply (b : Fin 8) (t d : Fin 2048) :
    A_main_v2 a0 a1 a2 a3 a4 a5 a6 a7 (ix3 b t d) = xin (argsOf a0 a1 a2 a3 a4 a5 a6 a7) b t.val d := by
  rw [xin_of_lt _ _ _ _ t.isLt]
  unfold A_main_v2 A_main_v1 A_main_v0
  refine (tokens_apply _ b t d).trans ((cols_apply _ 0 (by decide) _ _ d).trans ?_)
  show a0 _ = a0 _
  exact congrArg (fun k => a0 (ix2 _ k)) (Fin.ext (Nat.zero_add _))

theorem v4_apply (b : Fin 8) (k : Fin 2051) (d : Fin 2048) :
    A_main_v4 a0 a1 a2 a3 a4 a5 a6 a7 (ix3 b k d) = full (argsOf a0 a1 a2 a3 a4 a5 a6 a7) b k.val d := by
  unfold A_main_v4 full
  by_cases h : k.val < 3
  · rw [if_pos h]
    refine (concatenate_pair_apply_left (t := S8x2051x2048) (s₁ := S8x3x2048) (s₂ := S8x2048x2048) 1 _ _ concatenates_S8x3x2048_S8x2048x2048_S8x2051x2048_d1
      (ix3 b k d) rfl (ix3 b ⟨k.val, h⟩ d) fun a => ?_).trans ?_
    · match a with
      | ⟨0, _⟩ => rfl
      | ⟨1, _⟩ => rfl
      | ⟨2, _⟩ => rfl
    · exact Ideal.ofBits_zero_f32
  · rw [if_neg h]
    have h' : k.val - 3 < 2048 := by have := k.isLt; omega
    refine (concatenate_pair_apply_right (t := S8x2051x2048) (s₁ := S8x3x2048) (s₂ := S8x2048x2048) 1 (K_main_v3 (F := Ideal)) (A_main_v2 a0 a1 a2 a3 a4 a5 a6 a7)
      concatenates_S8x3x2048_S8x2048x2048_S8x2051x2048_d1 (ix3 b k d) rfl rfl (ix3 b ⟨k.val - 3, h'⟩ d)
      (fun a ha => ?_) (Nat.sub_add_cancel (Nat.le_of_not_lt h))).trans (v2_apply a0 a1 a2 a3 a4 a5 a6 a7 b ⟨k.val - 3, h'⟩ d)
    match a with
    | ⟨0, _⟩ => rfl
    | ⟨1, _⟩ => exact absurd rfl ha
    | ⟨2, _⟩ => rfl

/-- THE CONVOLVED INPUT. -/
theorem v34_apply (b : Fin 8) (t d : Fin 2048) :
    A_main_v34 a0 a1 a2 a3 a4 a5 a6 a7 (ix3 b t d) = cv (argsOf a0 a1 a2 a3 a4 a5 a6 a7) b t.val d := by
  have hw : ∀ (o : ℕ) (ho : o ≤ 3) (hs : S8x2051x2048.Slices ![0, o, 0] S8x2048x2048),
      extractStridedSlice S8x2048x2048 ![0, o, 0] (A_main_v4 a0 a1 a2 a3 a4 a5 a6 a7) hs (ix3 b t d)
        = full (argsOf a0 a1 a2 a3 a4 a5 a6 a7) b (t.val + o) d := fun o ho hs =>
    (window_apply _ o ho hs b t d).trans (v4_apply a0 a1 a2 a3 a4 a5 a6 a7 b _ d)
  unfold A_main_v34 A_main_v27 A_main_v20 A_main_v13 A_main_v33 A_main_v26 A_main_v19 A_main_v10
  simp only [addf_apply, mulf_apply]
  unfold cv
  refine congrArg₂ (· + ·) (congrArg₂ (· + ·) (congrArg₂ (· + ·) (congrArg₂ (· + ·) ?_ (congrArg₂ (· * ·) ?_ ?_)) (congrArg₂ (· * ·) ?_ ?_))
    (congrArg₂ (· * ·) ?_ ?_)) (congrArg₂ (· * ·) ?_ ?_)
  · exact rows_apply _ b t d
  · exact hw 0 (by decide) _
  · exact (rows_apply _ b t d).trans (filter_apply _ 0 _ d)
  · exact hw 1 (by decide) _
  · exact (rows_apply _ b t d).trans (filter_apply _ 1 _ d)
  · exact hw 2 (by decide) _
  · exact (rows_apply _ b t d).trans (filter_apply _ 2 _ d)
  · exact hw 3 (by decide) _
  · exact (rows_apply _ b t d).trans (filter_apply _ 3 _ d)

theorem v40_apply (b : Fin 8) (t : Fin 2048) (n : Fin 16) (j : Fin 128) :
    A_main_v40 a0 a1 a2 a3 a4 a5 a6 a7 (ix4 b t n j)
      = lgt (argsOf a0 a1 a2 a3 a4 a5 a6 a7) (argsOf a0 a1 a2 a3 a4 a5 a6 a7).wa (argsOf a0 a1 a2 a3 a4 a5 a6 a7).ba b t.val n j := by
  unfold A_main_v40 A_main_v37 A_main_v36 A_main_v39 A_main_v38 lgt
  rw [addf_apply]
  refine congrArg₂ (· + ·) ((heads_last_apply _ b t n j).trans ((heads_dot _ _ b t n j).trans (Finset.sum_congr rfl fun k _ => ?_))) (heads_apply _ b t n j)
  refine congrArg₂ (· * ·) ?_ rfl
  unfold A_main_v35
  exact (split_apply _ b t n k).trans (v34_apply a0 a1 a2 a3 a4 a5 a6 a7 b t _)

theorem v52_apply (b : Fin 8) (t : Fin 2048) (n : Fin 16) (j : Fin 128) :
    A_main_v52 a0 a1 a2 a3 a4 a5 a6 a7 (ix4 b t n j)
      = lgt (argsOf a0 a1 a2 a3 a4 a5 a6 a7) (argsOf a0 a1 a2 a3 a4 a5 a6 a7).wx (argsOf a0 a1 a2 a3 a4 a5 a6 a7).bx b t.val n j := by
  unfold A_main_v52 A_main_v49 A_main_v48 A_main_v51 A_main_v50 lgt
  rw [addf_apply]
  refine congrArg₂ (· + ·) ((heads_last_apply _ b t n j).trans ((heads_dot _ _ b t n j).trans (Finset.sum_congr rfl fun k _ => ?_))) (heads_apply _ b t n j)
  refine congrArg₂ (· * ·) ?_ rfl
  unfold A_main_v35
  exact (split_apply _ b t n k).trans (v34_apply a0 a1 a2 a3 a4 a5 a6 a7 b t _)

/-- The logistic function as the reference spells it. -/
theorem logistic (z : EReal) :
    Ideal.div (Ideal.ofBits .f32 0x3F800000#32) (Ideal.ofBits .f32 0x3F800000#32 + Ideal.exp (-z)) = sg z := by
  rw [Ideal.ofBits_one_f32]; rfl

/-- THE GATES. -/
theorem v47_apply (b : Fin 8) (t d : Fin 2048) :
    A_main_v47 a0 a1 a2 a3 a4 a5 a6 a7 (ix3 b t d)
      = sg (lgt (argsOf a0 a1 a2 a3 a4 a5 a6 a7) (argsOf a0 a1 a2 a3 a4 a5 a6 a7).wa (argsOf a0 a1 a2 a3 a4 a5 a6 a7).ba b t.val (hd d) (pl d)) := by
  unfold A_main_v47 A_main_v46 A_main_v44 A_main_v42 A_main_v41
  rw [← v40_apply, ← logistic]
  exact join_apply _ b t d

theorem v59_apply (b : Fin 8) (t d : Fin 2048) :
    A_main_v59 a0 a1 a2 a3 a4 a5 a6 a7 (ix3 b t d)
      = sg (lgt (argsOf a0 a1 a2 a3 a4 a5 a6 a7) (argsOf a0 a1 a2 a3 a4 a5 a6 a7).wx (argsOf a0 a1 a2 a3 a4 a5 a6 a7).bx b t.val (hd d) (pl d)) := by
  unfold A_main_v59 A_main_v58 A_main_v56 A_main_v54 A_main_v53
  rw [← v52_apply, ← logistic]
  exact join_apply _ b t d

/-- The soft maximum. -/
theorem v63_apply (d : Fin 2048) : A_main_v63 a0 a1 a2 a3 a4 a5 a6 a7 (ix1 d) = sp (a7 (ix1 d)) := by
  unfold A_main_v63
  rw [select_apply]
  have e : A_main_call0_v4 a0 a1 a2 a3 a4 a5 a6 a7 (ix1 d) = 0#1 := by
    unfold A_main_call0_v4
    generalize A_main_call0_v3 a0 a1 a2 a3 a4 a5 a6 a7 = z
    show FloatOps.cmpf (F := Ideal) (φ := .f32) .une (z (ix1 d)) (z (ix1 d)) = 0#1
    rw [Ideal.cmpf_def]
    simp [Ideal.cmp]
  rw [e, select_zero, ← sp_reference]
  rfl

/-- The decays' logarithms, -/
theorem v66_apply (b : Fin 8) (t d : Fin 2048) :
    A_main_v66 a0 a1 a2 a3 a4 a5 a6 a7 (ix3 b t d)
      = la (lgt (argsOf a0 a1 a2 a3 a4 a5 a6 a7) (argsOf a0 a1 a2 a3 a4 a5 a6 a7).wa (argsOf a0 a1 a2 a3 a4 a5 a6 a7).ba b t.val (hd d) (pl d)) (a7 (ix1 d)) := by
  unfold A_main_v66 A_main_v65 A_main_v64 A_main_v61 la
  rw [mulf_apply, mulf_apply, v47_apply, ← v63_apply a0 a1 a2 a3 a4 a5 a6 a7]
  exact congrArg₂ (· * ·) rfl (rows_apply _ b t d)

/-- THE DECAYS, steps first, -/
theorem v76_apply (t : Fin 2048) (b : Fin 8) (d : Fin 2048) :
    A_main_v76 a0 a1 a2 a3 a4 a5 a6 a7 (ix3 t b d) = aC (argsOf a0 a1 a2 a3 a4 a5 a6 a7) b d t.val := by
  unfold A_main_v76 A_main_v67 aC dec
  refine (steps_apply _ t b d).trans ?_
  exact congrArg Ideal.exp (v66_apply a0 a1 a2 a3 a4 a5 a6 a7 b t d)

/-- and THE DRIVEN INPUTS. -/
theorem v77_apply (t : Fin 2048) (b : Fin 8) (d : Fin 2048) :
    A_main_v77 a0 a1 a2 a3 a4 a5 a6 a7 (ix3 t b d) = bC (argsOf a0 a1 a2 a3 a4 a5 a6 a7) b d t.val := by
  unfold A_main_v77 A_main_v74 A_main_v73 A_main_v72 A_main_v71 A_main_v70 A_main_v69 bC inp
  refine (steps_apply _ t b d).trans ?_
  rw [mulf_apply, mulf_apply, v59_apply, v34_apply]
  refine congrArg₂ (· * ·) (congrArg₂ (· * ·) ?_ rfl) rfl
  exact congrArg (fun z => Ideal.sqrt (-(Ideal.expm1 (Ideal.ofBits .f32 0x40000000#32 * z)))) (v66_apply a0 a1 a2 a3 a4 a5 a6 a7 b t d)

end Cert.ReferenceIdeal.Rg

end
-- ==== Proof.RefRun.lean ====
/- The reference's run stated trip by trip: at contents that hold a state, one trip of the loop leaves the contents that hold the
   next state, so the results are read off the state after 2048 trips.  Follows the generated statement of the same facts. -/
module

public import proofs.«01_k».proof.Proof.Gen.ReferenceIdeal.Run
public import proofs.«01_k».proof.Proof.Gen.ReferenceIdeal.Step

@[expose] public section

noncomputable section

namespace Cert.ReferenceIdeal.Trips

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_3 : V0 (Proc.devRef .tc main_v79_3) = s.main_v79_3
  f_4 : V0 (Proc.devRef .tc main_v79_4) = s.main_v79_4
  f_0 : V0 (Proc.devRef .tc main_v79_0) = s.main_v79_0
  f_1 : V0 (Proc.devRef .tc main_v79_1) = s.main_v79_1
  n_2 : V0 (Proc.devRef .tc main_v79_2) = constantI S_ 32 (BitVec.ofNat 32 j)

variable {V0 s j}

set_option maxRecDepth 8192 in
theorem al_0 (h : Holds V0 s j) : (constantI S_ 32 0#32 : (Proc.devRef .tc main_while0b_call1_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call1_c_0 : DevRef τ sig).ty.Contents (Elt F)) = Cert.ReferenceIdeal.Step.b1 j s := by
  unfold Cert.ReferenceIdeal.Step.b1
  rfl
set_option maxRecDepth 8192 in
theorem al_2 (h : Holds V0 s j) : (Host.dynamicSlice S1x8x2048 (V0 (Proc.devRef .tc main_v79_0)) (fun k => (((![V0 (Proc.devRef .tc main_v79_2), constantI S_ 32 0#32, constantI S_ 32 0#32] : Fin 3 → (⟨S_, .i32⟩ : BufTy).Contents (Elt F))) k (Shape.Idx.first h_S_)).toInt) sliceFits_S2048x8x2048_S1x8x2048 : (Proc.devRef .tc main_while0b_call1_v0 : DevRef τ sig).ty.Contents (Elt F)) = Cert.ReferenceIdeal.Step.b2 j s := by
  unfold Cert.ReferenceIdeal.Step.b2
  rw [← al_0 h, ← al_1 h, h.f_0, h.n_2]
  try rfl
set_option maxRecDepth 8192 in
theorem al_3 (h : Holds V0 s j) : (shapeCast S8x2048 (Host.dynamicSlice S1x8x2048 (V0 (Proc.devRef .tc main_v79_0)) (fun k => (((![V0 (Proc.devRef .tc main_v79_2), constantI S_ 32 0#32, constantI S_ 32 0#32] : Fin 3 → (⟨S_, .i32⟩ : BufTy).Contents (Elt F))) k (Shape.Idx.first h_S_)).toInt) sliceFits_S2048x8x2048_S1x8x2048) shapeCasts_S1x8x2048_S8x2048 : (Proc.devRef .tc main_while0b_v105 : DevRef τ sig).ty.Contents (Elt F)) = Cert.ReferenceIdeal.Step.b3 j s := by
  unfold Cert.ReferenceIdeal.Step.b3
  rw [← al_2 h]
  try rfl
set_option maxRecDepth 8192 in
theorem al_4 (h : Holds V0 s j) : (constantI S_ 32 0#32 : (Proc.devRef .tc main_while0b_call2_c : DevRef τ sig).ty.Contents (Elt F)) = Cert.ReferenceIdeal.Step.b4 j s := by
  unfold Cert.ReferenceIdeal.Step.b4
  rfl
set_option maxRecDepth 8192 in
theorem al_5 (h : Holds V0 s j) : (constantI S_ 32 0#32 : (Proc.devRef .tc main_while0b_call2_c_0 : DevRef τ sig).ty.Contents (Elt F)) = Cert.ReferenceIdeal.Step.b5 j s := by
  unfold Cert.ReferenceIdeal.Step.b5
  rfl
set_option maxRecDepth 8192 in
theorem al_6 (h : Holds V0 s j) : (Host.dynamicSlice S1x8x2048 (V0 (Proc.devRef .tc main_v79_1)) (fun k => (((![V0 (Proc.devRef .tc main_v79_2), constantI S_ 32 0#32, constantI S_ 32 0#32] : Fin 3 → (⟨S_, .i32⟩ : BufTy).Contents (Elt F))) k (Shape.Idx.first h_S_)).toInt) sliceFits_S2048x8x2048_S1x8x2048 : (Proc.devRef .tc main_while0b_call2_v0 : DevRef τ sig).ty.Contents (Elt F)) = Cert.ReferenceIdeal.Step.b6 j s := by
  unfold Cert.ReferenceIdeal.Step.b6
  rw [← al_4 h, ← al_5 h, h.f_1, h.n_2]
  try rfl
set_option maxRecDepth 8192 in
theorem al_7 (h : Holds V0 s j) : (shapeCast S8x2048 (Host.dynamicSlice S1x8x2048 (V0 (Proc.devRef .tc main_v79_1)) (fun k => (((![V0 (Proc.devRef .tc main_v79_2), constantI S_ 32 0#32, constantI S_ 32 0#32] : Fin 3 → (⟨S_, .i32⟩ : BufTy).Contents (Elt F))) k (Shape.Idx.first h_S_)).toInt) sliceFits_S2048x8x2048_S1x8x2048) shapeCasts_S1x8x2048_S8x2048 : (Proc.devRef .tc main_while0b_v106 : DevRef τ sig).ty.Contents (Elt F)) = Cert.ReferenceIdeal.Step.b7 j s := by
  unfold Cert.ReferenceIdeal.Step.b7
  rw [← al_6 h]
  try rfl
set_option maxRecDepth 8192 in
theorem al_8 (h : Holds V0 s j) : (mulf (shapeCast S8x2048 (Host.dynamicSlice S1x8x2048 (V0 (Proc.devRef .tc main_v79_0)) (fun k => (((![V0 (Proc.devRef .tc main_v79_2), constantI S_ 32 0#32, constantI S_ 32 0#32] : Fin 3 → (⟨S_, .i32⟩ : BufTy).Contents (Elt F))) k (Shape.Idx.first h_S_)).toInt) sliceFits_S2048x8x2048_S1x8x2048) shapeCasts_S1x8x2048_S8x2048) (V0 (Proc.devRef .tc main_v79_3)) : (Proc.devRef .tc main_while0b_v107 : DevRef τ sig).ty.Contents (Elt F)) = Cert.ReferenceIdeal.Step.b8 j s := by
  unfold Cert.ReferenceIdeal.Step.b8
  rw [← al_3 h, h.f_3]
  try rfl
set_option maxRecDepth 8192 in
theorem al_9 (h : Holds V0 s j) : (res_main_while0b_v108 V0 : (Proc.devRef .tc main_while0b_v108 : DevRef τ sig).ty.Contents (Elt F)) = Cert.ReferenceIdeal.Step.b9 j s := by
  unfold res_main_while0b_v108 Cert.ReferenceIdeal.Step.b9
  rw [← al_8 h, ← al_7 h]
  try rfl
set_option maxRecDepth 8192 in
theorem al_10 (h : Holds V0 s j) : (broadcastInDim S1x8x2048 ![1, 2] bcast_S8x2048_S1x8x2048_1_2 (res_main_while0b_v108 V0) : (Proc.devRef .tc main_while0b_call3_v0 : DevRef τ sig).ty.Contents (Elt F)) = Cert.ReferenceIdeal.Step.b10 j s := by
  unfold Cert.ReferenceIdeal.Step.b10
  rw [← al_9 h]
  try rfl
set_option maxRecDepth 8192 in
theorem al_11 (h : Holds V0 s j) : (constantI S_ 32 0#32 : (Proc.devRef .tc main_while0b_call3_c : DevRef τ sig).ty.Contents (Elt F)) = Cert.ReferenceIdeal.Step.b11 j s := by
  unfold Cert.ReferenceIdeal.Step.b11
  rfl
set_option maxRecDepth 8192 in
theorem al_12 (h : Holds V0 s j) : (constantI S_ 32 0#32 : (Proc.devRef .tc main_while0b_call3_c_0 : DevRef τ sig).ty.Contents (Elt F)) = Cert.ReferenceIdeal.Step.b12 j s := by
  unfold Cert.ReferenceIdeal.Step.b12
  rfl
set_option maxRecDepth 8192 in
theorem al_13 (h : Holds V0 s j) : (Host.dynamicUpdateSlice (V0 (Proc.devRef .tc main_v79_4)) (broadcastInDim S1x8x2048 ![1, 2] bcast_S8x2048_S1x8x2048_1_2 (res_main_while0b_v108 V0)) (fun k => (((![V0 (Proc.devRef .tc main_v79_2), constantI S_ 32 0#32, constantI S_ 32 0#32] : Fin 3 → (⟨S_, .i32⟩ : BufTy).Contents (Elt F))) k (Shape.Idx.first h_S_)).toInt) updateFits_S2048x8x2048_S1x8x2048 : (Proc.devRef .tc main_while0b_v109 : DevRef τ sig).ty.Contents (Elt F)) = Cert.ReferenceIdeal.Step.b13 j s := by
  unfold Cert.ReferenceIdeal.Step.b13
  rw [← al_10 h, ← al_11 h, ← al_12 h, h.f_4, h.n_2]
  try rfl

/-! One trip's step of the carried values is `step`, field by field; a counter steps to the next number. -/

theorem step_3 (h : Holds V0 s j) : step_main_v79_3 V0 = (step j s).main_v79_3 := by
  unfold step_main_v79_3 Cert.ReferenceIdeal.Step.step
  show id (res_main_while0b_v108 V0) = _
  rw [al_9 h]
  try rfl
theorem step_4 (h : Holds V0 s j) : step_main_v79_4 V0 = (step j s).main_v79_4 := by
  unfold step_main_v79_4 Cert.ReferenceIdeal.Step.step
  exact al_13 h
theorem step_2 (h : Holds V0 s j) : step_main_v79_2 V0 = constantI S_ 32 (BitVec.ofNat 32 (j + 1)) := by
  unfold step_main_v79_2
  rw [h.n_2]
  funext i
  show BitVec.ofNat 32 j + 1#32 = BitVec.ofNat 32 (j + 1)
  simp only [BitVec.ofNat_add]

set_option maxRecDepth 8192 in
theorem out_main_v103_holds (h : Holds V0 s j) {x_main_arg0 : (⟨S16384x8192, .bf16⟩ : BufTy).Contents (Elt F)} (h_main_arg0 : V0 (Proc.devRef .tc main_arg0) = x_main_arg0) : out_main_v103 V0 = Cert.ReferenceIdeal.Step.R_main_v103 s x_main_arg0 := by
  unfold out_main_v103 Cert.ReferenceIdeal.Step.R_main_v103
  rw [h.f_4, h_main_arg0]
  try rfl

set_option maxRecDepth 8192 in
theorem out_main_v101_holds (h : Holds V0 s j) {x_main_arg0 : (⟨S16384x8192, .bf16⟩ : BufTy).Contents (Elt F)} (h_main_arg0 : V0 (Proc.devRef .tc main_arg0) = x_main_arg0) : out_main_v101 V0 = Cert.ReferenceIdeal.Step.R_main_v101 s x_main_arg0 := by
  unfold out_main_v101 Cert.ReferenceIdeal.Step.R_main_v101
  rw [h_main_arg0]
  try rfl

set_option maxRecDepth 8192 in
theorem out_main_v104_holds (h : Holds V0 s j) : out_main_v104 V0 = Cert.ReferenceIdeal.Step.R_main_v104 s := by
  unfold out_main_v104 Cert.ReferenceIdeal.Step.R_main_v104
  rw [h.f_3]
  try rfl

/-- One trip keeps the valuation holding: `step` of the state, the same set-up values, the next number. -/
theorem holds_step (h : Holds V0 s j) : Holds (STEP V0) (step j s) (j + 1) where
  f_3 := (STEP_main_v79_3 V0).trans (step_3 h)
  f_4 := (STEP_main_v79_4 V0).trans (step_4 h)
  n_2 := (STEP_main_v79_2 V0).trans (step_2 h)
  f_0 := (STEP_main_v79_0 V0).trans h.f_0
  f_1 := (STEP_main_v79_1 V0).trans h.f_1

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

variable (m : (ℓ : Loc nD τ sig) → Buf (Elt F) ℓ) (c : Dev nD)

set_option maxRecDepth 65536 in
set_option maxHeartbeats 500000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 2048 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v103) = Cert.ReferenceIdeal.Step.R_main_v103 (it c 2048) (m ((c.tc : Thread nD τ).loc main_arg0))
      ∧ r.2.mem ((c.tc : Thread nD τ).loc main_v101) = Cert.ReferenceIdeal.Step.R_main_v101 (it c 2048) (m ((c.tc : Thread nD τ).loc main_arg0))
      ∧ r.2.mem ((c.tc : Thread nD τ).loc main_v104) = Cert.ReferenceIdeal.Step.R_main_v104 (it c 2048)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    have hk := holds_iter m c (it c) (h0 c) (hs c) 2048
    ⟨(h c).1.trans (out_main_v103_holds hk (iter_main_arg0 m c 2048)), (h c).2.1.trans (out_main_v101_holds hk (iter_main_arg0 m c 2048)), (h c).2.2.1.trans (out_main_v104_holds hk), (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2⟩) (Value.run m ρ)

end Cert.ReferenceIdeal.Trips

end
-- ==== Proof.RefValue.lean ====
/- What the reference's three results are: after `n` trips the carried state is the state after `n` steps and the first `n`
   rows of the stacked states are those of the first `n` steps; the results read them. -/
module

public import proofs.«01_k».proof.Proof.RefRow
public import proofs.«01_k».proof.Proof.RefCoef
public import proofs.«01_k».proof.Proof.Final
public import proofs.«01_k».proof.Proof.RefRun
public import Idealize.ShloMosaic.Lib.Quiescent

@[expose] public section

set_option maxRecDepth 16384

noncomputable section

namespace Cert.ReferenceIdeal.Rg

open Idealize.ShloMosaic Idealize.SL.Sem
open Idealize.ShloMosaic.ValueIdx (shapeCast_1ab_ab_apply)
open Cert.ReferenceIdeal Cert.ReferenceIdeal.Gen Cert.ReferenceIdeal.Step
open Cert.KernelIdeal.Rg (Args argsOf aC bC st yR cR hR hs yArr cArr hArr gelu)

/-- The position word, read signed. -/
theorem start_val (j : ℕ) (hj : j < 2048) (z z' : (⟨S_, .i32⟩ : BufTy).Contents (Elt Ideal)) (i : S_.Idx) :
    (((![(constantI S_ 32 (BitVec.ofNat 32 j) : (⟨S_, .i32⟩ : BufTy).Contents (Elt Ideal)), z, z'] : Fin 3 → (⟨S_, .i32⟩ : BufTy).Contents (Elt Ideal))) 0 i).toInt = (j : ℤ) :=
  toInt_ofNat_of_lt (by omega)

section Trip
variable (P : Args) (j : ℕ) (hj : j < 2048) (s : State Ideal)
  (ha : ∀ (t : Fin 2048) (b : Fin 8) (d : Fin 2048), s.main_v79_0 (ValueIdx.ix3 t b d) = aC P b d t.val)
  (hb : ∀ (t : Fin 2048) (b : Fin 8) (d : Fin 2048), s.main_v79_1 (ValueIdx.ix3 t b d) = bC P b d t.val)
  (hh : ∀ (b : Fin 8) (d : Fin 2048), s.main_v79_3 (ValueIdx.ix2 b d) = st P b d j)
include hj ha hb hh

/-- One trip takes the state one step on. -/
theorem trip_state (b : Fin 8) (d : Fin 2048) : b9 j s (ValueIdx.ix2 b d) = st P b d (j + 1) := by
  show b3 j s (ValueIdx.ix2 b d) * s.main_v79_3 (ValueIdx.ix2 b d) + b7 j s (ValueIdx.ix2 b d) = aC P b d j * st P b d j + bC P b d j
  rw [hh]
  refine congrArg₂ (· + ·) (congrArg (· * st P b d j) ?_) ?_
  · unfold b3 b2
    refine (shapeCast_1ab_ab_apply _ _ b d).trans ((row_read _ _ _ j hj (start_val j hj _ _ _) rfl rfl b d).trans (ha ⟨j, hj⟩ b d))
  · unfold b7 b6
    refine (shapeCast_1ab_ab_apply _ _ b d).trans ((row_read _ _ _ j hj (start_val j hj _ _ _) rfl rfl b d).trans (hb ⟨j, hj⟩ b d))

/-- and writes it as the stack's row. -/
theorem trip_rows (k : Fin 2048) (b : Fin 8) (d : Fin 2048) :
    b13 j s (ValueIdx.ix3 k b d) = if k.val = j then st P b d (j + 1) else s.main_v79_4 (ValueIdx.ix3 k b d) := by
  unfold b13
  refine (row_write _ _ _ _ j hj (start_val j hj _ _ _) rfl rfl k b d).trans ?_
  refine congrArg (fun z => if k.val = j then z else s.main_v79_4 (ValueIdx.ix3 k b d)) ?_
  unfold b10
  refine (broadcastInDim_apply _ _ _ _ (ValueIdx.ix2 b d) fun a => ?_).trans (trip_state P j hj s ha hb hh b d)
  match a with
  | ⟨0, _⟩ => rfl
  | ⟨1, _⟩ => rfl

end Trip

section Run
variable (m : (ℓ : Loc nD τ sig) → Buf (Elt Ideal) ℓ) (c : Dev nD)

/-- The arguments of the reference's memory. -/
def args : Args := argsOf (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg5))
  (m ((c.tc : Thread nD τ).loc main_arg6)) (m ((c.tc : Thread nD τ).loc main_arg7))

/-- The states trip by trip. -/
def states : ℕ → State Ideal
  | 0 => Trips.initState m c
  | n + 1 => step n (states n)

theorem states_a (n : ℕ) (t : Fin 2048) (b : Fin 8) (d : Fin 2048) :
    (states m c n).main_v79_0 (ValueIdx.ix3 t b d) = aC (args m c) b d t.val := by
  induction n with
  | zero => exact v76_apply _ _ _ _ _ _ _ _ t b d
  | succ n ih => exact ih

theorem states_b (n : ℕ) (t : Fin 2048) (b : Fin 8) (d : Fin 2048) :
    (states m c n).main_v79_1 (ValueIdx.ix3 t b d) = bC (args m c) b d t.val := by
  induction n with
  | zero => exact v77_apply _ _ _ _ _ _ _ _ t b d
  | succ n ih => exact ih

/-- THE CARRIED STATE after `n` trips, -/
theorem states_h (n : ℕ) (hn : n ≤ 2048) (b : Fin 8) (d : Fin 2048) :
    (states m c n).main_v79_3 (ValueIdx.ix2 b d) = st (args m c) b d n := by
  induction n generalizing b d with
  | zero => exact Ideal.ofBits_zero_f32
  | succ n ih =>
    exact trip_state (args m c) n (by omega) (states m c n) (states_a m c n) (states_b m c n) (fun b d => ih (by omega) b d) b d

/-- and THE STACKED STATES. -/
theorem states_ys (n : ℕ) (hn : n ≤ 2048) (k : Fin 2048) (hk : k.val < n) (b : Fin 8) (d : Fin 2048) :
    (states m c n).main_v79_4 (ValueIdx.ix3 k b d) = st (args m c) b d (k.val + 1) := by
  induction n with
  | zero => exact absurd hk (Nat.not_lt_zero _)
  | succ n ih =>
    refine (trip_rows (args m c) n (by omega) (states m c n) (states_a m c n) (states_b m c n)
      (fun b d => states_h m c n (by omega) b d) k b d).trans ?_
    by_cases h : k.val = n
    · rw [if_pos h, h]
    · rw [if_neg h]; exact ih (by omega) (by omega)

/-- The output gate's inputs, by sequence and step. -/
theorem gate_apply (a0 : (⟨S16384x8192, .bf16⟩ : BufTy).Contents (Elt Ideal)) (b : Fin 8) (t d : Fin 2048) :
    shapeCast S8x2048x2048 (extractStridedSlice S16384x2048 ![0, 2048] (extf .f32 a0 bitsLt_bf16_f32 : FVec Ideal S16384x8192 .f32) slices_S16384x8192_S16384x2048_0_2048)
      shapeCasts_S16384x2048_S8x2048x2048 (ValueIdx.ix3 b t d)
      = a0 (ValueIdx.ix2 ⟨2048 * b.val + t.val, by have := b.isLt; have := t.isLt; omega⟩ ⟨2048 + d.val, by have := d.isLt; omega⟩) :=
  (tokens_apply _ b t d).trans (cols_apply _ 2048 (by decide) _ _ d)

/-- A value by sequence and step, read by token. -/
theorem token_apply (x : FVec Ideal S8x2048x2048 .f32) (i : S16384x2048.Idx) (b : Fin 8) (t d : Fin 2048)
    (h0 : (i 0).val = 2048 * b.val + t.val) (h1 : (i 1).val = d.val) :
    (truncf .bf16 (shapeCast S16384x2048 x shapeCasts_S8x2048x2048_S16384x2048) bitsLt_bf16_f32 : FVec Ideal S16384x2048 .bf16) i
      = x (ValueIdx.ix3 b t d) := by
  show shapeCast S16384x2048 x shapeCasts_S8x2048x2048_S16384x2048 i = _
  refine shapeCast_apply _ _ i (ValueIdx.ix3 b t d) ?_
  rw [Shape.rowMajor_val_two, Shape.rowMajor_val_three]
  show (b.val * 2048 + t.val) * 2048 + d.val = (i 0).val * 2048 + (i 1).val
  omega

/-- THE GATED STATES. -/
theorem res_y : R_main_v103 (states m c 2048) (m ((c.tc : Thread nD τ).loc main_arg0)) = yArr (args m c) := by
  refine funext fun i => ?_
  have hi : (i 0).val < 16384 := (i 0).isLt
  let b : Fin 8 := ⟨(i 0).val / 2048, by omega⟩
  let t : Fin 2048 := ⟨(i 0).val % 2048, by omega⟩
  let d : Fin 2048 := i 1
  have ei : i = ValueIdx.ix2 (⟨2048 * b.val + t.val, by show 2048 * ((i 0).val / 2048) + (i 0).val % 2048 < 16384; omega⟩ : Fin 16384) d := by
    refine (ValueIdx.eq_ix2 i).trans ?_
    refine congrArg (fun z : Fin 16384 => ValueIdx.ix2 z d) (Fin.ext ?_)
    show (i 0).val = 2048 * ((i 0).val / 2048) + (i 0).val % 2048
    omega
  unfold R_main_v103
  refine (token_apply _ i b t d ?_ rfl).trans ?_
  · show (i 0).val = 2048 * ((i 0).val / 2048) + (i 0).val % 2048
    omega
  · unfold yArr yR
    have hs : transpose S8x2048x2048 [1, 0, 2] ((states m c 2048).main_v79_4) transposes_S2048x8x2048_S8x2048x2048_1_0_2 (ValueIdx.ix3 b t d)
        = st (args m c) b d (t.val + 1) :=
      (transpose_apply _ _ _ _ (ValueIdx.ix3 t b d) fun a => by
        match a with
        | ⟨0, _⟩ => rfl
        | ⟨1, _⟩ => rfl
        | ⟨2, _⟩ => rfl).trans (states_ys m c 2048 le_rfl t t.isLt b d)
    have hg := gate_apply (m ((c.tc : Thread nD τ).loc main_arg0)) b t d
    refine congrArg₂ (· * ·) hs (?_ : _ = gelu _)
    refine Eq.trans ?_ (congrArg gelu (hg.trans ?_))
    · rfl
    · refine congrArg (fun z : Fin 16384 => m ((c.tc : Thread nD τ).loc main_arg0) (ValueIdx.ix2 z _)) (Fin.ext ?_)
      show 2048 * ((i 0).val / 2048) + (i 0).val % 2048 = (i 0).val
      omega

/-- THE LAST INPUTS. -/
theorem res_c (s : State Ideal) : R_main_v101 s (m ((c.tc : Thread nD τ).loc main_arg0)) = cArr (args m c) := by
  refine funext fun i => ?_
  have hj : (i 1).val < 3 := (i 1).isLt
  let b : Fin 8 := i 0
  let t : Fin 2048 := ⟨2045 + (i 1).val, by omega⟩
  let d : Fin 2048 := i 2
  unfold R_main_v101
  refine (extractStridedSlice_apply _ _ _ _ (ValueIdx.ix3 b t d) fun a => ?_).trans ?_
  · match a with
    | ⟨0, _⟩ => exact (Nat.zero_add _).symm
    | ⟨1, _⟩ => rfl
    | ⟨2, _⟩ => exact (Nat.zero_add _).symm
  · exact v2_apply (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) b t d

/-- THE LAST STATES. -/
theorem res_h : R_main_v104 (states m c 2048) = hArr (args m c) := by
  refine funext fun i => ?_
  unfold R_main_v104
  refine (broadcastInDim_apply _ _ _ _ (ValueIdx.ix2 (i 0 : Fin 8) (i 2 : Fin 2048)) fun a => ?_).trans (states_h m c 2048 le_rfl (i 0) (i 2))
  match a with
  | ⟨0, _⟩ => rfl
  | ⟨1, _⟩ => rfl

end Run

end Cert.ReferenceIdeal.Rg

end
-- ==== Proof.FfnRuns.lean ====
/- The expert kernel's body run on each of its three paths: at a block of an expert's first tokens, at a further block of the
   same expert, and past the last block. -/
module

public import proofs.«01_k».proof.Proof.Gen.Kernel2Ideal.Skeleton
public import proofs.«01_k».proof.Proof.Gen.Kernel2Ideal.Launch
public import Idealize.ShloMosaic.Lib.Exec
public import Idealize.ShloMosaic.Lib.Writes
public import Idealize.ShloMosaic.Lib.Ring
public import Idealize.ShloMosaic.Lib.VecWindow
public import Idealize.ShloMosaic.Lib.Pointwise
public import Idealize.ShloMosaic.Lib.Pipeline.Kit
public import Idealize.ShloMosaic.Lib.Pipeline.FrameBody
public import Idealize.ShloMosaic.Lib.Tactic

@[expose] public section

set_option maxRecDepth 16384
set_option Elab.async false

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel2Ideal Cert.Kernel2Ideal.Gen

variable {F : FTy → Type} [FloatOps F]

local notation "𝕄" => MT nD τ sig Unit (Elt F) ℕ (UR sig nD τ) ℕ

/-- The three tables, as the body is handed them. -/
abbrev tb0 : Memref sig .tc .smem S164 .i32 := Memref.whole main_v18
abbrev tb1 : Memref sig .tc .smem S164 .i32 := Memref.whole main_v25
abbrev tb2 : Memref sig .tc .smem S1 .i32 := Memref.whole main_v19

/-- The number of blocks that hold tokens, as the body reads it, -/
abbrev word2 (T2 : S1.Idx → Elt F .i32) : Elt F .i32 :=
  View.readAt (Elt F) tb2.view (Rect.unit (s := S1) ![0] S1.size inb_S1_S1_0).toLoadRect T2 (Shape.Idx.first (numel1_S1.symm ▸ Nat.one_pos))
/-- and whether a block begins its expert's tokens. -/
abbrev word1 (i : grid0.Coords) (T1 : S164.Idx → Elt F .i32) : Elt F .i32 :=
  View.readAt (Elt F) tb1.view (Rect.unit (s := S164) (k0_off2 i) S1.size (k0_off2_inb i)).toLoadRect T1 (Shape.Idx.first (numel1_S1.symm ▸ Nat.one_pos))
/-- The second as the body tests it. -/
abbrev begins (v : BitVec 32) : BitVec 1 := Scalar.cmpi .ne (Scalar.extui (Scalar.cmpi .eq v 1#32)) 0#32

theorem hz2 : (![0, 0] : Fin 2 → ℕ) = fun _ => 0 := by funext a; fin_cases a <;> rfl
theorem hz4 : (![0, 0, 0, 0] : Fin 4 → ℕ) = fun _ => 0 := by funext a; fin_cases a <;> rfl

/-- A read of all of a block is the block. -/
theorem ld_x {e : EltTy} (x : Vec F S256x2048 e) (inb : ∀ a : Fin 2, (![0, 0] : Fin 2 → ℕ) a + (![256, 2048] : Fin 2 → ℕ) a ≤ (![256, 2048] : Fin 2 → ℕ) a) :
    View.ld x (Rect.unit (s := S256x2048) ![0, 0] ![256, 2048] inb) = x := View.ld_unit_zero (S := S256x2048) hz2 inb x

/-- A read of all of a block after a store of all of it is what was stored. -/
theorem cov_x {κ : Kind} {sp : Space} {e : EltTy} (v : View sig κ sp S256x2048 e) (inb inb' : ∀ a : Fin 2, (![0, 0] : Fin 2 → ℕ) a + (![256, 2048] : Fin 2 → ℕ) a ≤ (![256, 2048] : Fin 2 → ℕ) a)
    (w : Vec F S256x2048 e) (L : List (View.Piece (Elt F) S256x2048 e)) :
    v.readCov (⟨Rect.unit (s := S256x2048) ![0, 0] ![256, 2048] inb', w⟩ :: L) (Rect.unit (s := S256x2048) ![0, 0] ![256, 2048] inb).toLoadRect = w :=
  View.readCov_full v inb inb' w L

/-- What a store of all of a block leaves. -/
theorem wr_x {κ : Kind} {sp : Space} {e : EltTy} (v : View sig κ sp S256x2048 e) (f : v.ty.Contents (Elt F)) (inb : ∀ a : Fin 2, (![0, 0] : Fin 2 → ℕ) a + (![256, 2048] : Fin 2 → ℕ) a ≤ (![256, 2048] : Fin 2 → ℕ) a)
    (w : Vec F S256x2048 e) (L : List (View.Piece (Elt F) S256x2048 e)) :
    v.read (Elt F) (v.writes (Elt F) f (⟨Rect.unit (s := S256x2048) ![0, 0] ![256, 2048] inb, w⟩ :: L)) = w :=
  View.read_writes_full v f inb w L

/-- A read of all of a block is the block. -/
theorem ld_w {e : EltTy} (x : Vec F S2048x512 e) (inb : ∀ a : Fin 2, (![0, 0] : Fin 2 → ℕ) a + (![2048, 512] : Fin 2 → ℕ) a ≤ (![2048, 512] : Fin 2 → ℕ) a) :
    View.ld x (Rect.unit (s := S2048x512) ![0, 0] ![2048, 512] inb) = x := View.ld_unit_zero (S := S2048x512) hz2 inb x

/-- A read of all of a block after a store of all of it is what was stored. -/
theorem cov_w {κ : Kind} {sp : Space} {e : EltTy} (v : View sig κ sp S2048x512 e) (inb inb' : ∀ a : Fin 2, (![0, 0] : Fin 2 → ℕ) a + (![2048, 512] : Fin 2 → ℕ) a ≤ (![2048, 512] : Fin 2 → ℕ) a)
    (w : Vec F S2048x512 e) (L : List (View.Piece (Elt F) S2048x512 e)) :
    v.readCov (⟨Rect.unit (s := S2048x512) ![0, 0] ![2048, 512] inb', w⟩ :: L) (Rect.unit (s := S2048x512) ![0, 0] ![2048, 512] inb).toLoadRect = w :=
  View.readCov_full v inb inb' w L

/-- What a store of all of a block leaves. -/
theorem wr_w {κ : Kind} {sp : Space} {e : EltTy} (v : View sig κ sp S2048x512 e) (f : v.ty.Contents (Elt F)) (inb : ∀ a : Fin 2, (![0, 0] : Fin 2 → ℕ) a + (![2048, 512] : Fin 2 → ℕ) a ≤ (![2048, 512] : Fin 2 → ℕ) a)
    (w : Vec F S2048x512 e) (L : List (View.Piece (Elt F) S2048x512 e)) :
    v.read (Elt F) (v.writes (Elt F) f (⟨Rect.unit (s := S2048x512) ![0, 0] ![2048, 512] inb, w⟩ :: L)) = w :=
  View.read_writes_full v f inb w L

/-- A read of all of a block is the block. -/
theorem ld_v {e : EltTy} (x : Vec F S512x2048 e) (inb : ∀ a : Fin 2, (![0, 0] : Fin 2 → ℕ) a + (![512, 2048] : Fin 2 → ℕ) a ≤ (![512, 2048] : Fin 2 → ℕ) a) :
    View.ld x (Rect.unit (s := S512x2048) ![0, 0] ![512, 2048] inb) = x := View.ld_unit_zero (S := S512x2048) hz2 inb x

/-- A read of all of a block after a store of all of it is what was stored. -/
theorem cov_v {κ : Kind} {sp : Space} {e : EltTy} (v : View sig κ sp S512x2048 e) (inb inb' : ∀ a : Fin 2, (![0, 0] : Fin 2 → ℕ) a + (![512, 2048] : Fin 2 → ℕ) a ≤ (![512, 2048] : Fin 2 → ℕ) a)
    (w : Vec F S512x2048 e) (L : List (View.Piece (Elt F) S512x2048 e)) :
    v.readCov (⟨Rect.unit (s := S512x2048) ![0, 0] ![512, 2048] inb', w⟩ :: L) (Rect.unit (s := S512x2048) ![0, 0] ![512, 2048] inb).toLoadRect = w :=
  View.readCov_full v inb inb' w L

/-- What a store of all of a block leaves. -/
theorem wr_v {κ : Kind} {sp : Space} {e : EltTy} (v : View sig κ sp S512x2048 e) (f : v.ty.Contents (Elt F)) (inb : ∀ a : Fin 2, (![0, 0] : Fin 2 → ℕ) a + (![512, 2048] : Fin 2 → ℕ) a ≤ (![512, 2048] : Fin 2 → ℕ) a)
    (w : Vec F S512x2048 e) (L : List (View.Piece (Elt F) S512x2048 e)) :
    v.read (Elt F) (v.writes (Elt F) f (⟨Rect.unit (s := S512x2048) ![0, 0] ![512, 2048] inb, w⟩ :: L)) = w :=
  View.read_writes_full v f inb w L

/-- A read of all of a block is the block. -/
theorem ld_W {e : EltTy} (x : Vec F S1x1x2048x512 e) (inb : ∀ a : Fin 4, (![0, 0, 0, 0] : Fin 4 → ℕ) a + (![1, 1, 2048, 512] : Fin 4 → ℕ) a ≤ (![1, 1, 2048, 512] : Fin 4 → ℕ) a) :
    View.ld x (Rect.unit (s := S1x1x2048x512) ![0, 0, 0, 0] ![1, 1, 2048, 512] inb) = x := View.ld_unit_zero (S := S1x1x2048x512) hz4 inb x

/-- A read of all of a block is the block. -/
theorem ld_V {e : EltTy} (x : Vec F S1x1x512x2048 e) (inb : ∀ a : Fin 4, (![0, 0, 0, 0] : Fin 4 → ℕ) a + (![1, 1, 512, 2048] : Fin 4 → ℕ) a ≤ (![1, 1, 512, 2048] : Fin 4 → ℕ) a) :
    View.ld x (Rect.unit (s := S1x1x512x2048) ![0, 0, 0, 0] ![1, 1, 512, 2048] inb) = x := View.ld_unit_zero (S := S1x1x512x2048) hz4 inb x

set_option maxHeartbeats 4000000 in
/-- The run at the first block of an expert: the weights are kept rounded, and the block is put through them. -/
theorem runA (c : Dev nD) (i : grid0.Coords) (arg4 : Memref sig .tc .vmem S256x2048 .f32) (harg4 : arg4.IsWhole) (arg5 : Memref sig .tc .vmem S1x1x2048x512 .f32) (harg5 : arg5.IsWhole) (arg6 : Memref sig .tc .vmem S1x1x2048x512 .f32) (harg6 : arg6.IsWhole) (arg7 : Memref sig .tc .vmem S1x1x512x2048 .f32) (harg7 : arg7.IsWhole) (arg8 : Memref sig .tc .vmem S256x2048 .f32) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S512x2048 .bf16) (harg11 : arg11.IsWhole)
    (T0 : S164.Idx → Elt F .i32) (T1 : S164.Idx → Elt F .i32) (T2 : S1.Idx → Elt F .i32)
    (x0 : S256x2048.Idx → Elt F .f32) (x1 : S1x1x2048x512.Idx → Elt F .f32) (x2 : S1x1x2048x512.Idx → Elt F .f32) (x3 : S1x1x512x2048.Idx → Elt F .f32)
    (h1 : k0_cond1 i (word2 T2) = 1#1) (h2 : begins (word1 i T1) = 1#1) (h3 : ¬k0_cond3 i (word2 T2) = 1#1) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ (tb0.view.loc (c : Thread nD τ) ↦{fullShare.right} T0) ∗ (tb1.view.loc (c : Thread nD τ) ↦{fullShare.right} T1) ∗ (tb2.view.loc (c : Thread nD τ) ↦{fullShare.right} T2) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg4 fullShare x0 ∗ owns (c : Thread nD τ) arg5 fullShare x1 ∗ owns (c : Thread nD τ) arg6 fullShare x2 ∗ owns (c : Thread nD τ) arg7 fullShare x3 ∗ (tb0.view.loc (c : Thread nD τ) ↦{fullShare.right} T0) ∗ (tb1.view.loc (c : Thread nD τ) ↦{fullShare.right} T1) ∗ (tb2.view.loc (c : Thread nD τ) ↦{fullShare.right} T2) ∗ owns (c : Thread nD τ) arg8 fullShare (k0_pay4 x0 (k0_pay1 x1) (k0_pay2 x2) (k0_pay3 x3)) ∗ owns (c : Thread nD τ) arg9 fullShare (k0_pay1 x1) ∗ owns (c : Thread nD τ) arg10 fullShare (k0_pay2 x2) ∗ owns (c : Thread nD τ) arg11 fullShare (k0_pay3 x3)) -∗ K ⟨⟩))
      ⊢ wp frame (wpE (defs₀ (F := F)) Variants.none c none) Set.univ (cc0_expert_ffn i tb0 (Memref.isWhole_whole _) tb1 (Memref.isWhole_whole _) tb2 (Memref.isWhole_whole _) arg4 harg4 arg5 harg5 arg6 harg6 arg7 harg7 arg8 harg8 arg9 harg9 arg10 harg10 arg11 harg11) K := by
  rw [cc0_expert_ffn_eq_skeleton]; unfold cc0_expert_ffn_skel
  unfold owns
  have hT0 : tb0.IsWhole := Memref.isWhole_whole _
  have hT1 : tb1.IsWhole := Memref.isWhole_whole _
  have hT2 : tb2.IsWhole := Memref.isWhole_whole _
  iintro ⟨⟨%f0, %hf0, H0⟩, ⟨%f1, %hf1, H1⟩, ⟨%f2, %hf2, H2⟩, ⟨%f3, %hf3, H3⟩, HT0, HT1, HT2, ⟨%d4, %f4, -, H4⟩, ⟨%ds0, %fs0, -, HS0⟩, ⟨%ds1, %fs1, -, HS1⟩, ⟨%ds2, %fs2, -, HS2⟩, Hk⟩
  obtain rfl := harg4.eq_unread hf0; obtain rfl := harg5.eq_unread hf1; obtain rfl := harg6.eq_unread hf2; obtain rfl := harg7.eq_unread hf3
  sl_exec! (disch := first | (guard_target = k0_cond1 _ _ = _; exact h1) | (guard_target = Scalar.cmpi _ _ _ = _; exact h2) | (guard_target = ¬(k0_cond3 _ _ = _); exact h3))
  sl_step
  iapply Hk
  isplitl [H0]
  · iexists _; isplitr; swap; · iexact H0
    ipureintro; exact harg4.read_unread _
  isplitl [H1]
  · iexists _; isplitr; swap; · iexact H1
    ipureintro; exact harg5.read_unread _
  isplitl [H2]
  · iexists _; isplitr; swap; · iexact H2
    ipureintro; exact harg6.read_unread _
  isplitl [H3]
  · iexists _; isplitr; swap; · iexact H3
    ipureintro; exact harg7.read_unread _
  isplitl [HT0]; · iexact HT0
  isplitl [HT1]; · iexact HT1
  isplitl [HT2]; · iexact HT2
  isplitl [H4]
  · iexists _; isplitr; swap; · iexact H4
    ipureintro
    sl_unfold_words
    simp only [wr_x, wr_w, wr_v, View.readAt_eq_ld, cov_x, cov_w, cov_v, Memref.IsWhole.read_unread, ld_x, ld_w, ld_v, ld_W, ld_V]
  isplitl [HS0]
  · iexists _; isplitr; swap; · iexact HS0
    ipureintro
    sl_unfold_words
    simp only [wr_x, wr_w, wr_v, View.readAt_eq_ld, cov_x, cov_w, cov_v, Memref.IsWhole.read_unread, ld_x, ld_w, ld_v, ld_W, ld_V]
  isplitl [HS1]
  · iexists _; isplitr; swap; · iexact HS1
    ipureintro
    sl_unfold_words
    simp only [wr_x, wr_w, wr_v, View.readAt_eq_ld, cov_x, cov_w, cov_v, Memref.IsWhole.read_unread, ld_x, ld_w, ld_v, ld_W, ld_V]
  iexists _; isplitr; swap; · iexact HS2
  ipureintro
  sl_unfold_words
  simp only [wr_x, wr_w, wr_v, View.readAt_eq_ld, cov_x, cov_w, cov_v, Memref.IsWhole.read_unread, ld_x, ld_w, ld_v, ld_W, ld_V]

set_option maxHeartbeats 4000000 in
/-- The run at a further block of an expert: the block is put through the weights kept. -/
theorem runB (c : Dev nD) (i : grid0.Coords) (arg4 : Memref sig .tc .vmem S256x2048 .f32) (harg4 : arg4.IsWhole) (arg5 : Memref sig .tc .vmem S1x1x2048x512 .f32) (harg5 : arg5.IsWhole) (arg6 : Memref sig .tc .vmem S1x1x2048x512 .f32) (harg6 : arg6.IsWhole) (arg7 : Memref sig .tc .vmem S1x1x512x2048 .f32) (harg7 : arg7.IsWhole) (arg8 : Memref sig .tc .vmem S256x2048 .f32) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S512x2048 .bf16) (harg11 : arg11.IsWhole)
    (T0 : S164.Idx → Elt F .i32) (T1 : S164.Idx → Elt F .i32) (T2 : S1.Idx → Elt F .i32)
    (x0 : S256x2048.Idx → Elt F .f32) (x1 : S1x1x2048x512.Idx → Elt F .f32) (x2 : S1x1x2048x512.Idx → Elt F .f32) (x3 : S1x1x512x2048.Idx → Elt F .f32) (s0 : S2048x512.Idx → Elt F .bf16) (s1 : S2048x512.Idx → Elt F .bf16) (s2 : S512x2048.Idx → Elt F .bf16)
    (h1 : k0_cond1 i (word2 T2) = 1#1) (h2 : ¬begins (word1 i T1) = 1#1) (h3 : ¬k0_cond3 i (word2 T2) = 1#1) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ (tb0.view.loc (c : Thread nD τ) ↦{fullShare.right} T0) ∗ (tb1.view.loc (c : Thread nD τ) ↦{fullShare.right} T1) ∗ (tb2.view.loc (c : Thread nD τ) ↦{fullShare.right} T2) ∗ (∃ d, owns (c : Thread nD τ) arg8 fullShare d) ∗ owns (c : Thread nD τ) arg9 fullShare s0 ∗ owns (c : Thread nD τ) arg10 fullShare s1 ∗ owns (c : Thread nD τ) arg11 fullShare s2
        ∗ (iprop(owns (c : Thread nD τ) arg4 fullShare x0 ∗ owns (c : Thread nD τ) arg5 fullShare x1 ∗ owns (c : Thread nD τ) arg6 fullShare x2 ∗ owns (c : Thread nD τ) arg7 fullShare x3 ∗ (tb0.view.loc (c : Thread nD τ) ↦{fullShare.right} T0) ∗ (tb1.view.loc (c : Thread nD τ) ↦{fullShare.right} T1) ∗ (tb2.view.loc (c : Thread nD τ) ↦{fullShare.right} T2) ∗ owns (c : Thread nD τ) arg8 fullShare (k0_pay4 x0 s0 s1 s2) ∗ owns (c : Thread nD τ) arg9 fullShare s0 ∗ owns (c : Thread nD τ) arg10 fullShare s1 ∗ owns (c : Thread nD τ) arg11 fullShare s2) -∗ K ⟨⟩))
      ⊢ wp frame (wpE (defs₀ (F := F)) Variants.none c none) Set.univ (cc0_expert_ffn i tb0 (Memref.isWhole_whole _) tb1 (Memref.isWhole_whole _) tb2 (Memref.isWhole_whole _) arg4 harg4 arg5 harg5 arg6 harg6 arg7 harg7 arg8 harg8 arg9 harg9 arg10 harg10 arg11 harg11) K := by
  rw [cc0_expert_ffn_eq_skeleton]; unfold cc0_expert_ffn_skel
  unfold owns
  have hT0 : tb0.IsWhole := Memref.isWhole_whole _
  have hT1 : tb1.IsWhole := Memref.isWhole_whole _
  have hT2 : tb2.IsWhole := Memref.isWhole_whole _
  iintro ⟨⟨%f0, %hf0, H0⟩, ⟨%f1, %hf1, H1⟩, ⟨%f2, %hf2, H2⟩, ⟨%f3, %hf3, H3⟩, HT0, HT1, HT2, ⟨%d4, %f4, -, H4⟩, ⟨%fs0, %hfs0, HS0⟩, ⟨%fs1, %hfs1, HS1⟩, ⟨%fs2, %hfs2, HS2⟩, Hk⟩
  obtain rfl := harg4.eq_unread hf0; obtain rfl := harg5.eq_unread hf1; obtain rfl := harg6.eq_unread hf2; obtain rfl := harg7.eq_unread hf3; obtain rfl := harg9.eq_unread hfs0; obtain rfl := harg10.eq_unread hfs1; obtain rfl := harg11.eq_unread hfs2
  sl_exec! (disch := first | (guard_target = k0_cond1 _ _ = _; exact h1) | (guard_target = ¬(Scalar.cmpi _ _ _ = _); exact h2) | (guard_target = ¬(k0_cond3 _ _ = _); exact h3))
  sl_step
  iapply Hk
  isplitl [H0]
  · iexists _; isplitr; swap; · iexact H0
    ipureintro; exact harg4.read_unread _
  isplitl [H1]
  · iexists _; isplitr; swap; · iexact H1
    ipureintro; exact harg5.read_unread _
  isplitl [H2]
  · iexists _; isplitr; swap; · iexact H2
    ipureintro; exact harg6.read_unread _
  isplitl [H3]
  · iexists _; isplitr; swap; · iexact H3
    ipureintro; exact harg7.read_unread _
  isplitl [HT0]; · iexact HT0
  isplitl [HT1]; · iexact HT1
  isplitl [HT2]; · iexact HT2
  isplitl [H4]
  · iexists _; isplitr; swap; · iexact H4
    ipureintro
    sl_unfold_words
    simp only [wr_x, wr_w, wr_v, View.readAt_eq_ld, cov_x, cov_w, cov_v, Memref.IsWhole.read_unread, ld_x, ld_w, ld_v, ld_W, ld_V]
  isplitl [HS0]
  · iexists _; isplitr; swap; · iexact HS0
    ipureintro
    exact harg9.read_unread _
  isplitl [HS1]
  · iexists _; isplitr; swap; · iexact HS1
    ipureintro
    exact harg10.read_unread _
  iexists _; isplitr; swap; · iexact HS2
  ipureintro
  exact harg11.read_unread _

set_option maxHeartbeats 4000000 in
/-- The run past the last block: the result is zero. -/
theorem runC (c : Dev nD) (i : grid0.Coords) (arg4 : Memref sig .tc .vmem S256x2048 .f32) (harg4 : arg4.IsWhole) (arg5 : Memref sig .tc .vmem S1x1x2048x512 .f32) (harg5 : arg5.IsWhole) (arg6 : Memref sig .tc .vmem S1x1x2048x512 .f32) (harg6 : arg6.IsWhole) (arg7 : Memref sig .tc .vmem S1x1x512x2048 .f32) (harg7 : arg7.IsWhole) (arg8 : Memref sig .tc .vmem S256x2048 .f32) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S512x2048 .bf16) (harg11 : arg11.IsWhole)
    (T0 : S164.Idx → Elt F .i32) (T1 : S164.Idx → Elt F .i32) (T2 : S1.Idx → Elt F .i32)
    (x0 : S256x2048.Idx → Elt F .f32) (x1 : S1x1x2048x512.Idx → Elt F .f32) (x2 : S1x1x2048x512.Idx → Elt F .f32) (x3 : S1x1x512x2048.Idx → Elt F .f32)
    (h1 : ¬k0_cond1 i (word2 T2) = 1#1) (h3 : k0_cond3 i (word2 T2) = 1#1) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ (tb0.view.loc (c : Thread nD τ) ↦{fullShare.right} T0) ∗ (tb1.view.loc (c : Thread nD τ) ↦{fullShare.right} T1) ∗ (tb2.view.loc (c : Thread nD τ) ↦{fullShare.right} T2) ∗ (∃ d, owns (c : Thread nD τ) arg8 fullShare d)
        ∗ (iprop(owns (c : Thread nD τ) arg4 fullShare x0 ∗ owns (c : Thread nD τ) arg5 fullShare x1 ∗ owns (c : Thread nD τ) arg6 fullShare x2 ∗ owns (c : Thread nD τ) arg7 fullShare x3 ∗ (tb0.view.loc (c : Thread nD τ) ↦{fullShare.right} T0) ∗ (tb1.view.loc (c : Thread nD τ) ↦{fullShare.right} T1) ∗ (tb2.view.loc (c : Thread nD τ) ↦{fullShare.right} T2) ∗ owns (c : Thread nD τ) arg8 fullShare k0_pay5) -∗ K ⟨⟩))
      ⊢ wp frame (wpE (defs₀ (F := F)) Variants.none c none) Set.univ (cc0_expert_ffn i tb0 (Memref.isWhole_whole _) tb1 (Memref.isWhole_whole _) tb2 (Memref.isWhole_whole _) arg4 harg4 arg5 harg5 arg6 harg6 arg7 harg7 arg8 harg8 arg9 harg9 arg10 harg10 arg11 harg11) K := by
  rw [cc0_expert_ffn_eq_skeleton]; unfold cc0_expert_ffn_skel
  unfold owns
  have hT0 : tb0.IsWhole := Memref.isWhole_whole _
  have hT1 : tb1.IsWhole := Memref.isWhole_whole _
  have hT2 : tb2.IsWhole := Memref.isWhole_whole _
  iintro ⟨⟨%f0, %hf0, H0⟩, ⟨%f1, %hf1, H1⟩, ⟨%f2, %hf2, H2⟩, ⟨%f3, %hf3, H3⟩, HT0, HT1, HT2, ⟨%d4, %f4, -, H4⟩, Hk⟩
  obtain rfl := harg4.eq_unread hf0; obtain rfl := harg5.eq_unread hf1; obtain rfl := harg6.eq_unread hf2; obtain rfl := harg7.eq_unread hf3
  sl_exec! (disch := first | (guard_target = ¬(k0_cond1 _ _ = _); exact h1) | (guard_target = k0_cond3 _ _ = _; exact h3))
  sl_step
  iapply Hk
  isplitl [H0]
  · iexists _; isplitr; swap; · iexact H0
    ipureintro; exact harg4.read_unread _
  isplitl [H1]
  · iexists _; isplitr; swap; · iexact H1
    ipureintro; exact harg5.read_unread _
  isplitl [H2]
  · iexists _; isplitr; swap; · iexact H2
    ipureintro; exact harg6.read_unread _
  isplitl [H3]
  · iexists _; isplitr; swap; · iexact H3
    ipureintro; exact harg7.read_unread _
  isplitl [HT0]; · iexact HT0
  isplitl [HT1]; · iexact HT1
  isplitl [HT2]; · iexact HT2
  iexists _; isplitr; swap; · iexact H4
  ipureintro
  sl_unfold_words
  simp only [wr_x, wr_w, wr_v, View.readAt_eq_ld, cov_x, cov_w, cov_v, Memref.IsWhole.read_unread, ld_x, ld_w, ld_v, ld_W, ld_V]

end Cert.Kernel2Ideal.Ffn

end
-- ==== Proof.FfnHost.lean ====
/- The expert kernel's host lines: the contents its launch finds, and its three tables as functions of where each expert's
   blocks end. -/
module

public import proofs.«01_k».proof.Proof.Gen.Kernel2Ideal.Launch
public import proofs.«01_k».proof.Proof.Gen.Pre_some_group
public import proofs.«01_k».proof.Pre_some_group
public import Idealize.ShloMosaic.Lib.Pointwise
public import Idealize.ShloMosaic.Lib.Tactic
public import Idealize.ShloMosaic.Lib.StableHlo
public import Idealize.ShloMosaic.Lib.Pipeline.Frame

@[expose] public section

set_option maxRecDepth 16384
set_option Elab.async false

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Where each expert's blocks end, by the expert: the running sum of the blocks its tokens fill. -/
def ends (cnt : FVec F S1x128 .f32) : IVec S32 32 :=
  Cert.Pre_some_group.fn_cumsum (F := F) (Cert.Pre_some_group.fn_floor_divide (F := F)
    (addi (fptosi 32 (shapeCast S32 (extractStridedSlice S1x32 ![0, 0] cnt slices_S1x128_S1x32_0_0) shapeCasts_S1x32_S32))
      (broadcastInDim S32 ![] bcast_S_S32 (constantI S_ 32 255#32))) (constantI S_ 32 256#32))

/-- Which expert a block belongs to, -/
def expertOf (E : IVec S32 32) : IVec S164 32 :=
  minsi (Host.reduce IntOp.addi (extui 32 (cmpi .sge
      (broadcastInDim S164x32 ![0, 1] bcast_S164x1_S164x32_0_1 (broadcastInDim S164x1 ![0] bcast_S164_S164x1_0 (iotaInDim S164 32 0)))
      (broadcastInDim S164x32 ![0, 1] bcast_S1x32_S164x32_0_1 (broadcastInDim S1x32 ![1] bcast_S32_S1x32_1 E))) natLt_1_32)
    (constantI S_ 32 0#32) reducesTo_S164x32_S164_d1 h_S_) (broadcastInDim S164 ![] bcast_S_S164 (constantI S_ 32 31#32))

/-- how many blocks hold tokens, -/
def blocksOf (E : IVec S32 32) : IVec S1 32 := extractStridedSlice S1 ![31] E slices_S32_S1_31

/-- and whether a block is its expert's first. -/
def firstOf (te : IVec S164 32) : IVec S164 32 :=
  concatenate S164 0 [⟨S1, (broadcastInDim S1 ![] bcast_S_S1 (constantI S_ 32 1#32) : IVec S1 32)⟩,
    ⟨S163, (extui 32 (cmpi .ne (extractStridedSlice S163 ![1] te slices_S164_S163_1) (extractStridedSlice S163 ![0] te slices_S164_S163_0)) natLt_1_32 : IVec S163 32)⟩]
    concatenates_S1_S163_S164_d0

/-- The host lines before the region. -/
abbrev opss : List (List (HloOp τ sig (Elt F))) := [hostOps0, hostOps0_1, hostOps0_2, hostOps0_3]

/-- What the region finds in every buffer. -/
def V (c : Dev nD) (b : Ref sig .tc) : Buf (Elt F) ((c.tc : Thread nD τ).loc b) := StableHlo.after opss.flatten (fun b => m (c, b)) b

theorem hmain (𝒱₀ : Variants) : Pipeline.HMainP (Ix := Unit) (Name := ℕ) (U := UR sig nD τ) (Lvl := ℕ) pcfgs (0 : Fin 1) defs₀ 𝒱₀ m (main (F := F)) (V m) :=
  Pipeline.hmainP_prefixes pcfgs 0 defs₀ 𝒱₀ m main opss
    ⟨hostOps0_sub, hostOps0_1_sub, hostOps0_2_sub, hostOps0_3_sub⟩
    (by simp only [List.Forall]; repeat' constructor) main_chain

theorem V_main_arg0 (c : Dev nD) : V m c main_arg0 = m ((c : Thread nD τ).loc main_arg0) := rfl

theorem V_main_arg1 (c : Dev nD) : V m c main_arg1 = m ((c : Thread nD τ).loc main_arg1) := rfl

theorem V_main_arg2 (c : Dev nD) : V m c main_arg2 = m ((c : Thread nD τ).loc main_arg2) := rfl

theorem V_main_arg3 (c : Dev nD) : V m c main_arg3 = m ((c : Thread nD τ).loc main_arg3) := rfl

theorem V_main_arg4 (c : Dev nD) : V m c main_arg4 = m ((c : Thread nD τ).loc main_arg4) := rfl

/-- The running ends, with the round-up as the kernel's host lines spell it. -/
theorem ends_eq (cnt : FVec F S1x128 .f32) :
    Cert.Pre_some_group.fn_cumsum (F := F) (Cert.Pre_some_group.fn_floor_divide (F := F)
      (subi (addi (fptosi 32 (shapeCast S32 (extractStridedSlice S1x32 ![0, 0] cnt slices_S1x128_S1x32_0_0) shapeCasts_S1x32_S32))
        (broadcastInDim S32 ![] bcast_S_S32 (constantI S_ 32 256#32))) (broadcastInDim S32 ![] bcast_S_S32 (constantI S_ 32 1#32)))
      (constantI S_ 32 256#32)) = ends cnt := by
  unfold ends
  congr 2
  funext j
  show (_ + 256#32) - 1#32 = _ + 255#32
  generalize hx : (fptosi 32 (shapeCast S32 (extractStridedSlice S1x32 ![0, 0] cnt slices_S1x128_S1x32_0_0) shapeCasts_S1x32_S32) : IVec S32 32) j = x
  apply BitVec.eq_of_toNat_eq
  simp only [BitVec.toNat_sub, BitVec.toNat_add, BitVec.toNat_ofNat]
  omega

/-- The contents after each of the lines that find the ends. -/
def V1 (c : Dev nD) : Valuation τ sig (Elt F) := StableHlo.after hostOps0 (fun b => m (c, b))
def V2 (c : Dev nD) : Valuation τ sig (Elt F) := StableHlo.after hostOps0_1 (V1 m c)
def V3 (c : Dev nD) : Valuation τ sig (Elt F) := StableHlo.after hostOps0_2 (V2 m c)
/-- and after the line that finds the blocks' experts. -/
def V4 (c : Dev nD) : Valuation τ sig (Elt F) := StableHlo.after (hostOps0_3.take 12) (V3 m c)

theorem V1_main_v6 (c : Dev nD) : V1 m c main_v6 =
    subi (addi (fptosi 32 (shapeCast S32 (extractStridedSlice S1x32 ![0, 0] (m ((c : Thread nD τ).loc main_arg0)) slices_S1x128_S1x32_0_0) shapeCasts_S1x32_S32))
        (broadcastInDim S32 ![] bcast_S_S32 (constantI S_ 32 256#32))) (broadcastInDim S32 ![] bcast_S_S32 (constantI S_ 32 1#32)) := rfl
theorem V1_main_c_1 (c : Dev nD) : V1 m c main_c_1 = constantI S_ 32 256#32 := rfl
theorem V2_of (W : Valuation τ sig (Elt F)) : StableHlo.after hostOps0_1 W main_v7 = Cert.Pre_some_group.fn_floor_divide (F := F) (W main_v6) (W main_c_1) := by
  after_results_simp
  rfl
theorem V3_of (W : Valuation τ sig (Elt F)) : StableHlo.after hostOps0_2 W main_v8 = Cert.Pre_some_group.fn_cumsum (F := F) (W main_v7) := rfl
theorem V4_of (W : Valuation τ sig (Elt F)) : StableHlo.after (hostOps0_3.take 12) W main_v18 = expertOf (W main_v8) := rfl
theorem V4_v8_of (W : Valuation τ sig (Elt F)) : StableHlo.after (hostOps0_3.take 12) W main_v8 = W main_v8 := rfl
theorem V5_v18_of (W : Valuation τ sig (Elt F)) : StableHlo.after (hostOps0_3.drop 12) W main_v18 = W main_v18 := rfl
theorem V5_v19_of (W : Valuation τ sig (Elt F)) : StableHlo.after (hostOps0_3.drop 12) W main_v19 = blocksOf (W main_v8) := rfl
theorem V5_v25_of (W : Valuation τ sig (Elt F)) : StableHlo.after (hostOps0_3.drop 12) W main_v25 = firstOf (W main_v18) := rfl

theorem V3_main_v8 (c : Dev nD) : V3 m c main_v8 = ends (m ((c : Thread nD τ).loc main_arg0)) := by
  rw [← ends_eq]
  unfold V3; rw [V3_of]; unfold V2; rw [V2_of, V1_main_v6, V1_main_c_1]

theorem V_eq_V4 (c : Dev nD) (b : Ref sig .tc) : V m c b = StableHlo.after (hostOps0_3.drop 12) (V4 m c) b := by
  unfold V V4 V3 V2 V1
  rw [← StableHlo.after_append, ← StableHlo.after_append, ← StableHlo.after_append, ← StableHlo.after_append]
  congr 1

/-- The tables the region finds. -/
theorem V_main_v18 (c : Dev nD) : V m c main_v18 = expertOf (ends (m ((c : Thread nD τ).loc main_arg0))) := by
  rw [V_eq_V4, V5_v18_of]; unfold V4; rw [V4_of, V3_main_v8]
theorem V_main_v19 (c : Dev nD) : V m c main_v19 = blocksOf (ends (m ((c : Thread nD τ).loc main_arg0))) := by
  rw [V_eq_V4, V5_v19_of]; unfold V4; rw [V4_v8_of, V3_main_v8]
theorem V_main_v25 (c : Dev nD) : V m c main_v25 = firstOf (expertOf (ends (m ((c : Thread nD τ).loc main_arg0)))) := by
  rw [V_eq_V4, V5_v25_of]; unfold V4; rw [V4_of, V3_main_v8]

end Cert.Kernel2Ideal.Ffn
-- ==== Proof.FfnTables.lean ====
/- The expert kernel's three tables in plain numbers: a block's expert is the number of experts whose blocks end at or before
   it, at most 31; a block begins its expert's tokens where the block before is another expert's. -/
module

public import proofs.«01_k».proof.Proof.FfnHost
public import proofs.«01_k».proof.Proof.FfnRuns
public import Idealize.ShloMosaic.Lib.Routing.Ops
public import Idealize.ShloMosaic.Lib.WordArith
public import Idealize.ShloMosaic.Lib.WordCmp
public import Idealize.ShloMosaic.Lib.Pointwise
public import Idealize.ShloMosaic.Lib.Pipeline.Value

@[expose] public section

set_option maxRecDepth 16384
set_option Elab.async false

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel2Ideal Cert.Kernel2Ideal.Gen

variable {F : FTy → Type} [FloatOps F]

local notation "𝕄" => MT nD τ sig Unit (Elt F) ℕ (UR sig nD τ) ℕ

/-- How many experts' blocks end at or before block `g`. -/
def hits (E : IVec S32 32) (g : ℕ) : ℕ := Nat.count (fun e => ∃ h : e < 32, (E (ValueIdx.ix1 ⟨e, h⟩)).toInt ≤ (g : ℤ)) 32

theorem hits_le (E : IVec S32 32) (g : ℕ) : hits E g ≤ 32 := Nat.count_le _

/-- Before the last expert's end there are at most 31. -/
theorem hits_le_31 (E : IVec S32 32) (g : ℕ) (h : (g : ℤ) < (E (ValueIdx.ix1 31)).toInt) : hits E g ≤ 31 := by
  unfold hits
  rw [Nat.count_succ, if_neg (fun ⟨_, h'⟩ => by exact absurd h (not_lt.mpr h'))]
  exact Nat.count_le _

theorem sge_iff (g : ℕ) (hg : g < 2 ^ 31) (w : BitVec 32) : IntOp.cmpi .sge (BitVec.ofNat 32 g) w = 1#1 ↔ w.toInt ≤ (g : ℤ) := by
  show BitVec.ofBool (BitVec.sle w (BitVec.ofNat 32 g)) = 1#1 ↔ _
  rw [WordArith.ofBool_eq_one_iff, BitVec.sle_iff_toInt_le, WordArith.toInt_ofNat_small g hg]

theorem slt_iff (g : ℕ) (hg : g < 2 ^ 31) (w : BitVec 32) : IntOp.cmpi .slt (BitVec.ofNat 32 g) w = 1#1 ↔ (g : ℤ) < w.toInt := by
  show BitVec.ofBool (BitVec.slt (BitVec.ofNat 32 g) w) = 1#1 ↔ _
  rw [WordArith.ofBool_eq_one_iff, BitVec.slt_iff_toInt_lt, WordArith.toInt_ofNat_small g hg]

theorem ext_ne (b : BitVec 1) : Scalar.cmpi .ne (Scalar.extui b : BitVec 32) 0#32 = 1#1 ↔ b = 1#1 := by
  revert b; decide

/-- The expert of block `i`. -/
theorem expertOf_apply (E : IVec S32 32) (i : Fin 164) : expertOf E (ValueIdx.ix1 i) = BitVec.ofNat 32 (min (hits E i.val) 31) := by
  unfold expertOf
  show IntOp.minsi (Host.reduce IntOp.addi (extui 32 _ natLt_1_32) (constantI S_ 32 0#32) reducesTo_S164x32_S164_d1 h_S_ (ValueIdx.ix1 i)) 31#32 = _
  rw [Routing.reduce_count (n := 164) (m := 32) (by decide) _ natLt_1_32 reducesTo_S164x32_S164_d1 h_S_ i
    (fun e => ∃ h : e < 32, (E (ValueIdx.ix1 ⟨e, h⟩)).toInt ≤ (i.val : ℤ)) (fun q => by
      have hE : (broadcastInDim S164x32 ![0, 1] bcast_S1x32_S164x32_0_1 (broadcastInDim S1x32 ![1] bcast_S32_S1x32_1 E)) (ValueIdx.ix2 i q) = E (ValueIdx.ix1 q) := by
        refine (broadcastInDim_apply (s := S1x32) (t := S164x32) (k := ValueIdx.ix2 (0 : Fin 1) q) _ _ _ _ (hk := fun a => by match a with | ⟨0, _⟩ => rfl | ⟨1, _⟩ => rfl)).trans ?_
        exact broadcastInDim_apply (s := S32) (t := S1x32) (k := ValueIdx.ix1 q) _ _ _ _ (hk := fun a => by match a with | ⟨0, _⟩ => rfl)
      show IntOp.cmpi .sge (BitVec.ofNat 32 i.val) ((broadcastInDim S164x32 ![0, 1] bcast_S1x32_S164x32_0_1 (broadcastInDim S1x32 ![1] bcast_S32_S1x32_1 E)) (ValueIdx.ix2 i q)) = 1#1 ↔ _
      rw [hE, sge_iff i.val (by have := i.isLt; omega)]
      exact ⟨fun h => ⟨q.isLt, h⟩, fun ⟨_, h⟩ => h⟩)]
  show IntOp.minsi (BitVec.ofNat 32 (hits E i.val)) 31#32 = _
  have hl := hits_le E i.val
  generalize hits E i.val = n at hl
  revert hl; revert n; decide

theorem expertOf_le (E : IVec S32 32) (i : Fin 164) : (expertOf E (ValueIdx.ix1 i)).toNat = min (hits E i.val) 31 := by
  rw [expertOf_apply, BitVec.toNat_ofNat, Nat.mod_eq_of_lt (by have := Nat.min_le_right (hits E i.val) 31; omega)]

theorem blocksOf_apply (E : IVec S32 32) : blocksOf E (ValueIdx.ix1 0) = E (ValueIdx.ix1 31) := by
  unfold blocksOf
  exact extractStridedSlice_apply (k := ValueIdx.ix1 31) (hk := fun a => by match a with | ⟨0, _⟩ => rfl) ..

/-- The first block begins its expert's tokens. -/
theorem firstOf_zero (te : IVec S164 32) : firstOf te (ValueIdx.ix1 0) = 1#32 := by
  unfold firstOf
  exact concatenate_pair_apply_left (s₁ := S1) (s₂ := S163) (t := S164) 0 _ _ _ _ rfl (ValueIdx.ix1 0) (fun b => by match b with | ⟨0, _⟩ => rfl)

/-- A later block that does not has the expert of the block before. -/
theorem firstOf_pos (te : IVec S164 32) (i : Fin 164) (h0 : 0 < i.val) (hi : i.val - 1 < 164) (h : firstOf te (ValueIdx.ix1 i) ≠ 1#32) :
    te (ValueIdx.ix1 i) = te (ValueIdx.ix1 ⟨i.val - 1, hi⟩) := by
  have hv : firstOf te (ValueIdx.ix1 i) = (IntOp.cmpi .ne (te (ValueIdx.ix1 i)) (te (ValueIdx.ix1 ⟨i.val - 1, hi⟩))).setWidth 32 := by
    unfold firstOf
    refine (concatenate_pair_apply_right (s₁ := S1) (s₂ := S163) (t := S164) 0 _ _ _ _ rfl rfl (ValueIdx.ix1 (⟨i.val - 1, by have := i.isLt; omega⟩ : Fin 163))
      (fun b hb => by match b with | ⟨0, _⟩ => exact absurd rfl hb) (by show i.val - 1 + 1 = i.val; omega)).trans ?_
    show (IntOp.cmpi .ne (extractStridedSlice S163 ![1] te slices_S164_S163_1 (ValueIdx.ix1 (⟨i.val - 1, by have := i.isLt; omega⟩ : Fin 163)))
      (extractStridedSlice S163 ![0] te slices_S164_S163_0 (ValueIdx.ix1 (⟨i.val - 1, by have := i.isLt; omega⟩ : Fin 163)))).setWidth 32 = _
    rw [extractStridedSlice_apply (k := ValueIdx.ix1 i) (hk := fun a => by match a with | ⟨0, _⟩ => (show i.val = 1 + (i.val - 1); omega)),
      extractStridedSlice_apply (k := ValueIdx.ix1 ⟨i.val - 1, hi⟩) (hk := fun a => by match a with | ⟨0, _⟩ => (show i.val - 1 = 0 + (i.val - 1); omega))]
  rw [hv] at h
  by_contra hne
  refine h ?_
  show (BitVec.ofBool (te (ValueIdx.ix1 i) != te (ValueIdx.ix1 ⟨i.val - 1, hi⟩))).setWidth 32 = 1#32
  rw [show (te (ValueIdx.ix1 i) != te (ValueIdx.ix1 ⟨i.val - 1, hi⟩)) = true from bne_iff_ne.mpr hne]
  rfl

/-! ## The body's tests -/

/-- The count of blocks as the body reads it. -/
theorem word2_eq (T2 : IVec S1 32) : word2 (F := F) T2 = T2 (ValueIdx.ix1 0) := by
  unfold word2
  rw [View.readAt_eq_ld]
  show T2 _ = T2 _
  congr 1
  funext a; apply Fin.ext
  match a with
  | ⟨0, _⟩ => rfl

/-- A block's first flag as the body reads it. -/
theorem word1_eq (i : grid0.Coords) (hi : (i 0).val < 164) (T1 : IVec S164 32) : word1 (F := F) i T1 = T1 (ValueIdx.ix1 ⟨(i 0).val, hi⟩) := by
  unfold word1
  rw [View.readAt_eq_ld]
  show T1 _ = T1 _
  congr 1
  funext a; apply Fin.ext
  match a with
  | ⟨0, _⟩ =>
    show (BitVec.ofNat 32 (i 0).val).toNat + _ = (i 0).val
    rw [BitVec.toNat_ofNat, Nat.mod_eq_of_lt (by omega)]
    rfl

theorem cond1_iff (i : grid0.Coords) (hi : (i 0).val < 164) (w : BitVec 32) : k0_cond1 i w = 1#1 ↔ ((i 0).val : ℤ) < w.toInt := by
  unfold k0_cond1
  exact (ext_ne _).trans (slt_iff _ (by omega) w)

theorem cond3_iff (i : grid0.Coords) (hi : (i 0).val < 164) (w : BitVec 32) : k0_cond3 i w = 1#1 ↔ ¬((i 0).val : ℤ) < w.toInt := by
  unfold k0_cond3
  exact ((ext_ne _).trans (sge_iff _ (by omega) w)).trans not_lt.symm

theorem begins_iff (v : BitVec 32) : begins v = 1#1 ↔ v = 1#32 := by
  unfold begins
  refine (ext_ne _).trans ?_
  show BitVec.ofBool (v == 1#32) = 1#1 ↔ _
  rw [WordArith.ofBool_eq_one_iff, beq_iff_eq]

end Cert.Kernel2Ideal.Ffn
-- ==== Proof.FfnBlocks.lean ====
/- The expert kernel's windows at any admissible tables: a block's element read as the array's element, and the output
   window stored at every point. -/
module

public import proofs.«01_k».proof.Proof.FfnTables
public import Idealize.ShloMosaic.Lib.Pipeline.Kit
public import Idealize.ShloMosaic.Lib.Pipeline.FrameBody
public import Idealize.ShloMosaic.Lib.Pipeline.TableIdle
public import Idealize.ShloMosaic.Lib.Claim

@[expose] public section

set_option maxRecDepth 16384
set_option Elab.async false

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel2Ideal Cert.Kernel2Ideal.Gen

variable {F : FTy → Type} [FloatOps F]

local notation "𝕄" => MT nD τ sig Unit (Elt F) ℕ (UR sig nD τ) ℕ

variable (a : (pcfg0 (F := F)).Adm)

/-- A grid point's coordinate is its number. -/
theorem coords_val (t : Fin grid0.N) : ((grid0.coords t) 0).val = t.val := by
  have h : (grid0.coords t 0).val = t.val / 1 % 164 := Pipeline.Grid.coords_val t 0 (by decide) rfl
  have := lt_of_lt_of_eq t.isLt N_0
  rw [h]; omega

/-! ## Where a block's element lies -/

theorem emb0 (t : Fin (cfg0 a).N) (x : S256x2048.Idx) (d : Fin 2) :
    (((((cfg0 a).win (0 : Fin 5)).blk t).view.emb x d : Fin _) : ℕ) = ix0 a.1 0 (grid0.coords t) d * S256x2048.size d + 1 * (x d).val := rfl
theorem read0 (t : Fin (cfg0 a).N) (f : FVec F S41984x2048 .f32) (x : S256x2048.Idx) (y : S41984x2048.Idx)
    (h : ∀ d : Fin 2, ix0 a.1 0 (grid0.coords t) d * S256x2048.size d + 1 * (x d).val = (y d).val) :
    (((cfg0 a).win (0 : Fin 5)).blk t).view.read (Elt F) f x = f y := by
  refine (View.read_apply ..).trans ?_
  exact congrArg f (funext fun d => Fin.ext ((emb0 a t x d).trans (h d)))

theorem emb1 (t : Fin (cfg0 a).N) (x : S1x1x2048x512.Idx) (d : Fin 4) :
    (((((cfg0 a).win (1 : Fin 5)).blk t).view.emb x d : Fin _) : ℕ) = ix0 a.1 1 (grid0.coords t) d * S1x1x2048x512.size d + 1 * (x d).val := rfl
theorem read1 (t : Fin (cfg0 a).N) (f : FVec F S1x32x2048x512 .f32) (x : S1x1x2048x512.Idx) (y : S1x32x2048x512.Idx)
    (h : ∀ d : Fin 4, ix0 a.1 1 (grid0.coords t) d * S1x1x2048x512.size d + 1 * (x d).val = (y d).val) :
    (((cfg0 a).win (1 : Fin 5)).blk t).view.read (Elt F) f x = f y := by
  refine (View.read_apply ..).trans ?_
  exact congrArg f (funext fun d => Fin.ext ((emb1 a t x d).trans (h d)))

theorem emb2 (t : Fin (cfg0 a).N) (x : S1x1x2048x512.Idx) (d : Fin 4) :
    (((((cfg0 a).win (2 : Fin 5)).blk t).view.emb x d : Fin _) : ℕ) = ix0 a.1 2 (grid0.coords t) d * S1x1x2048x512.size d + 1 * (x d).val := rfl
theorem read2 (t : Fin (cfg0 a).N) (f : FVec F S1x32x2048x512 .f32) (x : S1x1x2048x512.Idx) (y : S1x32x2048x512.Idx)
    (h : ∀ d : Fin 4, ix0 a.1 2 (grid0.coords t) d * S1x1x2048x512.size d + 1 * (x d).val = (y d).val) :
    (((cfg0 a).win (2 : Fin 5)).blk t).view.read (Elt F) f x = f y := by
  refine (View.read_apply ..).trans ?_
  exact congrArg f (funext fun d => Fin.ext ((emb2 a t x d).trans (h d)))

theorem emb3 (t : Fin (cfg0 a).N) (x : S1x1x512x2048.Idx) (d : Fin 4) :
    (((((cfg0 a).win (3 : Fin 5)).blk t).view.emb x d : Fin _) : ℕ) = ix0 a.1 3 (grid0.coords t) d * S1x1x512x2048.size d + 1 * (x d).val := rfl
theorem read3 (t : Fin (cfg0 a).N) (f : FVec F S1x32x512x2048 .f32) (x : S1x1x512x2048.Idx) (y : S1x32x512x2048.Idx)
    (h : ∀ d : Fin 4, ix0 a.1 3 (grid0.coords t) d * S1x1x512x2048.size d + 1 * (x d).val = (y d).val) :
    (((cfg0 a).win (3 : Fin 5)).blk t).view.read (Elt F) f x = f y := by
  refine (View.read_apply ..).trans ?_
  exact congrArg f (funext fun d => Fin.ext ((emb3 a t x d).trans (h d)))

/-- The output's block: rows `256 t` on. -/
theorem emb4 (t : Fin (cfg0 a).N) (x : S256x2048.Idx) (d : Fin 2) :
    (((((cfg0 a).win (4 : Fin 5)).blk t).view.emb x d : Fin _) : ℕ) = cc0_transform_4 (grid0.coords t) d * S256x2048.size d + 1 * (x d).val := rfl

/-- Where one of the body's two tests holds, the output is stored. -/
theorem idle4 (pf : pre0.Contents (Elt F)) (i : grid0.Coords)
    (h : k0_cond1 i (word2 (F := F) (pf 2)) = 1#1 ∨ k0_cond3 i (word2 (F := F) (pf 2)) = 1#1) : idle0 pf 4 i = false := by
  have hw : pf.atD 2 ![0] = word2 (F := F) (pf 2) := by
    refine Eq.trans ?_ (word2_eq (F := F) (pf 2)).symm
    unfold Pipeline.Prefetch.Contents.atD
    rw [dif_pos (fun a => by match a with | ⟨0, _⟩ => exact (by decide : (0 : ℕ) < 1))]
    show pf 2 _ = pf 2 _
    congr 1; funext a; apply Fin.ext
    match a with
    | ⟨0, _⟩ => rfl
  show (!(k0_cond1 i (pf.atD 2 ![0]) == 1#1) && !(k0_cond3 i (pf.atD 2 ![0]) == 1#1)) = false
  rw [hw]
  rcases h with h | h
  · rw [h]; rfl
  · rw [h]; simp

theorem live4_of (t : Fin (cfg0 a).N) (h : k0_cond1 (grid0.coords t) (word2 (F := F) (a.1 2)) = 1#1 ∨ k0_cond3 (grid0.coords t) (word2 (F := F) (a.1 2)) = 1#1) :
    (cfg0 a).idle (4 : Fin 5) ((cfg0 a).grid.coords t) = false := idle4 a.1 _ h

end Cert.Kernel2Ideal.Ffn
-- ==== Proof.FfnSetup.lean ====
/- The expert kernel's launch at the tables its host lines make: they are admissible, and at every grid point the windows'
   blocks and the body's tests in plain numbers. -/
module

public import proofs.«01_k».proof.Proof.FfnBlocks

@[expose] public section

set_option maxRecDepth 16384
set_option Elab.async false

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ)

/-- Where each expert's blocks end, from the launch memory. -/
def E0 : IVec S32 32 := ends (m (((0 : Dev nD) : Thread nD τ).loc main_arg0))

/-- The number of blocks that hold tokens, -/
def nt : ℕ := (E0 m (ValueIdx.ix1 31)).toInt.toNat
/-- and the expert of block `i`. -/
def te (i : ℕ) : ℕ := min (hits (E0 m) i) 31

theorem te_lt (i : ℕ) : te m i < 32 := by unfold te; omega

/-- At least one block holds tokens: what the first window's index map needs. -/
def Pos : Prop := 1 ≤ (E0 m (ValueIdx.ix1 31)).toInt

/-- The tables' contents. -/
def tabs : pre0.Contents (Elt F) := fun k => V m 0 (pre0.ref k)

theorem tabs_0 : tabs m 0 = expertOf (E0 m) := V_main_v18 m 0
theorem tabs_1 : tabs m 1 = firstOf (expertOf (E0 m)) := V_main_v25 m 0
theorem tabs_2 : tabs m 2 = blocksOf (E0 m) := V_main_v19 m 0

theorem toNat_sub_one (w : BitVec 32) (h : 1 ≤ w.toInt) : (w - 1#32).toNat = w.toInt.toNat - 1 ∧ (w - 1#32).toNat < 2 ^ 31 := by
  have h1 := BitVec.toInt_eq_toNat_cond w
  have h2 := w.isLt
  simp only [BitVec.toNat_sub, BitVec.toNat_ofNat] at *
  split at h1 <;> omega

theorem min_block (i : ℕ) (hi : i < 164) (w : BitVec 32) (h : 1 ≤ w.toInt) :
    (Scalar.minsi (BitVec.ofNat 32 i) (Scalar.subi w 1#32)).toNat = min i (w.toInt.toNat - 1) := by
  have hs := toNat_sub_one w h
  have hn : (BitVec.ofNat 32 i).toNat = i := WordArith.toNat_ofNat_of_lt i (by omega)
  show (IntOp.minsi (BitVec.ofNat 32 i) (w - 1#32)).toNat = _
  rw [WordArith.toNat_minsi_of_lt _ _ (by omega) hs.2, hn, hs.1]

/-- The index maps at the tables. -/
theorem tr0 (hpos : Pos m) (i : grid0.Coords) (hi : (i 0).val < 164) :
    cc0_transform_0 inb_S1_S1_0 numel1_S1 (tabs m) i = ![min (i 0).val (nt m - 1), 0] := by
  have h2 : (tabs m).at 2 (Rect.unit (s := S1) ![0] S1.size inb_S1_S1_0) numel1_S1 = E0 m (ValueIdx.ix1 31) := by
    refine Eq.trans ?_ (blocksOf_apply (E0 m))
    refine Eq.trans ?_ (congrFun (tabs_2 m) (ValueIdx.ix1 0))
    show tabs m 2 _ = tabs m 2 _
    congr 1; funext a; apply Fin.ext
    match a with
    | ⟨0, _⟩ => rfl
  unfold cc0_transform_0
  simp only [h2]
  rw [min_block _ hi _ hpos]
  rfl

theorem at0 (i : grid0.Coords) (hi : (i 0).val < 164) :
    ((tabs m).at 0 (Rect.unit (s := S164) ![(Scalar.indexCast (BitVec.ofNat 32 (i 0).val) : Index).toNat] S1.size (k0_off1_inb i)) numel1_S1 : BitVec 32).toNat = te m (i 0).val := by
  unfold te
  rw [← expertOf_le (E0 m) ⟨(i 0).val, hi⟩, ← tabs_0]
  show (tabs m 0 _ : BitVec 32).toNat = (tabs m 0 _ : BitVec 32).toNat
  congr 2; funext a; apply Fin.ext
  match a with
  | ⟨0, _⟩ =>
    show (BitVec.ofNat 32 (i 0).val).toNat + _ = (i 0).val
    rw [BitVec.toNat_ofNat, Nat.mod_eq_of_lt (by omega)]
    rfl

theorem tr1 (i : grid0.Coords) (hi : (i 0).val < 164) : cc0_transform_1 k0_off1_inb numel1_S1 (tabs m) i = ![0, te m (i 0).val, 0, 0] := by
  unfold cc0_transform_1; simp only [at0 m i hi]; rfl
theorem tr2 (i : grid0.Coords) (hi : (i 0).val < 164) : cc0_transform_2 k0_off1_inb numel1_S1 (tabs m) i = ![0, te m (i 0).val, 0, 0] := by
  unfold cc0_transform_2; simp only [at0 m i hi]; rfl
theorem tr3 (i : grid0.Coords) (hi : (i 0).val < 164) : cc0_transform_3 k0_off1_inb numel1_S1 (tabs m) i = ![0, te m (i 0).val, 0, 0] := by
  unfold cc0_transform_3; simp only [at0 m i hi]; rfl

theorem coord_lt (i : grid0.Coords) : (i 0).val < 164 := (i 0).isLt

/-- The tables are admissible: every block lies inside its array. -/
theorem ok (hpos : Pos m) : ok0 (tabs m) := by
  refine ⟨fun i => ⟨fun a => ?_, .inl rfl⟩, fun i => ⟨fun a => ?_, .inl rfl⟩, fun i => ⟨fun a => ?_, .inl rfl⟩, fun i => ⟨fun a => ?_, .inl rfl⟩⟩
  · rw [tr0 m hpos i (coord_lt i)]
    have := coord_lt i
    match a with
    | ⟨0, _⟩ => show (min (i 0).val (nt m - 1) + 1) * 256 ≤ 41984; omega
    | ⟨1, _⟩ => show (0 + 1) * 2048 ≤ 2048; omega
  · rw [tr1 m i (coord_lt i)]
    have := te_lt m (i 0).val
    match a with
    | ⟨0, _⟩ => show (0 + 1) * 1 ≤ 1; omega
    | ⟨1, _⟩ => show (te m (i 0).val + 1) * 1 ≤ 32; omega
    | ⟨2, _⟩ => show (0 + 1) * 2048 ≤ 2048; omega
    | ⟨3, _⟩ => show (0 + 1) * 512 ≤ 512; omega
  · rw [tr2 m i (coord_lt i)]
    have := te_lt m (i 0).val
    match a with
    | ⟨0, _⟩ => show (0 + 1) * 1 ≤ 1; omega
    | ⟨1, _⟩ => show (te m (i 0).val + 1) * 1 ≤ 32; omega
    | ⟨2, _⟩ => show (0 + 1) * 2048 ≤ 2048; omega
    | ⟨3, _⟩ => show (0 + 1) * 512 ≤ 512; omega
  · rw [tr3 m i (coord_lt i)]
    have := te_lt m (i 0).val
    match a with
    | ⟨0, _⟩ => show (0 + 1) * 1 ≤ 1; omega
    | ⟨1, _⟩ => show (te m (i 0).val + 1) * 1 ≤ 32; omega
    | ⟨2, _⟩ => show (0 + 1) * 512 ≤ 512; omega
    | ⟨3, _⟩ => show (0 + 1) * 2048 ≤ 2048; omega

variable (hpos : Pos m)

/-- The pipeline at these tables. -/
def adm : (pcfg0 (F := F)).Adm := ⟨tabs m, ok m hpos⟩
theorem adm_1 : (adm m hpos).1 = tabs m := rfl
attribute [local irreducible] adm
abbrev cfgA : Pipeline.Cfg sig Λ₀ := cfg0 (F := F) (adm m hpos)

/-- Point `t`'s coordinates, -/
abbrev crd (t : Fin (cfgA m hpos).N) : grid0.Coords := grid0.coords t
theorem crd_val (t : Fin (cfgA m hpos).N) : ((crd m hpos t) 0).val = t.val := coords_val t
theorem N_A : (cfgA m hpos).N = 164 := N_0

/-- and each window's staging buffer there, as the pipeline passes it. -/
abbrev ms0_0 (t : Fin (cfgA m hpos).N) : Memref sig .tc .vmem S256x2048 .f32 := spec0_0.stage ((cfgA m hpos).slots t (0 : Fin 5))
abbrev hs0_0 (t : Fin (cfgA m hpos).N) : (ms0_0 m hpos t).IsWhole := hstage0_0 (((cfgA m hpos).slots t (0 : Fin 5)).cast nbuf0_0)
abbrev ms0_1 (t : Fin (cfgA m hpos).N) : Memref sig .tc .vmem S1x1x2048x512 .f32 := spec0_1.stage ((cfgA m hpos).slots t (1 : Fin 5))
abbrev hs0_1 (t : Fin (cfgA m hpos).N) : (ms0_1 m hpos t).IsWhole := hstage0_1 (((cfgA m hpos).slots t (1 : Fin 5)).cast nbuf0_1)
abbrev ms0_2 (t : Fin (cfgA m hpos).N) : Memref sig .tc .vmem S1x1x2048x512 .f32 := spec0_2.stage ((cfgA m hpos).slots t (2 : Fin 5))
abbrev hs0_2 (t : Fin (cfgA m hpos).N) : (ms0_2 m hpos t).IsWhole := hstage0_2 (((cfgA m hpos).slots t (2 : Fin 5)).cast nbuf0_2)
abbrev ms0_3 (t : Fin (cfgA m hpos).N) : Memref sig .tc .vmem S1x1x512x2048 .f32 := spec0_3.stage ((cfgA m hpos).slots t (3 : Fin 5))
abbrev hs0_3 (t : Fin (cfgA m hpos).N) : (ms0_3 m hpos t).IsWhole := hstage0_3 (((cfgA m hpos).slots t (3 : Fin 5)).cast nbuf0_3)
abbrev ms0_4 (t : Fin (cfgA m hpos).N) : Memref sig .tc .vmem S256x2048 .f32 := spec0_4.stage ((cfgA m hpos).slots t (4 : Fin 5))
abbrev hs0_4 (t : Fin (cfgA m hpos).N) : (ms0_4 m hpos t).IsWhole := hstage0_4 (((cfgA m hpos).slots t (4 : Fin 5)).cast nbuf0_4)

/-- Window `w`'s block at point `t`, read off its array at launch. -/
def iblk (c : Dev nD) (w : Fin (cfgA m hpos).W) (t : Fin (cfgA m hpos).N) : (((cfgA m hpos).win w).xblock ((cfgA m hpos).grid.coords t)).Idx → Elt F ((cfgA m hpos).win w).elt :=
  (((cfgA m hpos).win w).blk t).view.read (Elt F) (V m c (Pipeline.arrRef spec0 w))

/-! ## The blocks, element by element -/

/-- The block index of the first window, -/
theorem ix_0 (t : Fin (cfgA m hpos).N) : ix0 (adm m hpos).1 0 (crd m hpos t) = ![min t.val (nt m - 1), 0] := by
  rw [adm_1, ← crd_val m hpos t]; exact tr0 m hpos _ (coord_lt _)
/-- and of the three weights'. -/
theorem ix_1 (t : Fin (cfgA m hpos).N) : ix0 (adm m hpos).1 1 (crd m hpos t) = ![0, te m t.val, 0, 0] := by
  rw [adm_1, ← crd_val m hpos t]; exact tr1 m _ (coord_lt _)
theorem ix_2 (t : Fin (cfgA m hpos).N) : ix0 (adm m hpos).1 2 (crd m hpos t) = ![0, te m t.val, 0, 0] := by
  rw [adm_1, ← crd_val m hpos t]; exact tr2 m _ (coord_lt _)
theorem ix_3 (t : Fin (cfgA m hpos).N) : ix0 (adm m hpos).1 3 (crd m hpos t) = ![0, te m t.val, 0, 0] := by
  rw [adm_1, ← crd_val m hpos t]; exact tr3 m _ (coord_lt _)

/-- The rows of the tokens' block, -/
theorem iblk0_apply (c : Dev nD) (t : Fin (cfgA m hpos).N) (ht : t.val < nt m) (r : Fin 256) (d : Fin 2048) (hr : t.val * 256 + r.val < 41984) :
    (iblk m hpos c 0 t : Vec F S256x2048 .f32) (ValueIdx.ix2 r d) = m ((c : Thread nD τ).loc main_arg1) (ValueIdx.ix2 (⟨t.val * 256 + r.val, hr⟩ : Fin 41984) d) := by
  refine (read0 (adm m hpos) t (V m c main_arg1) (ValueIdx.ix2 r d) (ValueIdx.ix2 (⟨t.val * 256 + r.val, hr⟩ : Fin 41984) d) fun x => ?_).trans (congrFun (V_main_arg1 m c) _)
  rw [show ix0 (adm m hpos).1 0 (grid0.coords t) = _ from ix_0 m hpos t, Nat.min_eq_left (by omega)]
  match x with
  | ⟨0, _⟩ => show t.val * 256 + 1 * r.val = t.val * 256 + r.val; omega
  | ⟨1, _⟩ => show 0 * 2048 + 1 * d.val = d.val; omega

/-- and the weights of the block's expert. -/
theorem iblk1_apply (c : Dev nD) (t : Fin (cfgA m hpos).N) (a b : Fin 1) (r : Fin 2048) (d : Fin 512) :
    (iblk m hpos c 1 t : Vec F S1x1x2048x512 .f32) (ValueIdx.ix4 a b r d) = m ((c : Thread nD τ).loc main_arg2) (ValueIdx.ix4 (0 : Fin 1) (⟨te m t.val, te_lt m _⟩ : Fin 32) r d) := by
  refine (read1 (adm m hpos) t (V m c main_arg2) (ValueIdx.ix4 a b r d) (ValueIdx.ix4 (0 : Fin 1) (⟨te m t.val, te_lt m _⟩ : Fin 32) r d) fun x => ?_).trans (congrFun (V_main_arg2 m c) _)
  rw [show ix0 (adm m hpos).1 1 (grid0.coords t) = _ from ix_1 m hpos t]
  match x with
  | ⟨0, _⟩ => show 0 * 1 + 1 * a.val = 0; omega
  | ⟨1, _⟩ => show te m t.val * 1 + 1 * b.val = te m t.val; omega
  | ⟨2, _⟩ => show 0 * 2048 + 1 * r.val = r.val; omega
  | ⟨3, _⟩ => show 0 * 512 + 1 * d.val = d.val; omega

/-- Two points of one expert find one block of its weights. -/
theorem iblk1_congr (c : Dev nD) (t u : Fin (cfgA m hpos).N) (h : te m t.val = te m u.val) : (iblk m hpos c 1 t : Vec F S1x1x2048x512 .f32) = iblk m hpos c 1 u := by
  funext j
  rw [ValueIdx.eq_ix4 j]
  refine (iblk1_apply m hpos c t _ _ _ _).trans (Eq.trans ?_ (iblk1_apply m hpos c u _ _ _ _).symm)
  exact congrArg (fun e : Fin 32 => m ((c : Thread nD τ).loc main_arg2) (ValueIdx.ix4 (0 : Fin 1) e _ _)) (Fin.ext h)

theorem iblk2_apply (c : Dev nD) (t : Fin (cfgA m hpos).N) (a b : Fin 1) (r : Fin 2048) (d : Fin 512) :
    (iblk m hpos c 2 t : Vec F S1x1x2048x512 .f32) (ValueIdx.ix4 a b r d) = m ((c : Thread nD τ).loc main_arg3) (ValueIdx.ix4 (0 : Fin 1) (⟨te m t.val, te_lt m _⟩ : Fin 32) r d) := by
  refine (read2 (adm m hpos) t (V m c main_arg3) (ValueIdx.ix4 a b r d) (ValueIdx.ix4 (0 : Fin 1) (⟨te m t.val, te_lt m _⟩ : Fin 32) r d) fun x => ?_).trans (congrFun (V_main_arg3 m c) _)
  rw [show ix0 (adm m hpos).1 2 (grid0.coords t) = _ from ix_2 m hpos t]
  match x with
  | ⟨0, _⟩ => show 0 * 1 + 1 * a.val = 0; omega
  | ⟨1, _⟩ => show te m t.val * 1 + 1 * b.val = te m t.val; omega
  | ⟨2, _⟩ => show 0 * 2048 + 1 * r.val = r.val; omega
  | ⟨3, _⟩ => show 0 * 512 + 1 * d.val = d.val; omega

/-- Two points of one expert find one block of its weights. -/
theorem iblk2_congr (c : Dev nD) (t u : Fin (cfgA m hpos).N) (h : te m t.val = te m u.val) : (iblk m hpos c 2 t : Vec F S1x1x2048x512 .f32) = iblk m hpos c 2 u := by
  funext j
  rw [ValueIdx.eq_ix4 j]
  refine (iblk2_apply m hpos c t _ _ _ _).trans (Eq.trans ?_ (iblk2_apply m hpos c u _ _ _ _).symm)
  exact congrArg (fun e : Fin 32 => m ((c : Thread nD τ).loc main_arg3) (ValueIdx.ix4 (0 : Fin 1) e _ _)) (Fin.ext h)

theorem iblk3_apply (c : Dev nD) (t : Fin (cfgA m hpos).N) (a b : Fin 1) (r : Fin 512) (d : Fin 2048) :
    (iblk m hpos c 3 t : Vec F S1x1x512x2048 .f32) (ValueIdx.ix4 a b r d) = m ((c : Thread nD τ).loc main_arg4) (ValueIdx.ix4 (0 : Fin 1) (⟨te m t.val, te_lt m _⟩ : Fin 32) r d) := by
  refine (read3 (adm m hpos) t (V m c main_arg4) (ValueIdx.ix4 a b r d) (ValueIdx.ix4 (0 : Fin 1) (⟨te m t.val, te_lt m _⟩ : Fin 32) r d) fun x => ?_).trans (congrFun (V_main_arg4 m c) _)
  rw [show ix0 (adm m hpos).1 3 (grid0.coords t) = _ from ix_3 m hpos t]
  match x with
  | ⟨0, _⟩ => show 0 * 1 + 1 * a.val = 0; omega
  | ⟨1, _⟩ => show te m t.val * 1 + 1 * b.val = te m t.val; omega
  | ⟨2, _⟩ => show 0 * 512 + 1 * r.val = r.val; omega
  | ⟨3, _⟩ => show 0 * 2048 + 1 * d.val = d.val; omega

/-- Two points of one expert find one block of its weights. -/
theorem iblk3_congr (c : Dev nD) (t u : Fin (cfgA m hpos).N) (h : te m t.val = te m u.val) : (iblk m hpos c 3 t : Vec F S1x1x512x2048 .f32) = iblk m hpos c 3 u := by
  funext j
  rw [ValueIdx.eq_ix4 j]
  refine (iblk3_apply m hpos c t _ _ _ _).trans (Eq.trans ?_ (iblk3_apply m hpos c u _ _ _ _).symm)
  exact congrArg (fun e : Fin 32 => m ((c : Thread nD τ).loc main_arg4) (ValueIdx.ix4 (0 : Fin 1) e _ _)) (Fin.ext h)

/-! ## The body's tests at a point -/

theorem word2_tabs : word2 (F := F) (tabs m 2) = E0 m (ValueIdx.ix1 31) := by
  rw [tabs_2, word2_eq, blocksOf_apply]

theorem lt_nt (hpos : Pos m) (t : ℕ) : (t : ℤ) < (E0 m (ValueIdx.ix1 31)).toInt ↔ t < nt m := by
  have : 1 ≤ (E0 m (ValueIdx.ix1 31)).toInt := hpos
  unfold nt; omega

theorem cond1 (t : Fin (cfgA m hpos).N) : k0_cond1 (crd m hpos t) (word2 (F := F) (tabs m 2)) = 1#1 ↔ t.val < nt m := by
  rw [word2_tabs, cond1_iff _ (coord_lt _), crd_val]; exact lt_nt m hpos _
theorem cond3 (t : Fin (cfgA m hpos).N) : k0_cond3 (crd m hpos t) (word2 (F := F) (tabs m 2)) = 1#1 ↔ ¬t.val < nt m := by
  rw [word2_tabs, cond3_iff _ (coord_lt _), crd_val]; exact not_congr (lt_nt m hpos _)

/-- The first block begins an expert, -/
theorem begins_zero (t : Fin (cfgA m hpos).N) (h0 : t.val = 0) : begins (word1 (F := F) (crd m hpos t) (tabs m 1)) = 1#1 := by
  rw [begins_iff, tabs_1, word1_eq _ (coord_lt _)]
  rw [show (⟨((crd m hpos t) 0).val, coord_lt _⟩ : Fin 164) = 0 from Fin.ext ((crd_val m hpos t).trans h0)]
  exact firstOf_zero _

/-- and a later one that does not belongs to the expert of the one before. -/
theorem begins_not (t : Fin (cfgA m hpos).N) (h0 : 0 < t.val) (h : ¬begins (word1 (F := F) (crd m hpos t) (tabs m 1)) = 1#1) :
    te m t.val = te m (t.val - 1) := by
  have hN : t.val < 164 := lt_of_lt_of_eq t.isLt (N_A m hpos)
  rw [begins_iff, tabs_1, word1_eq _ (coord_lt _)] at h
  rw [show (⟨((crd m hpos t) 0).val, coord_lt _⟩ : Fin 164) = ⟨t.val, hN⟩ from Fin.ext (crd_val m hpos t)] at h
  have h' := congrArg BitVec.toNat (firstOf_pos (expertOf (E0 m)) ⟨t.val, hN⟩ h0 (by show t.val - 1 < 164; omega) h)
  rw [expertOf_le, expertOf_le] at h'
  exact h'

/-- The output is stored at every point. -/
theorem live4 (t : Fin (cfgA m hpos).N) : (cfgA m hpos).idle (4 : Fin 5) ((cfgA m hpos).grid.coords t) = false := by
  refine live4_of (adm m hpos) t ?_
  rw [adm_1]
  by_cases h : t.val < nt m
  · exact .inl ((cond1 m hpos t).mpr h)
  · exact .inr ((cond3 m hpos t).mpr h)

end Cert.Kernel2Ideal.Ffn
-- ==== Proof.FfnLaunch.lean ====
/- The expert kernel's launch: what every grid point leaves, the pipeline's proof data, the body at every point, and the
   run of the whole program, over any float values. -/
module

public import proofs.«01_k».proof.Proof.FfnRuns
public import proofs.«01_k».proof.Proof.FfnSetup

@[expose] public section

set_option maxRecDepth 16384
set_option Elab.async false

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel2Ideal Cert.Kernel2Ideal.Gen

variable {F : FTy → Type} [FloatOps F]

local notation "𝕄" => MT nD τ sig Unit (Elt F) ℕ (UR sig nD τ) ℕ

attribute [local irreducible] adm tabs V

variable (m : (ℓ : Loc nD τ sig) → Buf (Elt F) ℓ) (ρ : Dev nD → PrngReg) (hpos : Pos m)

/-! ## What a point leaves -/

/-- The weights of point `t`'s expert, as the scratch buffers keep them, -/
def w1At (c : Dev nD) (t : Fin (cfgA m hpos).N) : Vec F S2048x512 .bf16 := k0_pay1 (iblk m hpos c 1 t)
def w2At (c : Dev nD) (t : Fin (cfgA m hpos).N) : Vec F S2048x512 .bf16 := k0_pay2 (iblk m hpos c 2 t)
def w3At (c : Dev nD) (t : Fin (cfgA m hpos).N) : Vec F S512x2048 .bf16 := k0_pay3 (iblk m hpos c 3 t)

/-- and the output's block: the expert's rows where the block holds tokens, zeros after the last such block. -/
def outAt (c : Dev nD) (t : Fin (cfgA m hpos).N) : Vec F S256x2048 .f32 :=
  if t.val < nt m then k0_pay4 (iblk m hpos c 0 t) (w1At m hpos c t) (w2At m hpos c t) (w3At m hpos c t) else k0_pay5

theorem outAt_in (c : Dev nD) (t : Fin (cfgA m hpos).N) (h : t.val < nt m) :
    outAt m hpos c t = k0_pay4 (iblk m hpos c 0 t) (w1At m hpos c t) (w2At m hpos c t) (w3At m hpos c t) := if_pos h
theorem outAt_out (c : Dev nD) (t : Fin (cfgA m hpos).N) (h : ¬t.val < nt m) : outAt m hpos c t = k0_pay5 := if_neg h

/-- Two points of one expert keep one set of weights. -/
theorem w1At_congr (c : Dev nD) (t u : Fin (cfgA m hpos).N) (h : te m t.val = te m u.val) : w1At m hpos c t = w1At m hpos c u :=
  congrArg k0_pay1 (iblk1_congr m hpos c t u h)
theorem w2At_congr (c : Dev nD) (t u : Fin (cfgA m hpos).N) (h : te m t.val = te m u.val) : w2At m hpos c t = w2At m hpos c u :=
  congrArg k0_pay2 (iblk2_congr m hpos c t u h)
theorem w3At_congr (c : Dev nD) (t u : Fin (cfgA m hpos).N) (h : te m t.val = te m u.val) : w3At m hpos c t = w3At m hpos c u :=
  congrArg k0_pay3 (iblk3_congr m hpos c t u h)

/-! ## The invariant between points -/

abbrev sc0 : Memref sig .tc .vmem S2048x512 .bf16 := Memref.whole cc0_scratch0
abbrev sc1 : Memref sig .tc .vmem S2048x512 .bf16 := Memref.whole cc0_scratch1
abbrev sc2 : Memref sig .tc .vmem S512x2048 .bf16 := Memref.whole cc0_scratch2

/-- The three scratch buffers at anything, -/
def ScrAny (c : Dev nD) : sProp 𝕄 := iprop((∃ d, owns (c : Thread nD τ) sc0 fullShare d) ∗ (∃ d, owns (c : Thread nD τ) sc1 fullShare d) ∗ (∃ d, owns (c : Thread nD τ) sc2 fullShare d))
/-- and at point `t`'s weights. -/
def ScrAt (c : Dev nD) (t : Fin (cfgA m hpos).N) : sProp 𝕄 := iprop(owns (c : Thread nD τ) sc0 fullShare (w1At m hpos c t) ∗ owns (c : Thread nD τ) sc1 fullShare (w2At m hpos c t) ∗ owns (c : Thread nD τ) sc2 fullShare (w3At m hpos c t))

/-- Before point `n`: after a block with tokens its expert's weights, otherwise anything. -/
def Scr (c : Dev nD) (n : ℕ) : sProp 𝕄 :=
  if h : 0 < n ∧ n - 1 < nt m ∧ n - 1 < (cfgA m hpos).N then ScrAt m hpos c ⟨n - 1, h.2.2⟩ else ScrAny c

theorem scrAt_any (c : Dev nD) (t : Fin (cfgA m hpos).N) : ScrAt m hpos c t ⊢ ScrAny c := by
  unfold ScrAt ScrAny
  iintro ⟨H0, H1, H2⟩
  isplitl [H0]; · iexists _; iexact H0
  isplitl [H1]; · iexists _; iexact H1
  iexists _; iexact H2

theorem scr_any (c : Dev nD) (n : ℕ) : Scr m hpos c n ⊢ ScrAny c := by
  unfold Scr
  split
  · exact scrAt_any m hpos c _
  · exact .rfl

theorem scr_at (c : Dev nD) (t : Fin (cfgA m hpos).N) (h0 : 0 < t.val) (h : t.val < nt m) (he : te m t.val = te m (t.val - 1)) :
    Scr m hpos c t.val = ScrAt m hpos c t := by
  have hp : t.val - 1 < (cfgA m hpos).N := by have := t.isLt; omega
  unfold Scr
  rw [dif_pos ⟨h0, by omega, hp⟩]
  unfold ScrAt
  rw [w1At_congr m hpos c t ⟨t.val - 1, hp⟩ he, w2At_congr m hpos c t ⟨t.val - 1, hp⟩ he, w3At_congr m hpos c t ⟨t.val - 1, hp⟩ he]

theorem scr_succ (c : Dev nD) (t : Fin (cfgA m hpos).N) (h : t.val < nt m) : Scr m hpos c (t.val + 1) = ScrAt m hpos c t := by
  unfold Scr
  rw [dif_pos ⟨by omega, by simpa using h, by simpa using t.isLt⟩]
  rfl
theorem scr_succ_out (c : Dev nD) (t : Fin (cfgA m hpos).N) (h : ¬t.val < nt m) : Scr m hpos c (t.val + 1) = ScrAny c := by
  unfold Scr
  rw [dif_neg (by simp only [Nat.add_sub_cancel]; exact fun h' => h h'.2.1)]

/-- The tables' halves that the body reads. -/
def Tab (c : Dev nD) : sProp 𝕄 := iprop((tb0.view.loc (c : Thread nD τ) ↦{fullShare.right} (tabs m 0)) ∗ (tb1.view.loc (c : Thread nD τ) ↦{fullShare.right} (tabs m 1)) ∗ (tb2.view.loc (c : Thread nD τ) ↦{fullShare.right} (tabs m 2)))

def PhiS (c : Dev nD) (n : ℕ) : sProp 𝕄 := iprop(Scr m hpos c n ∗ Tab m c ∗ (∃ r, prngReg c r))

/-! ## The proof data -/

/-- The pipeline's proof data on core `c`. -/
def dats (p : Fin 1) (c : Dev nD) : Dat τ (Elt F) Unit ℕ (UR sig nD τ) ℕ (Pipeline.pin pcfgs (fun _ => adm m hpos) p) c where
  A w := V m c (Pipeline.arrRef spec0 w)
  after w t := match w with
    | ⟨0, _⟩ => iblk m hpos c 0 t
    | ⟨1, _⟩ => iblk m hpos c 1 t
    | ⟨2, _⟩ => iblk m hpos c 2 t
    | ⟨3, _⟩ => iblk m hpos c 3 t
    | ⟨4, _⟩ => outAt m hpos c t
  Φ t := PhiS m hpos c t.val
  q _ := fullShare
  owed _ := 0

theorem A_eq (c : Dev nD) (w : Fin (cfgA m hpos).W) : (dats m hpos 0 c).A w = V m c (Pipeline.arrRef spec0 w) := by
  dsimp only [dats]

theorem after0_0 (c : Dev nD) (t : Fin (cfgA m hpos).N) : (dats m hpos 0 c).after (0 : Fin 5) t = iblk m hpos c 0 t := by dsimp only [dats]
theorem after0_1 (c : Dev nD) (t : Fin (cfgA m hpos).N) : (dats m hpos 0 c).after (1 : Fin 5) t = iblk m hpos c 1 t := by dsimp only [dats]
theorem after0_2 (c : Dev nD) (t : Fin (cfgA m hpos).N) : (dats m hpos 0 c).after (2 : Fin 5) t = iblk m hpos c 2 t := by dsimp only [dats]
theorem after0_3 (c : Dev nD) (t : Fin (cfgA m hpos).N) : (dats m hpos 0 c).after (3 : Fin 5) t = iblk m hpos c 3 t := by dsimp only [dats]
theorem after0_4 (c : Dev nD) (t : Fin (cfgA m hpos).N) : (dats m hpos 0 c).after (4 : Fin 5) t = outAt m hpos c t := by dsimp only [dats]

theorem before0_0 (c : Dev nD) (t : Fin (cfgA m hpos).N) (d) : (dats m hpos 0 c).before (0 : Fin 5) t d = iblk m hpos c 0 t :=
  ((dats m hpos 0 c).before_in_eq_fetched (0 : Fin 5) rfl (fun _ => rfl) (fun _ _ _ => rfl)
    (fun t => by rw [after0_0]; unfold Dat.blockOf iblk; rw [A_eq]; try rfl) t d).trans (by unfold Dat.fetched Dat.blockOf iblk; rw [A_eq]; try rfl)
theorem before0_1 (c : Dev nD) (t : Fin (cfgA m hpos).N) (d) : (dats m hpos 0 c).before (1 : Fin 5) t d = iblk m hpos c 1 t :=
  ((dats m hpos 0 c).before_in_eq_fetched (1 : Fin 5) rfl (fun _ => rfl) (fun _ _ _ => rfl)
    (fun t => by rw [after0_1]; unfold Dat.blockOf iblk; rw [A_eq]; try rfl) t d).trans (by unfold Dat.fetched Dat.blockOf iblk; rw [A_eq]; try rfl)
theorem before0_2 (c : Dev nD) (t : Fin (cfgA m hpos).N) (d) : (dats m hpos 0 c).before (2 : Fin 5) t d = iblk m hpos c 2 t :=
  ((dats m hpos 0 c).before_in_eq_fetched (2 : Fin 5) rfl (fun _ => rfl) (fun _ _ _ => rfl)
    (fun t => by rw [after0_2]; unfold Dat.blockOf iblk; rw [A_eq]; try rfl) t d).trans (by unfold Dat.fetched Dat.blockOf iblk; rw [A_eq]; try rfl)
theorem before0_3 (c : Dev nD) (t : Fin (cfgA m hpos).N) (d) : (dats m hpos 0 c).before (3 : Fin 5) t d = iblk m hpos c 3 t :=
  ((dats m hpos 0 c).before_in_eq_fetched (3 : Fin 5) rfl (fun _ => rfl) (fun _ _ _ => rfl)
    (fun t => by rw [after0_3]; unfold Dat.blockOf iblk; rw [A_eq]; try rfl) t d).trans (by unfold Dat.fetched Dat.blockOf iblk; rw [A_eq]; try rfl)

/-- The body at point `t`. -/
abbrev bodyAt0 (t : Fin (cfgA m hpos).N) : Prog (TpuEff nD τ sig (Elt F) Λ₀ .tc) PUnit :=
  cc0_expert_ffn (grid0.coords t) tb0 (Memref.isWhole_whole _) tb1 (Memref.isWhole_whole _) tb2 (Memref.isWhole_whole _) (ms0_0 m hpos t) (hs0_0 m hpos t) (ms0_1 m hpos t) (hs0_1 m hpos t) (ms0_2 m hpos t) (hs0_2 m hpos t) (ms0_3 m hpos t) (hs0_3 m hpos t) (ms0_4 m hpos t) (hs0_4 m hpos t) sc0 (Memref.isWhole_whole _) sc1 (Memref.isWhole_whole _) sc2 (Memref.isWhole_whole _)

/-- What the body is handed at point `t`, -/
def bodyPre (c : Dev nD) (t : Fin (cfgA m hpos).N) : sProp 𝕄 :=
  iprop((dats m hpos 0 c).Φ t.castSucc ∗ (dats m hpos 0 c).owesAt () t.castSucc
    ∗ (∃ d, owns (c : Thread nD τ) (ms0_0 m hpos t) fullShare ((dats m hpos 0 c).before (0 : Fin 5) t d))
    ∗ (∃ d, owns (c : Thread nD τ) (ms0_1 m hpos t) fullShare ((dats m hpos 0 c).before (1 : Fin 5) t d))
    ∗ (∃ d, owns (c : Thread nD τ) (ms0_2 m hpos t) fullShare ((dats m hpos 0 c).before (2 : Fin 5) t d))
    ∗ (∃ d, owns (c : Thread nD τ) (ms0_3 m hpos t) fullShare ((dats m hpos 0 c).before (3 : Fin 5) t d))
    ∗ (∃ d, owns (c : Thread nD τ) (ms0_4 m hpos t) fullShare ((dats m hpos 0 c).before (4 : Fin 5) t d)))

/-- and what it returns. -/
def bodyPost (c : Dev nD) (t : Fin (cfgA m hpos).N) : sProp 𝕄 :=
  iprop((dats m hpos 0 c).Φ t.succ ∗ (dats m hpos 0 c).owesAt () t.succ
    ∗ (dats m hpos 0 c).leavesExact (0 : Fin 5) t
    ∗ (dats m hpos 0 c).leavesExact (1 : Fin 5) t
    ∗ (dats m hpos 0 c).leavesExact (2 : Fin 5) t
    ∗ (dats m hpos 0 c).leavesExact (3 : Fin 5) t
    ∗ (dats m hpos 0 c).leavesExact (4 : Fin 5) t)

theorem leaves0 (c : Dev nD) (t : Fin (cfgA m hpos).N) :
    (dats m hpos 0 c).leavesExact (0 : Fin 5) t = owns (c : Thread nD τ) (ms0_0 m hpos t) fullShare (iblk m hpos c 0 t) := by
  unfold Dat.leavesExact
  rw [show (Pipeline.pin pcfgs (fun _ => adm m hpos) 0).idle (0 : Fin 5) ((Pipeline.pin pcfgs (fun _ => adm m hpos) 0).grid.coords t) = false from rfl, after0_0]
theorem leaves1 (c : Dev nD) (t : Fin (cfgA m hpos).N) :
    (dats m hpos 0 c).leavesExact (1 : Fin 5) t = owns (c : Thread nD τ) (ms0_1 m hpos t) fullShare (iblk m hpos c 1 t) := by
  unfold Dat.leavesExact
  rw [show (Pipeline.pin pcfgs (fun _ => adm m hpos) 0).idle (1 : Fin 5) ((Pipeline.pin pcfgs (fun _ => adm m hpos) 0).grid.coords t) = false from rfl, after0_1]
theorem leaves2 (c : Dev nD) (t : Fin (cfgA m hpos).N) :
    (dats m hpos 0 c).leavesExact (2 : Fin 5) t = owns (c : Thread nD τ) (ms0_2 m hpos t) fullShare (iblk m hpos c 2 t) := by
  unfold Dat.leavesExact
  rw [show (Pipeline.pin pcfgs (fun _ => adm m hpos) 0).idle (2 : Fin 5) ((Pipeline.pin pcfgs (fun _ => adm m hpos) 0).grid.coords t) = false from rfl, after0_2]
theorem leaves3 (c : Dev nD) (t : Fin (cfgA m hpos).N) :
    (dats m hpos 0 c).leavesExact (3 : Fin 5) t = owns (c : Thread nD τ) (ms0_3 m hpos t) fullShare (iblk m hpos c 3 t) := by
  unfold Dat.leavesExact
  rw [show (Pipeline.pin pcfgs (fun _ => adm m hpos) 0).idle (3 : Fin 5) ((Pipeline.pin pcfgs (fun _ => adm m hpos) 0).grid.coords t) = false from rfl, after0_3]
theorem leaves4 (c : Dev nD) (t : Fin (cfgA m hpos).N) :
    (dats m hpos 0 c).leavesExact (4 : Fin 5) t = owns (c : Thread nD τ) (ms0_4 m hpos t) fullShare (outAt m hpos c t) := by
  unfold Dat.leavesExact
  rw [show (Pipeline.pin pcfgs (fun _ => adm m hpos) 0).idle (4 : Fin 5) ((Pipeline.pin pcfgs (fun _ => adm m hpos) 0).grid.coords t) = false from live4 m hpos t, after0_4]

set_option maxHeartbeats 9600000 in
/-- The body at the first block of an expert. -/
theorem sound_first (c : Dev nD) (t : Fin (cfgA m hpos).N) (ht : t.val < nt m) (hb : begins (word1 (F := F) (crd m hpos t) (tabs m 1)) = 1#1) :
    bodyPre m hpos c t ⊢ wp frame (wpE (defs₀ (F := F)) Variants.none c none) Set.univ (bodyAt0 m hpos t) (fun _ => bodyPost m hpos c t) := by
  unfold bodyPre bodyPost
  simp only [before0_0, before0_1, before0_2, before0_3]
  rw [leaves0, leaves1, leaves2, leaves3, leaves4]
  rw [show (dats m hpos 0 c).owesAt () t.succ = (dats m hpos 0 c).owesAt () t.castSucc from rfl]
  rw [show (dats m hpos 0 c).Φ t.succ = PhiS m hpos c (t.val + 1) from rfl, show (dats m hpos 0 c).Φ t.castSucc = PhiS m hpos c t.val from rfl]
  unfold PhiS Tab
  rw [scr_succ m hpos c t ht, outAt_in m hpos c t ht]
  refine BIBase.Entails.trans (sep_mono (sep_mono (scr_any m hpos c t.val) .rfl) .rfl) ?_
  unfold ScrAny
  iintro ⟨⟨⟨HS0, HS1, HS2⟩, ⟨HT0, HT1, HT2⟩, Hg⟩, Ho, ⟨%d0, H0⟩, ⟨%d1, H1⟩, ⟨%d2, H2⟩, ⟨%d3, H3⟩, ⟨%d4, H4⟩⟩
  iapply (runA (F := F) c (grid0.coords t) _ (hs0_0 m hpos t) _ (hs0_1 m hpos t) _ (hs0_2 m hpos t) _ (hs0_3 m hpos t) _ (hs0_4 m hpos t) sc0 (Memref.isWhole_whole _) sc1 (Memref.isWhole_whole _) sc2 (Memref.isWhole_whole _) (tabs m 0) (tabs m 1) (tabs m 2) (iblk m hpos c 0 t) (iblk m hpos c 1 t) (iblk m hpos c 2 t) (iblk m hpos c 3 t) ((cond1 m hpos t).mpr ht) hb (fun h => (cond3 m hpos t).mp h ht) _)
  isplitl [H0]; · iexact H0
  isplitl [H1]; · iexact H1
  isplitl [H2]; · iexact H2
  isplitl [H3]; · iexact H3
  isplitl [HT0]; · iexact HT0
  isplitl [HT1]; · iexact HT1
  isplitl [HT2]; · iexact HT2
  isplitl [H4]; · iexists _; iexact H4
  isplitl [HS0]; · iexact HS0
  isplitl [HS1]; · iexact HS1
  isplitl [HS2]; · iexact HS2
  iintro ⟨H0, H1, H2, H3, HT0, HT1, HT2, H4, HS0, HS1, HS2⟩
  isplitl [HS0 HS1 HS2 HT0 HT1 HT2 Hg]
  · isplitl [HS0 HS1 HS2]
    · unfold ScrAt
      isplitl [HS0]; · iexact HS0
      isplitl [HS1]; · iexact HS1
      iexact HS2
    isplitl [HT0 HT1 HT2]
    · isplitl [HT0]; · iexact HT0
      isplitl [HT1]; · iexact HT1
      iexact HT2
    iexact Hg
  isplitl [Ho]; · iexact Ho
  isplitl [H0]; · iexact H0
  isplitl [H1]; · iexact H1
  isplitl [H2]; · iexact H2
  isplitl [H3]; · iexact H3
  iexact H4

set_option maxHeartbeats 9600000 in
/-- The body at a later block of an expert. -/
theorem sound_next (c : Dev nD) (t : Fin (cfgA m hpos).N) (ht : t.val < nt m) (hb : ¬begins (word1 (F := F) (crd m hpos t) (tabs m 1)) = 1#1) :
    bodyPre m hpos c t ⊢ wp frame (wpE (defs₀ (F := F)) Variants.none c none) Set.univ (bodyAt0 m hpos t) (fun _ => bodyPost m hpos c t) := by
  unfold bodyPre bodyPost
  simp only [before0_0, before0_1, before0_2, before0_3]
  rw [leaves0, leaves1, leaves2, leaves3, leaves4]
  rw [show (dats m hpos 0 c).owesAt () t.succ = (dats m hpos 0 c).owesAt () t.castSucc from rfl]
  rw [show (dats m hpos 0 c).Φ t.succ = PhiS m hpos c (t.val + 1) from rfl, show (dats m hpos 0 c).Φ t.castSucc = PhiS m hpos c t.val from rfl]
  unfold PhiS Tab
  have h0 : 0 < t.val := Nat.pos_of_ne_zero fun h => hb (begins_zero m hpos t h)
  rw [scr_succ m hpos c t ht, outAt_in m hpos c t ht, scr_at m hpos c t h0 ht (begins_not m hpos t h0 hb)]
  conv_lhs => unfold ScrAt
  iintro ⟨⟨⟨HS0, HS1, HS2⟩, ⟨HT0, HT1, HT2⟩, Hg⟩, Ho, ⟨%d0, H0⟩, ⟨%d1, H1⟩, ⟨%d2, H2⟩, ⟨%d3, H3⟩, ⟨%d4, H4⟩⟩
  iapply (runB (F := F) c (grid0.coords t) _ (hs0_0 m hpos t) _ (hs0_1 m hpos t) _ (hs0_2 m hpos t) _ (hs0_3 m hpos t) _ (hs0_4 m hpos t) sc0 (Memref.isWhole_whole _) sc1 (Memref.isWhole_whole _) sc2 (Memref.isWhole_whole _) (tabs m 0) (tabs m 1) (tabs m 2) (iblk m hpos c 0 t) (iblk m hpos c 1 t) (iblk m hpos c 2 t) (iblk m hpos c 3 t) (w1At m hpos c t) (w2At m hpos c t) (w3At m hpos c t) ((cond1 m hpos t).mpr ht) hb (fun h => (cond3 m hpos t).mp h ht) _)
  isplitl [H0]; · iexact H0
  isplitl [H1]; · iexact H1
  isplitl [H2]; · iexact H2
  isplitl [H3]; · iexact H3
  isplitl [HT0]; · iexact HT0
  isplitl [HT1]; · iexact HT1
  isplitl [HT2]; · iexact HT2
  isplitl [H4]; · iexists _; iexact H4
  isplitl [HS0]; · iexact HS0
  isplitl [HS1]; · iexact HS1
  isplitl [HS2]; · iexact HS2
  iintro ⟨H0, H1, H2, H3, HT0, HT1, HT2, H4, HS0, HS1, HS2⟩
  isplitl [HS0 HS1 HS2 HT0 HT1 HT2 Hg]
  · isplitl [HS0 HS1 HS2]
    · unfold ScrAt
      isplitl [HS0]; · iexact HS0
      isplitl [HS1]; · iexact HS1
      iexact HS2
    isplitl [HT0 HT1 HT2]
    · isplitl [HT0]; · iexact HT0
      isplitl [HT1]; · iexact HT1
      iexact HT2
    iexact Hg
  isplitl [Ho]; · iexact Ho
  isplitl [H0]; · iexact H0
  isplitl [H1]; · iexact H1
  isplitl [H2]; · iexact H2
  isplitl [H3]; · iexact H3
  iexact H4

set_option maxHeartbeats 9600000 in
/-- The body after the last block that holds tokens. -/
theorem sound_after (c : Dev nD) (t : Fin (cfgA m hpos).N) (ht : ¬t.val < nt m) :
    bodyPre m hpos c t ⊢ wp frame (wpE (defs₀ (F := F)) Variants.none c none) Set.univ (bodyAt0 m hpos t) (fun _ => bodyPost m hpos c t) := by
  unfold bodyPre bodyPost
  simp only [before0_0, before0_1, before0_2, before0_3]
  rw [leaves0, leaves1, leaves2, leaves3, leaves4]
  rw [show (dats m hpos 0 c).owesAt () t.succ = (dats m hpos 0 c).owesAt () t.castSucc from rfl]
  rw [show (dats m hpos 0 c).Φ t.succ = PhiS m hpos c (t.val + 1) from rfl, show (dats m hpos 0 c).Φ t.castSucc = PhiS m hpos c t.val from rfl]
  unfold PhiS Tab
  rw [scr_succ_out m hpos c t ht, outAt_out m hpos c t ht]
  refine BIBase.Entails.trans (sep_mono (sep_mono (scr_any m hpos c t.val) .rfl) .rfl) ?_
  iintro ⟨⟨HS, ⟨HT0, HT1, HT2⟩, Hg⟩, Ho, ⟨%d0, H0⟩, ⟨%d1, H1⟩, ⟨%d2, H2⟩, ⟨%d3, H3⟩, ⟨%d4, H4⟩⟩
  iapply (runC (F := F) c (grid0.coords t) _ (hs0_0 m hpos t) _ (hs0_1 m hpos t) _ (hs0_2 m hpos t) _ (hs0_3 m hpos t) _ (hs0_4 m hpos t) sc0 (Memref.isWhole_whole _) sc1 (Memref.isWhole_whole _) sc2 (Memref.isWhole_whole _) (tabs m 0) (tabs m 1) (tabs m 2) (iblk m hpos c 0 t) (iblk m hpos c 1 t) (iblk m hpos c 2 t) (iblk m hpos c 3 t) (fun h => ht ((cond1 m hpos t).mp h)) ((cond3 m hpos t).mpr ht) _)
  isplitl [H0]; · iexact H0
  isplitl [H1]; · iexact H1
  isplitl [H2]; · iexact H2
  isplitl [H3]; · iexact H3
  isplitl [HT0]; · iexact HT0
  isplitl [HT1]; · iexact HT1
  isplitl [HT2]; · iexact HT2
  isplitl [H4]; · iexists _; iexact H4
  iintro ⟨H0, H1, H2, H3, HT0, HT1, HT2, H4⟩
  isplitl [HS HT0 HT1 HT2 Hg]
  · isplitl [HS]; · iexact HS
    isplitl [HT0 HT1 HT2]
    · isplitl [HT0]; · iexact HT0
      isplitl [HT1]; · iexact HT1
      iexact HT2
    iexact Hg
  isplitl [Ho]; · iexact Ho
  isplitl [H0]; · iexact H0
  isplitl [H1]; · iexact H1
  isplitl [H2]; · iexact H2
  isplitl [H3]; · iexact H3
  iexact H4

theorem sound_body (c : Dev nD) (t : Fin (cfgA m hpos).N) :
    bodyPre m hpos c t ⊢ wp frame (wpE (defs₀ (F := F)) Variants.none c none) Set.univ (bodyAt0 m hpos t) (fun _ => bodyPost m hpos c t) := by
  by_cases ht : t.val < nt m
  · by_cases hb : begins (word1 (F := F) (crd m hpos t) (tabs m 1)) = 1#1
    · exact sound_first m hpos c t ht hb
    · exact sound_next m hpos c t ht hb
  · exact sound_after m hpos c t ht

/-- The body table's row at point `t`'s slots is that body. -/
theorem defs₀_row (t : Fin (cfgA m hpos).N) :
    defs₀ (F := F) .tc (cfgA m hpos).body ((cfgA m hpos).bodyArgs t ((cfgA m hpos).slots t)) = bodyAt0 m hpos t := by
  unfold defs₀; rw [Defs.onTc_tc]

/-- The library's body obligation, at every point: the body's triple restated. -/
theorem body_obligation (c : Dev nD) : BodyObligation (dats (F := F) m hpos 0 c) (defs₀ (F := F)) Variants.none () Set.univ := fun t => by
  rw [bigSep_W0, bigSep_W0]
  exact triple_restated (sound_body m hpos c t) (congrArg (fun b => wp frame (wpE (defs₀ (F := F)) Variants.none c none) Set.univ b) (defs₀_row m hpos t).symm) .rfl fun _ => .rfl

/-! ## The run -/

theorem PhiA0_eq (c : Dev nD) : (Pipeline.ΦA spec0 c : sProp 𝕄) = iprop(ScrAny c ∗ (∃ r, prngReg c r)) := by
  unfold ScrAny Pipeline.ΦA; rw [scopedRest0_eq]; simp only [sc0, sc1, sc2, owns_whole]; try rfl

theorem PhiT_eq (c : Dev nD) (v : pre0.Contents (Elt F)) : (Pipeline.ΦT pre0 v c : sProp 𝕄)
    = iprop((tb0.view.loc (c : Thread nD τ) ↦{fullShare.right} (v 0)) ∗ (tb1.view.loc (c : Thread nD τ) ↦{fullShare.right} (v 1)) ∗ (tb2.view.loc (c : Thread nD τ) ↦{fullShare.right} (v 2))) := by
  unfold Pipeline.ΦT Pipeline.prefHeld
  rw [show (Finset.univ : Finset (Fin pre0.K)) = insert 0 (insert 1 {2}) from by decide, bigSep_insert (by decide), bigSep_insert (by decide), bigSep_singleton]
  rfl

/-- What the launch hands the region is the invariant before the first point. -/
theorem hin (c : Dev nD) : iprop(Pipeline.ΦA spec0 c ∗ Pipeline.ΦT pre0 (adm m hpos).1 c) ⊢ (dats m hpos 0 c).Φ 0 := by
  rw [show (dats m hpos 0 c).Φ 0 = PhiS m hpos c 0 from rfl, PhiA0_eq, PhiT_eq, adm_1]
  unfold PhiS Tab Scr
  rw [dif_neg (by simp)]
  iintro ⟨⟨HS, Hg⟩, HT⟩
  isplitl [HS]; · iexact HS
  isplitl [HT]; · iexact HT
  iexact Hg

/-- After the last point the invariant gives it back, the scratch buffers' contents forgotten. -/
theorem hout (c : Dev nD) : (dats m hpos 0 c).Φ (Fin.last (cfgA m hpos).N) ⊢ Pipeline.ΦA spec0 c := by
  rw [show (dats m hpos 0 c).Φ (Fin.last (cfgA m hpos).N) = PhiS m hpos c (cfgA m hpos).N from rfl, PhiA0_eq]
  unfold PhiS
  refine BIBase.Entails.trans (sep_mono (scr_any m hpos c _) .rfl) ?_
  iintro ⟨HS, HT, Hg⟩
  isplitl [HS]; · iexact HS
  iexact Hg

theorem hpf (c : Dev nD) (k : Fin pre0.K) : V m c (pre0.ref k) = (adm m hpos).1 k := by
  rw [adm_1, Subsingleton.elim c 0]; with_unfolding_all rfl

set_option backward.isDefEq.respectTransparency.types false in
/-- The launch: every execution terminates, the arrays as the proof data say, every other buffer as the region found
    it, every semaphore at zero. -/
theorem run_main : θ_run (defs (F := F)) (onTc (τ := τ) (main (F := F))) (s₀ m ρ)
    (fun r => (Pipeline.FramePost (Pipeline.pin pcfgs (fun _ => adm m hpos)) (dats m hpos) 0 (V m)) r ∧ r.2.sem = fun _ => 0) :=
  Pipeline.θ_run_frameP_track (Q' := _) pcfgs (fun _ => adm m hpos) (dats m hpos) (0 : Fin 1) launch0 defs₀ Variants.none m ρ main
    (hbody := fun c => (body_obligation m hpos c).loose) (hshare := fun c w => by unfold Dat.share; split <;> rfl)
    (howed := fun _ _ => rfl) (V := V m) (hmain := hmain m Variants.none) (hA := A_eq m hpos) (hpf := hpf m hpos) (hin := hin m hpos) (hout := hout m hpos)

end Cert.Kernel2Ideal.Ffn
-- ==== Proof.FfnFrame.lean ====
/- The expert kernel's run, read: the result's array as the launch leaves it, the arguments unchanged, every semaphore at
   zero; and what the precondition says. -/
module

public import proofs.«01_k».proof.Proof.FfnLaunch

@[expose] public section

set_option maxRecDepth 16384
set_option Elab.async false

noncomputable section

namespace Cert.Kernel2Ideal.Ffn

open Idealize.ShloMosaic Idealize.ShloMosaic.TcCoe Idealize.SL.Sem
open Cert.Kernel2Ideal Cert.Kernel2Ideal.Gen

variable {F : FTy → Type} [FloatOps F]

attribute [local irreducible] adm tabs V

variable (m : (ℓ : Loc nD τ sig) → Buf (Elt F) ℓ) (ρ : Dev nD → PrngReg)

/-- The precondition says that some block holds tokens. -/
theorem pos_of_pre (h : ∀ c : Dev nD, (Cert.Pre_some_group.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))) = (fun _ => 1#1)) : Pos m := by
  have h0 := congrFun (h 0) ValueIdx.ix0
  have hs : Cert.Pre_some_group.fn (F := F) (m (((0 : Dev nD).tc : Thread nD τ).loc main_arg0)) (m (((0 : Dev nD).tc : Thread nD τ).loc main_arg1))
      (m (((0 : Dev nD).tc : Thread nD τ).loc main_arg2)) (m (((0 : Dev nD).tc : Thread nD τ).loc main_arg3)) (m (((0 : Dev nD).tc : Thread nD τ).loc main_arg4)) ValueIdx.ix0
      = IntOp.cmpi .sge (shapeCast Cert.Pre_some_group.S_ (blocksOf (E0 m)) Cert.Pre_some_group.Facts.shapeCasts_S1_S_ ValueIdx.ix0) 1#32 := rfl
  rw [hs, shapeCast_apply (s := S1) (t := Cert.Pre_some_group.S_) (k := ValueIdx.ix1 0) (hk := rfl), blocksOf_apply] at h0
  unfold Pos
  have h1 : BitVec.ofBool (BitVec.sle 1#32 (E0 m (ValueIdx.ix1 31))) = 1#1 := h0
  rw [WordArith.ofBool_eq_one_iff, BitVec.sle_iff_toInt_le] at h1
  exact h1

variable (hpos : Pos m)

/-- The run, read. -/
theorem run_arr : θ_run (defs (F := F)) (onTc (τ := τ) (main (F := F))) ⟨m, fun _ => 0, ρ⟩ (fun r => (∀ c : Dev nD,
      r.2.mem ((c.tc : Thread nD τ).loc main_v26) = (dats m hpos 0 c).arrAt (4 : Fin 5) (cfgA m hpos).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c => ⟨(h.1 c).1 (4 : Fin 5),
      ((h.1 c).2 main_arg0 (Pipeline.mem_restRefs_of main_arg0 (by decide) (show ∀ w : Fin 5, Pipeline.arrRef spec0 w ≠ main_arg0 from by decide))).trans (V_main_arg0 m c),
      ((h.1 c).1 (0 : Fin 5)).trans (((dats m hpos 0 c).arrAt_in (0 : Fin 5) rfl _).trans ((A_eq m hpos c (0 : Fin 5)).trans (V_main_arg1 m c))),
      ((h.1 c).1 (1 : Fin 5)).trans (((dats m hpos 0 c).arrAt_in (1 : Fin 5) rfl _).trans ((A_eq m hpos c (1 : Fin 5)).trans (V_main_arg2 m c))),
      ((h.1 c).1 (2 : Fin 5)).trans (((dats m hpos 0 c).arrAt_in (2 : Fin 5) rfl _).trans ((A_eq m hpos c (2 : Fin 5)).trans (V_main_arg3 m c))),
      ((h.1 c).1 (3 : Fin 5)).trans (((dats m hpos 0 c).arrAt_in (3 : Fin 5) rfl _).trans ((A_eq m hpos c (3 : Fin 5)).trans (V_main_arg4 m c)))⟩, h.2⟩)
    (run_main m ρ hpos)

/-- The frame: the arguments unchanged, every semaphore at zero. -/
theorem frame (hpos : Pos m) : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => (h.1 c).2, h.2⟩) (run_arr m ρ hpos)

end Cert.Kernel2Ideal.Ffn
-- ==== Proof.FfnMath.lean ====
/- What the experts compute, in plain sums: a row of the sorted buffer goes through the two projections of its expert, the
   gated product, and the projection back; rows past the last expert's are zero. -/
module

public import proofs.«01_k».proof.Proof.FfnTables
public import Idealize.ShloMosaic.Lib.Pointwise

@[expose] public section

set_option maxRecDepth 16384
set_option Elab.async false

noncomputable section

namespace Cert.Kernel2Ideal.Ffn

open Idealize.ShloMosaic
open Cert.Kernel2Ideal Cert.Kernel2Ideal.Gen

variable (X : Vec Ideal S41984x2048 .f32) (G U : Vec Ideal S1x32x2048x512 .f32) (D : Vec Ideal S1x32x512x2048 .f32)

/-- A row through one of expert `e`'s projections. -/
def proj (W : Vec Ideal S1x32x2048x512 .f32) (r : Fin 41984) (e : Fin 32) (j : Fin 512) : EReal :=
  ∑ k : Fin 2048, X (ValueIdx.ix2 r k) * W (ValueIdx.ix4 (0 : Fin 1) e k j)

/-- The gated product: `g · σ(g) · u`. -/
def mid (r : Fin 41984) (e : Fin 32) (j : Fin 512) : EReal :=
  proj X G r e j * Ideal.logistic (proj X G r e j) * proj X U r e j

/-- The row through expert `e`. -/
def rowFf (r : Fin 41984) (e : Fin 32) (d : Fin 2048) : EReal :=
  ∑ j : Fin 512, mid X G U r e j * D (ValueIdx.ix4 (0 : Fin 1) e j d)

/-- The expert a block belongs to. -/
def who (E : IVec S32 32) (g : ℕ) : Fin 32 := ⟨min (hits E g) 31, by omega⟩

/-- The result, by rows: row `r` lies in block `r / 256`; blocks past the last expert's end are zero. -/
def outRow (E : IVec S32 32) (r : Fin 41984) (d : Fin 2048) : EReal :=
  if ((r.val / 256 : ℕ) : ℤ) < (E (ValueIdx.ix1 31)).toInt then rowFf X G U D r (who E (r.val / 256)) d else 0

/-- The result as an array. -/
def outArr (E : IVec S32 32) : Vec Ideal S41984x2048 .f32 := fun i => outRow X G U D E (i 0) (i 1)

end Cert.Kernel2Ideal.Ffn
-- ==== Proof.FfnPay.lean ====
/- One block of the expert kernel over the extended reals, element by element: the weights' blocks without their unit axes,
   and the two projections, the gate and the projection back as sums. -/
module

public import proofs.«01_k».proof.Proof.FfnMath
public import proofs.«01_k».proof.Proof.Gen.Kernel2Ideal.Skeleton

@[expose] public section

set_option maxRecDepth 16384
set_option Elab.async false

noncomputable section

namespace Cert.Kernel2Ideal.Ffn

open Idealize.ShloMosaic
open Cert.Kernel2Ideal Cert.Kernel2Ideal.Gen

theorem pay1_apply (v : Vec Ideal S1x1x2048x512 .f32) (r : Fin 2048) (d : Fin 512) :
    k0_pay1 v (ValueIdx.ix2 r d) = v (ValueIdx.ix4 (0 : Fin 1) (0 : Fin 1) r d) := by
  unfold k0_pay1
  rw [shapeCast_self]
  show shapeCast S2048x512 v shapeCasts_S1x1x2048x512_S2048x512 (ValueIdx.ix2 r d) = _
  pointwise
  rfl

theorem pay2_apply (v : Vec Ideal S1x1x2048x512 .f32) (r : Fin 2048) (d : Fin 512) :
    k0_pay2 v (ValueIdx.ix2 r d) = v (ValueIdx.ix4 (0 : Fin 1) (0 : Fin 1) r d) := pay1_apply v r d

theorem pay3_apply (v : Vec Ideal S1x1x512x2048 .f32) (r : Fin 512) (d : Fin 2048) :
    k0_pay3 v (ValueIdx.ix2 r d) = v (ValueIdx.ix4 (0 : Fin 1) (0 : Fin 1) r d) := by
  unfold k0_pay3
  rw [shapeCast_self]
  show shapeCast S512x2048 v shapeCasts_S1x1x512x2048_S512x2048 (ValueIdx.ix2 r d) = _
  pointwise
  rfl

/-- A projection of a block, into a zero accumulator. -/
theorem up_apply (x : FVec Ideal S256x2048 .bf16) (w : FVec Ideal S2048x512 .bf16) (r : Fin 256) (j : Fin 512) :
    (matmul dot_S256x2048_S2048x512_S256x512_1_0_0_1_n_n none x w (constant (F := Ideal) S256x512 .f32 0x00000000#32) : FVec Ideal S256x512 .f32) (ValueIdx.ix2 r j)
      = ∑ k : Fin 2048, x (ValueIdx.ix2 r k) * w (ValueIdx.ix2 k j) := by
  pointwise [Ideal.ofBits_zero_f32]
  rfl

/-- The projection back. -/
theorem down_apply (x : FVec Ideal S256x512 .bf16) (w : FVec Ideal S512x2048 .bf16) (r : Fin 256) (d : Fin 2048) :
    (matmul dot_S256x512_S512x2048_S256x2048_1_0_0_1_n_n none x w (constant (F := Ideal) S256x2048 .f32 0x00000000#32) : FVec Ideal S256x2048 .f32) (ValueIdx.ix2 r d)
      = ∑ k : Fin 512, x (ValueIdx.ix2 r k) * w (ValueIdx.ix2 k d) := by
  pointwise [Ideal.ofBits_zero_f32]
  rfl

/-- The block's result. -/
theorem pay4_apply (x : Vec Ideal S256x2048 .f32) (w1 w2 : Vec Ideal S2048x512 .bf16) (w3 : Vec Ideal S512x2048 .bf16) (r : Fin 256) (d : Fin 2048) :
    k0_pay4 x w1 w2 w3 (ValueIdx.ix2 r d) = ∑ j : Fin 512,
      ((∑ k : Fin 2048, (x (ValueIdx.ix2 r k) : EReal) * w1 (ValueIdx.ix2 k j)) * Ideal.logistic (∑ k : Fin 2048, (x (ValueIdx.ix2 r k) : EReal) * w1 (ValueIdx.ix2 k j))
        * (∑ k : Fin 2048, (x (ValueIdx.ix2 r k) : EReal) * w2 (ValueIdx.ix2 k j))) * w3 (ValueIdx.ix2 j d) := by
  unfold k0_pay4
  refine (down_apply _ _ r d).trans (Finset.sum_congr rfl fun j _ => congrArg (· * (w3 (ValueIdx.ix2 j d) : EReal)) ?_)
  have h1 := up_apply (truncf .bf16 x bitsLt_bf16_f32) w1 r j
  have h2 := up_apply (truncf .bf16 x bitsLt_bf16_f32) w2 r j
  exact congrArg₂ (fun a b : EReal => a * Ideal.logistic a * b) h1 h2

/-- The block's result where its row is the row `row` of `X` and its weights are those of expert `e`. -/
theorem pay4_rows (x : Vec Ideal S256x2048 .f32) (w1 w2 : Vec Ideal S2048x512 .bf16) (w3 : Vec Ideal S512x2048 .bf16)
    (X : Vec Ideal S41984x2048 .f32) (G U : Vec Ideal S1x32x2048x512 .f32) (D : Vec Ideal S1x32x512x2048 .f32) (r : Fin 256) (row : Fin 41984) (e : Fin 32) (d : Fin 2048)
    (hx : ∀ k, x (ValueIdx.ix2 r k) = X (ValueIdx.ix2 row k)) (h1 : ∀ k j, w1 (ValueIdx.ix2 k j) = G (ValueIdx.ix4 (0 : Fin 1) e k j))
    (h2 : ∀ k j, w2 (ValueIdx.ix2 k j) = U (ValueIdx.ix4 (0 : Fin 1) e k j)) (h3 : ∀ j, w3 (ValueIdx.ix2 j d) = D (ValueIdx.ix4 (0 : Fin 1) e j d)) :
    k0_pay4 x w1 w2 w3 (ValueIdx.ix2 r d) = rowFf X G U D row e d := by
  have hg : ∀ j, (∑ k : Fin 2048, (x (ValueIdx.ix2 r k) : EReal) * w1 (ValueIdx.ix2 k j)) = proj X G row e j :=
    fun j => Finset.sum_congr rfl fun k _ => congrArg₂ (fun a b : EReal => a * b) (hx k) (h1 k j)
  have hu : ∀ j, (∑ k : Fin 2048, (x (ValueIdx.ix2 r k) : EReal) * w2 (ValueIdx.ix2 k j)) = proj X U row e j :=
    fun j => Finset.sum_congr rfl fun k _ => congrArg₂ (fun a b : EReal => a * b) (hx k) (h2 k j)
  refine (pay4_apply x w1 w2 w3 r d).trans (Finset.sum_congr rfl fun j _ => ?_)
  rw [hg, hu]
  exact congrArg (fun b : EReal => mid X G U row e j * b) (h3 j)

theorem pay5_apply (i : S256x2048.Idx) : (k0_pay5 (F := Ideal)) i = (0 : EReal) := Ideal.ofBits_zero_f32

end Cert.Kernel2Ideal.Ffn
-- ==== Proof.FfnValue.lean ====
/- What the expert kernel's result array ends holding: every block a grid point writes back is its 256 rows of the result. -/
module

public import proofs.«01_k».proof.Proof.FfnFrame
public import proofs.«01_k».proof.Proof.FfnPay
public import Idealize.ShloMosaic.Lib.Pipeline.ValueKit.Geometry

@[expose] public section

set_option maxRecDepth 16384
set_option Elab.async false

noncomputable section

namespace Cert.Kernel2Ideal.Ffn

open Idealize.ShloMosaic Idealize.ShloMosaic.TcCoe Idealize.SL.Sem
open Cert.Kernel2Ideal Cert.Kernel2Ideal.Gen
open Idealize.ShloMosaic.Pipeline (Dat)

attribute [local irreducible] adm tabs V

/-- The output's block index is the point's number. -/
theorem ix_4 {F : FTy → Type} [FloatOps F] (a : (pcfg0 (F := F)).Adm) (t : Fin (cfg0 a).N) : cc0_transform_4 (grid0.coords t) = ![t.val, 0] := by
  have hN : t.val < 164 := lt_of_lt_of_eq t.isLt N_0
  show ![(BitVec.ofNat 32 ((grid0.coords t) 0).val).toNat, 0] = _
  rw [coords_val, BitVec.toNat_ofNat, Nat.mod_eq_of_lt (by omega)]

/-- Every point writes its block back. -/
theorem flush4 {F : FTy → Type} [FloatOps F] (a : (pcfg0 (F := F)).Adm) (t : Fin (cfg0 a).N) : ((cfg0 a).win (4 : Fin 5)).flush t = true := by
  have hN : (cfg0 a).N = 164 := N_0
  have h : t.val + 1 = (cfg0 a).N ∨ ∃ h : t.val + 1 < (cfg0 a).N, ((cfg0 a).win (4 : Fin 5)).index ⟨t.val + 1, h⟩ ≠ ((cfg0 a).win (4 : Fin 5)).index t := by
    by_cases hl : t.val + 1 = (cfg0 a).N
    · exact .inl hl
    · have h' : t.val + 1 < (cfg0 a).N := lt_of_le_of_ne t.isLt hl
      refine .inr ⟨h', fun he => ?_⟩
      have e1 : cc0_transform_4 (grid0.coords ⟨t.val + 1, h'⟩) 0 = cc0_transform_4 (grid0.coords t) 0 := congrFun he (0 : Fin 2)
      rw [ix_4 a ⟨t.val + 1, h'⟩, ix_4 a t] at e1
      exact absurd e1 (Nat.succ_ne_self _)
  have hf : ((cfg0 a).win (4 : Fin 5)).flush t = (true && (t.val + 1 = (cfg0 a).N || decide (∃ h : t.val + 1 < (cfg0 a).N, ((cfg0 a).win (4 : Fin 5)).index ⟨t.val + 1, h⟩ ≠ ((cfg0 a).win (4 : Fin 5)).index t))) := rfl
  rw [hf]
  simpa using h

/-- Where the output's block places an element. -/
theorem place4 {F : FTy → Type} [FloatOps F] (a : (pcfg0 (F := F)).Adm) (t : Fin (cfg0 a).N) (r : Fin 256) (d : Fin 2048) (hr : t.val * 256 + r.val < 41984) :
    (((cfg0 a).win (4 : Fin 5)).blk t).view.emb (ValueIdx.ix2 r d : S256x2048.Idx) = (ValueIdx.ix2 (⟨t.val * 256 + r.val, hr⟩ : Fin 41984) d : S41984x2048.Idx) := by
  refine funext fun x => Fin.ext ((emb4 a t (ValueIdx.ix2 r d) x).trans ?_)
  rw [ix_4 a t]
  match x with
  | ⟨0, _⟩ => show t.val * 256 + 1 * r.val = t.val * 256 + r.val; omega
  | ⟨1, _⟩ => show 0 * 2048 + 1 * d.val = d.val; omega

/-- The blocks cover the array. -/
theorem cover4 {F : FTy → Type} [FloatOps F] (a : (pcfg0 (F := F)).Adm) (i : S41984x2048.Idx) :
    ∃ t : Fin (cfg0 a).N, ((cfg0 a).win (4 : Fin 5)).flush t = true ∧ i ∈ (((cfg0 a).win (4 : Fin 5)).blk t).view.set := by
  have hN : (cfg0 a).N = 164 := N_0
  have h0 : (i 0).val < 41984 := (i 0).isLt
  obtain ⟨t, ht⟩ : ∃ t : Fin (cfg0 a).N, t.val = (i 0).val / 256 := ⟨⟨(i 0).val / 256, by rw [hN]; omega⟩, rfl⟩
  refine ⟨t, flush4 a t, ?_⟩
  have hr : t.val * 256 + (i 0).val % 256 < 41984 := by omega
  have hp := place4 a t (⟨(i 0).val % 256, by omega⟩ : Fin 256) (i 1) hr
  have he : (ValueIdx.ix2 (⟨t.val * 256 + (i 0).val % 256, hr⟩ : Fin 41984) (i 1) : S41984x2048.Idx) = i := by
    refine Eq.trans ?_ (ValueIdx.eq_ix2 i).symm
    exact congrArg (fun r : Fin 41984 => (ValueIdx.ix2 r (i 1) : S41984x2048.Idx)) (Fin.ext (by show t.val * 256 + (i 0).val % 256 = (i 0).val; omega))
  have hmem := View.emb_mem_set (((cfg0 a).win (4 : Fin 5)).blk t).view (ValueIdx.ix2 (⟨(i 0).val % 256, by omega⟩ : Fin 256) (i 1) : S256x2048.Idx)
  rw [hp.trans he] at hmem
  exact hmem

variable (m : (ℓ : Loc nD τ sig) → Buf (Elt Ideal) ℓ) (ρ : Dev nD → PrngReg) (hpos : Pos m)

/-- The result for the arguments in memory. -/
def res (c : Dev nD) : Vec Ideal S41984x2048 .f32 :=
  outArr (m ((c : Thread nD τ).loc main_arg1)) (m ((c : Thread nD τ).loc main_arg2)) (m ((c : Thread nD τ).loc main_arg3)) (m ((c : Thread nD τ).loc main_arg4)) (E0 m)

/-- What a point leaves, element by element. -/
theorem out_value (c : Dev nD) (t : Fin (cfgA m hpos).N) (r : Fin 256) (d : Fin 2048) (hr : t.val * 256 + r.val < 41984) :
    outAt m hpos c t (ValueIdx.ix2 r d) = res m c (ValueIdx.ix2 (⟨t.val * 256 + r.val, hr⟩ : Fin 41984) d) := by
  have hd : (t.val * 256 + r.val) / 256 = t.val := by have := r.isLt; omega
  show _ = outRow _ _ _ _ (E0 m) ⟨t.val * 256 + r.val, hr⟩ d
  unfold outRow
  rw [hd]
  by_cases ht : t.val < nt m
  · rw [if_pos ((lt_nt m hpos t.val).mpr ht), outAt_in m hpos c t ht]
    exact pay4_rows (iblk m hpos c 0 t) (w1At m hpos c t) (w2At m hpos c t) (w3At m hpos c t) _ _ _ _ r _ (who (E0 m) t.val) d
      (fun k => iblk0_apply m hpos c t ht r k hr)
      (fun k j => (pay1_apply (iblk m hpos c 1 t) k j).trans (iblk1_apply m hpos c t 0 0 k j))
      (fun k j => (pay2_apply (iblk m hpos c 2 t) k j).trans (iblk2_apply m hpos c t 0 0 k j))
      (fun j => (pay3_apply (iblk m hpos c 3 t) j d).trans (iblk3_apply m hpos c t 0 0 j d))
  · rw [if_neg (fun h => ht ((lt_nt m hpos t.val).mp h)), outAt_out m hpos c t ht, pay5_apply]

set_option backward.isDefEq.respectTransparency.types false in
/-- THE RESULT'S ARRAY. -/
theorem final (c : Dev nD) : (dats m hpos 0 c).arrAt (4 : Fin 5) (cfgA m hpos).N = res m c := by
  refine (dats m hpos 0 c).arrAt_eq_of_emb (4 : Fin 5) (res m c) (fun t hf y => ?_) (cover4 (adm m hpos))
  obtain ⟨r, d, rfl⟩ : ∃ (r : Fin 256) (d : Fin 2048), y = (ValueIdx.ix2 r d : S256x2048.Idx) := ⟨y 0, y 1, ValueIdx.eq_ix2 (y : S256x2048.Idx)⟩
  have hr : t.val * 256 + r.val < 41984 := by have := lt_of_lt_of_eq t.isLt (N_A m hpos); have := r.isLt; omega
  refine Eq.trans ?_ (congrArg (res m c) (place4 (adm m hpos) t r d hr).symm)
  refine Eq.trans ?_ (out_value m hpos c t r d hr)
  exact congrFun (after0_4 m hpos c t) (ValueIdx.ix2 r d)

/-- THE EXPERT KERNEL'S RUN, READ: the result, and the arguments unchanged. -/
theorem run_value (hpos : Pos m) : θ_run defs (onTc (τ := τ) (main (F := Ideal))) ⟨m, fun _ => 0, ρ⟩ (fun r => ∀ c : Dev nD,
      r.2.mem ((c.tc : Thread nD τ).loc main_v26) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1 c).1.trans (final m hpos c), (h.1 c).2⟩) (run_arr m ρ hpos)

end Cert.Kernel2Ideal.Ffn
-- ==== Proof.FfnRef.lean ====
/- What the experts' reference computes: of the 32 experts' results for a row the one its block belongs to is kept, so the
   sum over the experts is that expert's row, or zero past the last block. -/
module

public import proofs.«01_k».proof.Proof.FfnMath
public import proofs.«01_k».proof.Proof.Gen.Reference2Ideal.Read
public import Idealize.ShloMosaic.Lib.Routing.Words

@[expose] public section

set_option maxRecDepth 16384
set_option Elab.async false

noncomputable section

namespace Cert.Reference2Ideal.Ffn

open Idealize.ShloMosaic Idealize.ShloMosaic.TcCoe
open Cert.Reference2Ideal Cert.Reference2Ideal.Gen Cert.Reference2Ideal.Read
open Cert.Kernel2Ideal.Ffn (ends hits hits_le hits_le_31 sge_iff slt_iff proj mid rowFf who outRow outArr)

variable (x0 : FVec Ideal S1x128 .f32) (x1 : FVec Ideal S41984x2048 .f32) (x2 x3 : FVec Ideal S1x32x2048x512 .f32) (x4 : FVec Ideal S1x32x512x2048 .f32)

/-- Where each expert's blocks end. -/
theorem ends_val : val_main_v6 (F := Ideal) x0 = ends x0 := rfl

/-- A row's block. -/
theorem block_val (i : S41984.Idx) : val_main_v9 (F := Ideal) i = BitVec.ofNat 32 ((i 0).val / 256) := by
  rw [val_main_v9_apply, val_main_v7_apply, val_main_v8_apply, val_main_c_1_apply]
  have h : (i 0).val < 41984 := (i 0).isLt
  exact Routing.divsi_word .host (a := (i 0).val) (b := 256) (by omega) (by decide) (by decide)

theorem lt_blocks (r : Fin 41984) : r.val / 256 < 2 ^ 31 := by have := r.isLt; omega

/-- How many experts end at or before a row's block. -/
theorem count_val (r : Fin 41984) : val_main_v16 (F := Ideal) x0 (ValueIdx.ix1 r) = BitVec.ofNat 32 (hits (ends x0) (r.val / 256)) := by
  unfold val_main_v16 val_main_v15
  exact Routing.reduce_count (n := 41984) (m := 32) (by decide) (val_main_v14 (F := Ideal) x0) natLt_1_32 reducesTo_S41984x32_S41984_d1 h_S_ r
    (fun e => ∃ h : e < 32, (ends x0 (ValueIdx.ix1 ⟨e, h⟩)).toInt ≤ ((r.val / 256 : ℕ) : ℤ)) (fun q => by
      rw [val_main_v14_apply, val_main_v12_apply, val_main_v10_apply, block_val, val_main_v13_apply, val_main_v11_apply, ends_val]
      have hE : idx_main_v11 (idx_main_v13 (ValueIdx.ix2 r q)) = ValueIdx.ix1 q := funext fun a => by match a with | ⟨0, _⟩ => rfl
      show IntOp.cmpi .sge (BitVec.ofNat 32 (r.val / 256)) (ends x0 (idx_main_v11 (idx_main_v13 (ValueIdx.ix2 r q)))) = 1#1 ↔ _
      rw [hE, sge_iff _ (lt_blocks r)]
      exact ⟨fun h => ⟨q.isLt, h⟩, fun ⟨_, h⟩ => h⟩)

/-- Whether a row's block lies before the last expert's end. -/
theorem live_val (i : S41984.Idx) : val_main_v26 (F := Ideal) x0 i = 1#1 ↔ (((i 0).val / 256 : ℕ) : ℤ) < (ends x0 (ValueIdx.ix1 31)).toInt := by
  have h : val_main_v25 (F := Ideal) x0 i = ends x0 (ValueIdx.ix1 31) := by
    rw [val_main_v25_apply]
    unfold val_main_v24
    refine (shapeCast_apply (s := S1) (t := S_) (k := ValueIdx.ix1 0) (hk := rfl) ..).trans ?_
    rw [val_main_v23_apply, ends_val]
    exact congrArg (ends x0) (funext fun a => by match a with | ⟨0, _⟩ => rfl)
  have hi : (i 0).val < 41984 := (i 0).isLt
  rw [val_main_v26_apply, block_val, h, slt_iff _ (by omega)]

theorem and_iff (a b : BitVec 1) : IntOp.andi a b = 1#1 ↔ a = 1#1 ∧ b = 1#1 := by revert a b; decide
theorem eq_iff (a b : ℕ) (ha : a < 2 ^ 32) (hb : b < 2 ^ 32) : IntOp.cmpi .eq (BitVec.ofNat 32 a) (BitVec.ofNat 32 b) = 1#1 ↔ a = b := by
  show BitVec.ofBool (BitVec.ofNat 32 a == BitVec.ofNat 32 b) = 1#1 ↔ _
  rw [WordArith.ofBool_eq_one_iff, beq_iff_eq]
  refine ⟨fun h => ?_, fun h => by rw [h]⟩
  have := congrArg BitVec.toNat h
  rwa [BitVec.toNat_ofNat, BitVec.toNat_ofNat, Nat.mod_eq_of_lt ha, Nat.mod_eq_of_lt hb] at this

/-- Which expert's result a row keeps. -/
theorem mine_val (r : Fin 41984) (e : Fin 32) : val_main_v29 (F := Ideal) x0 (ValueIdx.ix2 r e) = 1#1
    ↔ hits (ends x0) (r.val / 256) = e.val ∧ ((r.val / 256 : ℕ) : ℤ) < (ends x0 (ValueIdx.ix1 31)).toInt := by
  have h20 : val_main_v20 (F := Ideal) x0 (ValueIdx.ix2 r e) = BitVec.ofNat 32 (hits (ends x0) (r.val / 256)) := by
    rw [val_main_v20_apply, val_main_v17_apply, ← count_val]
    exact congrArg (val_main_v16 (F := Ideal) x0) (funext fun a => by match a with | ⟨0, _⟩ => rfl)
  have h21 : val_main_v21 (F := Ideal) (ValueIdx.ix2 r e) = BitVec.ofNat 32 e.val := by
    rw [val_main_v21_apply, val_main_v19_apply, val_main_v18_apply]
  rw [val_main_v29_apply, and_iff, val_main_v22_apply, h20, h21,
    eq_iff _ _ (by have := hits_le (ends x0) (r.val / 256); omega) (by have := e.isLt; omega),
    val_main_v28_apply, val_main_v27_apply, live_val]

/-- The weights without their unit axis. -/
theorem w30_apply (w : FVec Ideal S1x32x2048x512 .f32) (j : S32x2048x512.Idx) : val_main_v30 (F := Ideal) w j = w (ValueIdx.ix4 (0 : Fin 1) (j 0) (j 1) (j 2)) := by
  unfold val_main_v30
  refine shapeCast_apply w shapeCasts_S1x32x2048x512_S32x2048x512 j (ValueIdx.ix4 (0 : Fin 1) (j 0) (j 1) (j 2)) ?_
  rw [Shape.rowMajor_val_four, Shape.rowMajor_val_three]
  show ((0 * 32 + (j 0).val) * 2048 + (j 1).val) * 512 + (j 2).val = ((j 0).val * 2048 + (j 1).val) * 512 + (j 2).val
  omega
theorem w36_apply (w : FVec Ideal S1x32x512x2048 .f32) (j : S32x512x2048.Idx) : val_main_v36 (F := Ideal) w j = w (ValueIdx.ix4 (0 : Fin 1) (j 0) (j 1) (j 2)) := by
  unfold val_main_v36
  refine shapeCast_apply w shapeCasts_S1x32x512x2048_S32x512x2048 j (ValueIdx.ix4 (0 : Fin 1) (j 0) (j 1) (j 2)) ?_
  rw [Shape.rowMajor_val_four, Shape.rowMajor_val_three]
  show ((0 * 32 + (j 0).val) * 512 + (j 1).val) * 2048 + (j 2).val = ((j 0).val * 512 + (j 1).val) * 2048 + (j 2).val
  omega

/-- A row through an expert's projection. -/
theorem g_val (i : S41984x32x512.Idx) : val_main_v31 (F := Ideal) x1 x2 i = proj x1 x2 (i 0) (i 1) (i 2) := by
  rw [val_main_v31_apply]
  refine Finset.sum_congr rfl fun k _ => ?_
  rw [w30_apply]
  exact congrArg₂ (fun a b : EReal => a * b) (congrArg x1 (funext fun a => by match a with | ⟨0, _⟩ => rfl | ⟨1, _⟩ => rfl)) rfl
theorem u_val (i : S41984x32x512.Idx) : val_main_v33 (F := Ideal) x1 x3 i = proj x1 x3 (i 0) (i 1) (i 2) := g_val x1 x3 i

/-- The gated product. -/
theorem mid_val (i : S41984x32x512.Idx) : val_main_v35 (F := Ideal) x1 x2 x3 i = mid x1 x2 x3 (i 0) (i 1) (i 2) := by
  rw [val_main_v35_apply, val_main_v34_apply, val_main_call2_v5_apply, val_main_call2_v4_apply, val_main_call2_cst_0_apply, val_main_call2_v3_apply,
    val_main_call2_v2_apply, val_main_call2_cst_apply, val_main_call2_v1_apply, val_main_call2_v0_apply, g_val, u_val]
  unfold mid
  generalize proj x1 x2 (i 0) (i 1) (i 2) = g
  show g * Ideal.div (Ideal.ofBits .f32 0x3F800000#32) (Ideal.ofBits .f32 0x3F800000#32 + Ideal.exp (-g)) * proj x1 x3 (i 0) (i 1) (i 2)
    = g * Ideal.logistic g * proj x1 x3 (i 0) (i 1) (i 2)
  rw [Ideal.ofBits_one_f32]
  rfl

/-- A row through an expert. -/
theorem ff_val (i : S41984x32x2048.Idx) : val_main_v38 (F := Ideal) x1 x2 x3 x4 i = rowFf x1 x2 x3 x4 (i 0) (i 1) (i 2) := by
  rw [val_main_v38_apply, val_main_v37_apply]
  refine Finset.sum_congr rfl fun k _ => ?_
  rw [w36_apply, mid_val]
  exact mul_comm (G := EReal) _ _

/-- One term of the sum over the experts. -/
theorem term_val (r : Fin 41984) (d : Fin 2048) (e : Fin 32) : val_main_v40 (F := Ideal) x0 x1 x2 x3 x4 (idx_main_v41 (ValueIdx.ix2 r d) e)
    = if hits (ends x0) (r.val / 256) = e.val ∧ ((r.val / 256 : ℕ) : ℤ) < (ends x0 (ValueIdx.ix1 31)).toInt then rowFf x1 x2 x3 x4 r e d else 0 := by
  have hm : val_main_call3_v1 (F := Ideal) x0 (idx_main_v41 (ValueIdx.ix2 r d) e) = val_main_v29 (F := Ideal) x0 (ValueIdx.ix2 r e) := by
    rw [val_main_call3_v1_apply, val_main_v39_apply]
    exact congrArg (val_main_v29 (F := Ideal) x0) (funext fun a => by match a with | ⟨0, _⟩ => rfl | ⟨1, _⟩ => rfl)
  have hz : val_main_call3_v2 (F := Ideal) (idx_main_v41 (ValueIdx.ix2 r d) e) = (0 : EReal) := by
    rw [val_main_call3_v2_apply, val_main_call3_v0_apply, val_main_cst_apply]
    exact Ideal.ofBits_zero_f32
  have hf : val_main_v38 (F := Ideal) x1 x2 x3 x4 (idx_main_v41 (ValueIdx.ix2 r d) e) = rowFf x1 x2 x3 x4 r e d := ff_val x1 x2 x3 x4 _
  rw [val_main_v40_apply, hm, hz, hf]
  unfold Scalar.select
  exact if_congr (mine_val x0 r e) rfl rfl

/-- THE RESULT. -/
theorem result_val : val_main_v41 (F := Ideal) x0 x1 x2 x3 x4 = outArr x1 x2 x3 x4 (ends x0) := by
  funext i
  obtain ⟨r, d, rfl⟩ : ∃ (r : Fin 41984) (d : Fin 2048), i = ValueIdx.ix2 r d := ⟨i 0, i 1, ValueIdx.eq_ix2 i⟩
  rw [val_main_v41_apply, val_main_cst_3_apply]
  show (Ideal.ofBits .f32 0x00000000#32 : EReal) + _ = outRow x1 x2 x3 x4 (ends x0) r d
  rw [Ideal.ofBits_zero_f32, zero_add]
  refine (Finset.sum_congr rfl fun e _ => term_val x0 x1 x2 x3 x4 r d e).trans ?_
  unfold outRow
  by_cases h : ((r.val / 256 : ℕ) : ℤ) < (ends x0 (ValueIdx.ix1 31)).toInt
  · have hl := hits_le_31 (ends x0) (r.val / 256) h
    have hw : (who (ends x0) (r.val / 256)).val = hits (ends x0) (r.val / 256) := Nat.min_eq_left hl
    rw [if_pos h, Finset.sum_eq_single (who (ends x0) (r.val / 256)) (fun e _ hne => if_neg fun hc => hne (Fin.ext (by rw [hw]; exact hc.1.symm)))
      (fun hc => absurd (Finset.mem_univ _) hc), if_pos ⟨hw.symm, h⟩]
  · rw [if_neg h]
    exact Finset.sum_eq_zero fun e _ => if_neg fun hc => h hc.2

end Cert.Reference2Ideal.Ffn
-- ==== Proof.FfnText.lean ====
/- The expert kernel's text at machine floats is its ideal reading's text: the bodies, the launches, the tables of both and the
   two main programs are the same. So the frame proved of the one is the other's. -/
module

public import proofs.«01_k».proof.Proof.Gen.Kernel2
public import proofs.«01_k».proof.Proof.FfnFrame
public import proofs.«01_k».proof.Defs
public import proofs.«01_k».proof.Proof.Gen.Pre_some_group

@[expose] public section
set_option maxRecDepth 100000
noncomputable section
namespace Cert.Proof
open Idealize.ShloMosaic Idealize.SL.Sem Cert.Kernel

/-- The two texts have the same body, -/
theorem bodies_eq2 : @Cert.Kernel2.defs₀ Bits _ Cert.Kernel2.Gen.facts = @Cert.Kernel2Ideal.defs₀ Bits _ Cert.Kernel2Ideal.Gen.facts := by
  refine congrArg Defs.onTc (funext fun l => funext fun x => ?_)
  match l, x with
  | 0, (t, s) => rfl

/-- the same launch, -/
theorem pcfgs_eq2 : @Cert.Kernel2.pcfgs Bits _ Cert.Kernel2.Gen.facts = @Cert.Kernel2Ideal.pcfgs Bits _ Cert.Kernel2Ideal.Gen.facts := rfl

set_option maxHeartbeats 2000000 in
/-- hence the same table, -/
theorem defs_eq2 : @Cert.Kernel2.defs Bits _ Cert.Kernel2.Gen.facts = @Cert.Kernel2Ideal.defs Bits _ Cert.Kernel2Ideal.Gen.facts :=
  congrArg (Pipeline.defs (@Cert.Kernel2Ideal.pcfgs Bits _ Cert.Kernel2Ideal.Gen.facts)) bodies_eq2

set_option maxHeartbeats 2000000 in
/-- and the same main program. -/
theorem main_eq2 : @Cert.Kernel2.main Bits _ Cert.Kernel2.Gen.facts = @Cert.Kernel2Ideal.main Bits _ Cert.Kernel2Ideal.Gen.facts := rfl

set_option maxHeartbeats 2000000 in
/-- The frame at machine floats. -/
theorem frame_kernel2 : Cert.quiescent_Kernel2 (hKernel2 := Cert.Kernel2.Gen.facts) (hPre_some_group := Cert.Pre_some_group.Gen.facts) := fun m ρ hpre => by
  have h := Cert.Kernel2Ideal.Ffn.frame (F := Bits) m ρ (Cert.Kernel2Ideal.Ffn.pos_of_pre (F := Bits) m hpre)
  rw [← defs_eq2, ← main_eq2] at h
  exact h

end Cert.Proof
-- ==== Proof.lean ====
/- The claims. The recurrence kernel runs and leaves its arguments and its semaphores as they were, at machine floats and over
   the extended reals; so does its reference; and over the extended reals, from the same arguments, the kernel's three results
   (the gated states, the last inputs of the convolution, the last states) are the reference's. The same of the expert kernel
   and its reference, from a sorted buffer in which some block of rows holds tokens: the kernel's result, every row through
   its expert, is the reference's. -/
module

public import proofs.«01_k».proof.Proof.Gen.Kernel2
public import proofs.«01_k».proof.Proof.Gen.Kernel2Ideal
public import proofs.«01_k».proof.Proof.Gen.Kernel2.Launch
public import proofs.«01_k».proof.Proof.Gen.Kernel2Ideal.Launch
public import proofs.«01_k».proof.Proof.Gen.Kernel2Ideal.Skeleton
public import proofs.«01_k».proof.Proof.Gen.Kernel2Ideal.Flash
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_some_group
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Step
public import proofs.«01_k».proof.Proof.Final
public import proofs.«01_k».proof.Proof.RefValue
public import proofs.«01_k».proof.Proof.FfnValue
public import proofs.«01_k».proof.Proof.FfnRef
public import proofs.«01_k».proof.Proof.FfnText
public import Idealize.ShloMosaic.Adequacy
public import Idealize.ShloMosaic.Init

@[expose] public section

set_option maxRecDepth 100000

noncomputable section

namespace Cert.Proof

open Idealize.ShloMosaic Idealize.SL.Sem Cert.Kernel

/-- Memories that agree on the arguments have the same arguments. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Rg.args m' c = Cert.KernelIdeal.Rg.args m c := by
  obtain ⟨h0, h1, h2, h3, h4, h5, h6, h7⟩ := h
  unfold Cert.ReferenceIdeal.Rg.args Cert.KernelIdeal.Rg.args
  rw [h0, h1, h2, h3, h4, h5, h6, h7]

/-- The kernel's text and its ideal reading's are the same body, -/
theorem bodies_eq : @Cert.Kernel.defs₀ Bits _ Cert.Kernel.Gen.facts = @Cert.KernelIdeal.defs₀ Bits _ Cert.KernelIdeal.Gen.facts := by
  refine congrArg Defs.onTc (funext fun l => funext fun x => ?_)
  match l, x with
  | 0, (t, s) => rfl

/-- hence the same table. -/
theorem defs_eq : @Cert.Kernel.defs Bits _ Cert.Kernel.Gen.facts = @Cert.KernelIdeal.defs Bits _ Cert.KernelIdeal.Gen.facts :=
  congrArg (Pipeline.defs (@Cert.KernelIdeal.pcfgs Bits Cert.KernelIdeal.Gen.facts)) bodies_eq

theorem frame_kernel : Cert.quiescent_Kernel (hKernel := Cert.Kernel.Gen.facts) := fun m ρ _ => by
  have h := Cert.KernelIdeal.Rg.frame (F := Bits) m ρ
  rw [← defs_eq] at h
  exact h

theorem frame_ideal : Cert.quiescent_KernelIdeal (hKernelIdeal := Cert.KernelIdeal.Gen.facts) := fun m ρ _ =>
  Cert.KernelIdeal.Rg.frame (F := Ideal) m ρ

theorem frame_reference : Cert.quiescent_ReferenceIdeal (hReferenceIdeal := Cert.ReferenceIdeal.Gen.facts) := fun m ρ _ =>
  (θ_run Cert.ReferenceIdeal.defs _ _).mono (fun r h => ⟨fun c => (h c).2.2.2,
    Idealize.ShloMosaic.sem_eq_zero_of_no_sems (by decide) r.2⟩) (Cert.ReferenceIdeal.Value.run (F := Ideal) m ρ)

/-- THE EQUATION: both runs end with the results the mathematics gives for the arguments. -/
theorem algebraic : Cert.algebraic_KernelIdeal_ReferenceIdeal (hKernelIdeal := Cert.KernelIdeal.Gen.facts)
    (hReferenceIdeal := Cert.ReferenceIdeal.Gen.facts) := fun m ρ m' ρ' _ hm =>
  ⟨fun c => Cert.KernelIdeal.Rg.yArr (Cert.KernelIdeal.Rg.args m c), fun c => Cert.KernelIdeal.Rg.cArr (Cert.KernelIdeal.Rg.args m c),
    fun c => Cert.KernelIdeal.Rg.hArr (Cert.KernelIdeal.Rg.args m c),
    (θ_run Cert.KernelIdeal.defs _ _).mono (fun _ h c => ⟨(h c).1.1, (h c).1.2.1, (h c).1.2.2, (h c).2⟩) (Cert.KernelIdeal.Rg.run_value m ρ),
    (θ_run Cert.ReferenceIdeal.defs _ _).mono (fun _ h c =>
      have e := args_eq m m' c (hm c)
      ⟨(h c).1.trans ((Cert.ReferenceIdeal.Rg.res_y m' c).trans (congrArg Cert.KernelIdeal.Rg.yArr e)),
        (h c).2.1.trans ((Cert.ReferenceIdeal.Rg.res_c m' c _).trans (congrArg Cert.KernelIdeal.Rg.cArr e)),
        (h c).2.2.1.trans ((Cert.ReferenceIdeal.Rg.res_h m' c).trans (congrArg Cert.KernelIdeal.Rg.hArr e)),
        (h c).2.2.2⟩)
      (Cert.ReferenceIdeal.Trips.run_iter m' ρ' (fun c => Cert.ReferenceIdeal.Rg.states m' c) (fun _ => rfl) (fun _ _ => rfl))⟩

/-! ## The expert kernel -/

theorem frame_ideal2 : Cert.quiescent_Kernel2Ideal (hKernel2Ideal := Cert.Kernel2Ideal.Gen.facts) (hPre_some_group := Cert.Pre_some_group.Gen.facts) := fun m ρ hpre =>
  Cert.Kernel2Ideal.Ffn.frame (F := Ideal) m ρ (Cert.Kernel2Ideal.Ffn.pos_of_pre (F := Ideal) m hpre)

theorem frame_reference2 : Cert.quiescent_Reference2Ideal (hReference2Ideal := Cert.Reference2Ideal.Gen.facts) (hPre_some_group := Cert.Pre_some_group.Gen.facts) := fun m ρ _ =>
  (θ_run Cert.Reference2Ideal.defs _ _).mono (fun r h => ⟨fun c => (h c).2,
    Idealize.ShloMosaic.sem_eq_zero_of_no_sems (by decide) r.2⟩) (Cert.Reference2Ideal.Value.run (F := Ideal) m ρ)

/-- The reference's result, from memories that agree on the arguments, is the kernel's. -/
theorem res_eq2 (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ)
    (c : Dev Cert.Kernel2Ideal.nD)
    (h : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) :
    Cert.Reference2Ideal.Value.res_main_v41 m' c = Cert.Kernel2Ideal.Ffn.res m c := by
  obtain ⟨h0, h1, h2, h3, h4⟩ := h
  rw [Cert.Reference2Ideal.Read.val_main_v41_eq, h0, h1, h2, h3, h4]
  refine (Cert.Reference2Ideal.Ffn.result_val _ _ _ _ _).trans ?_
  rw [Subsingleton.elim c 0]
  rfl

/-- THE EXPERTS' EQUATION: both runs end with every row through its expert. -/
theorem algebraic2 : Cert.algebraic_Kernel2Ideal_Reference2Ideal (hKernel2Ideal := Cert.Kernel2Ideal.Gen.facts)
    (hReference2Ideal := Cert.Reference2Ideal.Gen.facts) (hPre_some_group := Cert.Pre_some_group.Gen.facts) := fun m ρ m' ρ' hpre hm =>
  ⟨fun c => Cert.Kernel2Ideal.Ffn.res m c,
    Cert.Kernel2Ideal.Ffn.run_value m ρ (Cert.Kernel2Ideal.Ffn.pos_of_pre (F := Ideal) m hpre),
    (θ_run Cert.Reference2Ideal.defs _ _).mono (fun _ h c => ⟨(h c).1.trans (res_eq2 m m' c (hm c)), (h c).2⟩)
      (Cert.Reference2Ideal.Value.run (F := Ideal) m' ρ')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Pre_some_group.Gen.facts,
  frame_kernel, frame_ideal, frame_reference, frame_kernel2, frame_ideal2, frame_reference2, trivial, algebraic, trivial, algebraic2⟩

end Cert.Proof

end
